-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counted [hPre_counted : Cert.Pre_counted.Facts] (m : (ℓ : Loc Cert.KernelIdeal.nD Cert.KernelIdeal.τ Cert.KernelIdeal.sig) → Buf (Elt Ideal) ℓ) : Prop :=
  ∀ c : Dev Cert.KernelIdeal.nD,
    (Cert.Pre_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counted [hPre_counted : Cert.Pre_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_counted [hKernelIdeal : Cert.KernelIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_counted [hReferenceIdeal : Cert.ReferenceIdeal.Facts] [hPre_counted : Cert.Pre_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_counted [hKernelIdeal : Cert.KernelIdeal.Facts] [hReferenceIdeal : Cert.ReferenceIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)) (v6 : (c : Dev Cert.Kernel4Ideal.nD) → Buf (Elt Ideal) ((c.tc : Thread Cert.Kernel4Ideal.nD Cert.Kernel4Ideal.τ).loc Cert.Kernel4Ideal.main_v39_6)) (v7 : (c : Dev Cert.Kernel4Ideal.nD) → Buf (Elt Ideal) ((c.tc : Thread Cert.Kernel4Ideal.nD Cert.Kernel4Ideal.τ).loc Cert.Kernel4Ideal.main_v39_7)) (v8 : (c : Dev Cert.Kernel4Ideal.nD) → Buf (Elt Ideal) ((c.tc : Thread Cert.Kernel4Ideal.nD Cert.Kernel4Ideal.τ).loc Cert.Kernel4Ideal.main_v39_8)) (v9 : (c : Dev Cert.Kernel4Ideal.nD) → Buf (Elt Ideal) ((c.tc : Thread Cert.Kernel4Ideal.nD Cert.Kernel4Ideal.τ).loc Cert.Kernel4Ideal.main_v39_9)) (v10 : (c : Dev Cert.Kernel4Ideal.nD) → Buf (Elt Ideal) ((c.tc : Thread Cert.Kernel4Ideal.nD Cert.Kernel4Ideal.τ).loc Cert.Kernel4Ideal.main_v39_10)) (v11 : (c : Dev Cert.Kernel4Ideal.nD) → Buf (Elt Ideal) ((c.tc : Thread Cert.Kernel4Ideal.nD Cert.Kernel4Ideal.τ).loc Cert.Kernel4Ideal.main_v39_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_v39_6) = v6 c
          ∧ r.2.mem ((c.tc : Thread Cert.Kernel4Ideal.nD Cert.Kernel4Ideal.τ).loc Cert.Kernel4Ideal.main_v39_7) = v7 c
          ∧ r.2.mem ((c.tc : Thread Cert.Kernel4Ideal.nD Cert.Kernel4Ideal.τ).loc Cert.Kernel4Ideal.main_v39_8) = v8 c
          ∧ r.2.mem ((c.tc : Thread Cert.Kernel4Ideal.nD Cert.Kernel4Ideal.τ).loc Cert.Kernel4Ideal.main_v39_9) = v9 c
          ∧ r.2.mem ((c.tc : Thread Cert.Kernel4Ideal.nD Cert.Kernel4Ideal.τ).loc Cert.Kernel4Ideal.main_v39_10) = v10 c
          ∧ r.2.mem ((c.tc : Thread Cert.Kernel4Ideal.nD Cert.Kernel4Ideal.τ).loc Cert.Kernel4Ideal.main_v39_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v109) = v1 c
          ∧ r.2.mem ((c.tc : Thread Cert.Reference4Ideal.nD Cert.Reference4Ideal.τ).loc Cert.Reference4Ideal.main_v111) = v2 c
          ∧ r.2.mem ((c.tc : Thread Cert.Reference4Ideal.nD Cert.Reference4Ideal.τ).loc Cert.Reference4Ideal.main_v133) = v3 c
          ∧ r.2.mem ((c.tc : Thread Cert.Reference4Ideal.nD Cert.Reference4Ideal.τ).loc Cert.Reference4Ideal.main_v136) = v4 c
          ∧ r.2.mem ((c.tc : Thread Cert.Reference4Ideal.nD Cert.Reference4Ideal.τ).loc Cert.Reference4Ideal.main_v139) = v5 c
          ∧ r.2.mem ((c.tc : Thread Cert.Reference4Ideal.nD Cert.Reference4Ideal.τ).loc Cert.Reference4Ideal.main_v163) = v6 c
          ∧ r.2.mem ((c.tc : Thread Cert.Reference4Ideal.nD Cert.Reference4Ideal.τ).loc Cert.Reference4Ideal.main_v185) = v7 c
          ∧ r.2.mem ((c.tc : Thread Cert.Reference4Ideal.nD Cert.Reference4Ideal.τ).loc Cert.Reference4Ideal.main_v186) = v8 c
          ∧ r.2.mem ((c.tc : Thread Cert.Reference4Ideal.nD Cert.Reference4Ideal.τ).loc Cert.Reference4Ideal.main_v210) = v9 c
          ∧ r.2.mem ((c.tc : Thread Cert.Reference4Ideal.nD Cert.Reference4Ideal.τ).loc Cert.Reference4Ideal.main_v232) = v10 c
          ∧ r.2.mem ((c.tc : Thread Cert.Reference4Ideal.nD Cert.Reference4Ideal.τ).loc Cert.Reference4Ideal.main_v233) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_counted : Cert.Pre_counted.Facts),
    quiescent_Kernel (hKernel := hKernel)
    ∧ quiescent_KernelIdeal (hKernelIdeal := hKernelIdeal)
    ∧ quiescent_KernelIdeal_pre_counted (hKernelIdeal := hKernelIdeal) (hPre_counted := hPre_counted)
    ∧ quiescent_ReferenceIdeal (hReferenceIdeal := hReferenceIdeal)
    ∧ quiescent_ReferenceIdeal_pre_counted (hReferenceIdeal := hReferenceIdeal) (hPre_counted := hPre_counted)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_counted (hKernelIdeal := hKernelIdeal) (hReferenceIdeal := hReferenceIdeal) (hPre_counted := hPre_counted)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_counted.lean ====
abbrev S32x64 : Shape := ⟨2, ![32, 64]⟩
abbrev S16384x1024 : Shape := ⟨2, ![16384, 1024]⟩
abbrev S64x16384 : Shape := ⟨2, ![64, 16384]⟩
abbrev S8x6x1024 : Shape := ⟨3, ![8, 6, 1024]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1x1024 : Shape := ⟨2, ![1, 1024]⟩
abbrev S_ : Shape := ⟨0, ![]⟩
abbrev S64x32x512 : Shape := ⟨3, ![64, 32, 512]⟩
abbrev S64x32 : Shape := ⟨2, ![64, 32]⟩

class Facts : Prop where
  bcast_S_S64x16384 : S_.BroadcastsInDim S64x16384 (![] : Fin 0 → Fin S64x16384.rank)
  natLt_1_32 : 1 < 32
  shapeCasts_S64x16384_S64x32x512 : S64x16384.ShapeCasts S64x32x512
  reducesTo_S64x32x512_S64x32_d2 : S64x32x512.ReducesTo [2] S64x32
  h_S_ : 0 < S_.numel
  reducesTo_S64x16384_S_d0_1 : S64x16384.ReducesTo [0, 1] S_
  transposes_S64x32_S32x64_1_0 : S64x32.Transposes [1, 0] S32x64
  reducesTo_S32x64_S_d0_1 : S32x64.ReducesTo [0, 1] S_

variable [Facts]

def fn {F : FTy → Type} [FloatOps F] (main_arg0 : IVec S32x64 32) (main_arg1 : FVec F S16384x1024 .bf16) (main_arg2 : FVec F S64x16384 .f32) (main_arg3 : FVec F S16384x1024 .f32) (main_arg4 : FVec F S8x6x1024 .f32) (main_arg5 : FVec F S64x1024x512 .bf16) (main_arg6 : FVec F S64x256x1024 .bf16) (main_arg7 : FVec F S1024x512 .bf16) (main_arg8 : FVec F S256x1024 .bf16) (main_arg9 : FVec F S1x1024 .f32) (main_arg10 : FVec F S1x1024 .f32) : IVec S_ 1 :=
  let main_cst : FVec F S_ .f32 := constant S_ .f32 0x00000000#32
  let main_v0 : FVec F S64x16384 .f32 := broadcastInDim S64x16384 ![] bcast_S_S64x16384 main_cst
  let main_v1 : IVec S64x16384 1 := cmpf .ogt main_arg2 main_v0
  let main_v2 : IVec S64x16384 32 := (extui 32 · natLt_1_32) main_v1
  let main_v3 : IVec S64x32x512 32 := shapeCast S64x32x512 main_v2 shapeCasts_S64x16384_S64x32x512
  let main_c : IVec S_ 32 := constantI S_ 32 0#32
  let main_v4 : IVec S64x32 32 := (fun x v => Host.reduce IntOp.addi x v reducesTo_S64x32x512_S64x32_d2 h_S_) main_v3 main_c
  let main_cst_0 : FVec F S_ .f32 := constant S_ .f32 0x00000000#32
  let main_v5 : FVec F S64x16384 .f32 := broadcastInDim S64x16384 ![] bcast_S_S64x16384 main_cst_0
  let main_v6 : IVec S64x16384 1 := cmpf .oge main_arg2 main_v5
  let main_c_1 : IVec S_ 1 := constantI S_ 1 1#1
  let main_v7 : IVec S_ 1 := (fun x v => Host.reduce IntOp.andi x v reducesTo_S64x16384_S_d0_1 h_S_) main_v6 main_c_1
  let main_v8 : IVec S32x64 32 := (transpose S32x64 [1, 0] · transposes_S64x32_S32x64_1_0) main_v4
  let main_v9 : IVec S32x64 1 := cmpi .eq main_arg0 main_v8
  let main_c_2 : IVec S_ 1 := constantI S_ 1 1#1
  let main_v10 : IVec S_ 1 := (fun x v => Host.reduce IntOp.andi x v reducesTo_S32x64_S_d0_1 h_S_) main_v9 main_c_2
  let main_v11 : IVec S_ 1 := andi main_v7 main_v10
  main_v11
-- ==== Kernel.lean ====
abbrev S32x64 : Shape := ⟨2, ![32, 64]⟩
abbrev S16384x1024 : Shape := ⟨2, ![16384, 1024]⟩
abbrev S64x16384 : Shape := ⟨2, ![64, 16384]⟩
abbrev S8x6x1024 : Shape := ⟨3, ![8, 6, 1024]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2048x1024 : Shape := ⟨2, ![2048, 1024]⟩
abbrev S64x2048 : Shape := ⟨2, ![64, 2048]⟩
abbrev S512x1024 : Shape := ⟨2, ![512, 1024]⟩
abbrev S1x6x1024 : Shape := ⟨3, ![1, 6, 1024]⟩
abbrev S4x1024x512 : Shape := ⟨3, ![4, 1024, 512]⟩
abbrev S4x256x1024 : Shape := ⟨3, ![4, 256, 1024]⟩
abbrev S64x512 : Shape := ⟨2, ![64, 512]⟩
abbrev S1x1 : Shape := ⟨2, ![1, 1]⟩
abbrev S1x2048 : Shape := ⟨2, ![1, 2048]⟩
abbrev S96x512 : Shape := ⟨2, ![96, 512]⟩
abbrev S384x512 : Shape := ⟨2, ![384, 512]⟩
abbrev S384x1024 : Shape := ⟨2, ![384, 1024]⟩
abbrev S96 : Shape := ⟨1, ![96]⟩
abbrev S96x1 : Shape := ⟨2, ![96, 1]⟩
abbrev S96x1024 : Shape := ⟨2, ![96, 1024]⟩
abbrev S384x1 : Shape := ⟨2, ![384, 1]⟩
abbrev S1x1024x512 : Shape := ⟨3, ![1, 1024, 512]⟩
abbrev S1x256x1024 : Shape := ⟨3, ![1, 256, 1024]⟩
abbrev S384x256 : Shape := ⟨2, ![384, 256]⟩
abbrev S512x256 : Shape := ⟨2, ![512, 256]⟩
abbrev S1x1x1024 : Shape := ⟨3, ![1, 1, 1024]⟩

abbrev nBuf : Space → Nat
  | .hbm => 19
  | .vmem => 21
  | .smem => 1
  | _ => 0

abbrev bufTy : (tb : Table) → Fin (tcTables nBuf tb) → BufTy
  | .hbm, ⟨0, _⟩ => ⟨S16384x1024, .bf16⟩
  | .hbm, ⟨1, _⟩ => ⟨S64x16384, .f32⟩
  | .hbm, ⟨2, _⟩ => ⟨S16384x1024, .f32⟩
  | .hbm, ⟨3, _⟩ => ⟨S8x6x1024, .f32⟩
  | .hbm, ⟨4, _⟩ => ⟨S64x1024x512, .bf16⟩
  | .hbm, ⟨5, _⟩ => ⟨S64x256x1024, .bf16⟩
  | .hbm, ⟨6, _⟩ => ⟨S1024x512, .bf16⟩
  | .hbm, ⟨7, _⟩ => ⟨S256x1024, .bf16⟩
  | .hbm, ⟨8, _⟩ => ⟨S1x1024, .f32⟩
  | .hbm, ⟨9, _⟩ => ⟨S1x1024, .f32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .f32⟩
  | .hbm, ⟨17, _⟩ => ⟨S512x512, .bf16⟩
  | .hbm, ⟨18, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S64x2048, .f32⟩
  | .local _ .vmem, ⟨3, _⟩ => ⟨S64x2048, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S4x1024x512, .bf16⟩
  | .local _ .vmem, ⟨9, _⟩ => ⟨S4x1024x512, .bf16⟩
  | .local _ .vmem, ⟨10, _⟩ => ⟨S4x256x1024, .bf16⟩
  | .local _ .vmem, ⟨11, _⟩ => ⟨S4x256x1024, .bf16⟩
  | .local _ .vmem, ⟨12, _⟩ => ⟨S1024x512, .bf16⟩
  | .local _ .vmem, ⟨13, _⟩ => ⟨S256x1024, .bf16⟩
  | .local _ .vmem, ⟨14, _⟩ => ⟨S512x512, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S2048x1024, .f32⟩
  | .local _ .vmem, ⟨20, _⟩ => ⟨S64x2048, .f32⟩
  | .local _ .smem, ⟨0, _⟩ => ⟨S32x64, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 20], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_off1 (i : grid0.Coords) (c0_i32_5 : BitVec 32) (c0_i32_6 : BitVec 32) : Fin 2 → Nat :=
  let arg0 : BitVec 32 := BitVec.ofNat 32 (i 0).val
  let c4_i32_4 : BitVec 32 := 4#32
  let v10 : BitVec 32 := Scalar.muli arg0 c4_i32_4
  let v11 : BitVec 32 := Scalar.addi v10 c0_i32_5
  let v13 : Index := Scalar.indexCast v11
  let c4_i32 : BitVec 32 := 4#32
  let arg1 : BitVec 32 := BitVec.ofNat 32 (i 1).val
  let v9 : BitVec 32 := Scalar.muli c4_i32 arg1
  let v12 : BitVec 32 := Scalar.addi v9 c0_i32_6
  let v14 : Index := Scalar.indexCast v12
  ![v13.toNat, v14.toNat]
def k0_off2 (i : grid0.Coords) (c0_i32_56 : BitVec 32) : Fin 2 → Nat :=
  let c4_i32 : BitVec 32 := 4#32
  let arg1 : BitVec 32 := BitVec.ofNat 32 (i 1).val
  let v9 : BitVec 32 := Scalar.muli c4_i32 arg1
  let v140 : BitVec 32 := Scalar.addi v9 c0_i32_56
  let v141 : Index := Scalar.indexCast v140
  let c0 : Index := 0#32
  ![v141.toNat, 0]
@[reducible] def k0_t1_loop (v15 : BitVec 32) (v22 : BitVec 32) (v29 : BitVec 32) (v36 : BitVec 32) (v43 : BitVec 32) (v50 : BitVec 32) (v57 : BitVec 32) (v64 : BitVec 32) (v71 : BitVec 32) (v78 : BitVec 32) (v85 : BitVec 32) (v92 : BitVec 32) (v99 : BitVec 32) (v106 : BitVec 32) (v113 : BitVec 32) (v120 : BitVec 32) : Scf.Loop 32 :=
  let c0_i32_72 : BitVec 32 := 0#32
  let c0_i32_7 : BitVec 32 := 0#32
  let v16 : BitVec 32 := Scalar.maxsi c0_i32_7 v15
  let v23 : BitVec 32 := Scalar.maxsi v16 v22
  let v30 : BitVec 32 := Scalar.maxsi v23 v29
  let v37 : BitVec 32 := Scalar.maxsi v30 v36
  let v44 : BitVec 32 := Scalar.maxsi v37 v43
  let v51 : BitVec 32 := Scalar.maxsi v44 v50
  let v58 : BitVec 32 := Scalar.maxsi v51 v57
  let v65 : BitVec 32 := Scalar.maxsi v58 v64
  let v72 : BitVec 32 := Scalar.maxsi v65 v71
  let v79 : BitVec 32 := Scalar.maxsi v72 v78
  let v86 : BitVec 32 := Scalar.maxsi v79 v85
  let v93 : BitVec 32 := Scalar.maxsi v86 v92
  let v100 : BitVec 32 := Scalar.maxsi v93 v99
  let v107 : BitVec 32 := Scalar.maxsi v100 v106
  let v114 : BitVec 32 := Scalar.maxsi v107 v113
  let v121 : BitVec 32 := Scalar.maxsi v114 v120
  let c95_i32 : BitVec 32 := 95#32
  let v122 : BitVec 32 := Scalar.addi v121 c95_i32
  let c0_i32_50 : BitVec 32 := 0#32
  let v124 : BitVec 1 := Scalar.cmpi .sgt v122 c0_i32_50
  let v125 : BitVec 32 := Scalar.extui v124
  let c0_i32_51 : BitVec 32 := 0#32
  let v126 : BitVec 1 := Scalar.cmpi .slt v122 c0_i32_51
  let v127 : BitVec 32 := Scalar.extui v126
  let v128 : BitVec 32 := Scalar.subi v125 v127
  let c96_i32 : BitVec 32 := 96#32
  let c0_i32_52 : BitVec 32 := 0#32
  let v129 : BitVec 1 := Scalar.cmpi .sgt c96_i32 c0_i32_52
  let v130 : BitVec 32 := Scalar.extui v129
  let c0_i32_53 : BitVec 32 := 0#32
  let v131 : BitVec 1 := Scalar.cmpi .slt c96_i32 c0_i32_53
  let v132 : BitVec 32 := Scalar.extui v131
  let v133 : BitVec 32 := Scalar.subi v130 v132
  let v134 : BitVec 1 := Scalar.cmpi .ne v128 v133
  let v135 : BitVec 32 := Scalar.remsi v122 c96_i32
  let c0_i32_54 : BitVec 32 := 0#32
  let v136 : BitVec 1 := Scalar.cmpi .ne v135 c0_i32_54
  let v137 : BitVec 1 := Scalar.andi v134 v136
  let v123 : BitVec 32 := Scalar.divsi v122 c96_i32
  let c1_i32_55 : BitVec 32 := 1#32
  let v138 : BitVec 32 := Scalar.subi v123 c1_i32_55
  let v139 : BitVec 32 := Scalar.select v137 v138 v123
  let v164 : BitVec 32 := Scalar.subi v139 c0_i32_72
  let c1_i32_73 : BitVec 32 := 1#32
  let v166 : BitVec 32 := Scalar.divsi v164 c1_i32_73
  let v167 : BitVec 32 := Scalar.muli v166 c1_i32_73
  let v168 : BitVec 32 := Scalar.addi c0_i32_72 v167
  let c1_i32_74 : BitVec 32 := 1#32
  ⟨c0_i32_72, v168, c1_i32_74⟩

@[reducible] def k0_t2_loop (v15 : BitVec 32) (v22 : BitVec 32) (v29 : BitVec 32) (v36 : BitVec 32) (v43 : BitVec 32) (v50 : BitVec 32) (v57 : BitVec 32) (v64 : BitVec 32) (v71 : BitVec 32) (v78 : BitVec 32) (v85 : BitVec 32) (v92 : BitVec 32) (v99 : BitVec 32) (v106 : BitVec 32) (v113 : BitVec 32) (v120 : BitVec 32) : Scf.Loop 32 :=
  let c0_i32_72 : BitVec 32 := 0#32
  let c0_i32_7 : BitVec 32 := 0#32
  let v16 : BitVec 32 := Scalar.maxsi c0_i32_7 v15
  let v23 : BitVec 32 := Scalar.maxsi v16 v22
  let v30 : BitVec 32 := Scalar.maxsi v23 v29
  let v37 : BitVec 32 := Scalar.maxsi v30 v36
  let v44 : BitVec 32 := Scalar.maxsi v37 v43
  let v51 : BitVec 32 := Scalar.maxsi v44 v50
  let v58 : BitVec 32 := Scalar.maxsi v51 v57
  let v65 : BitVec 32 := Scalar.maxsi v58 v64
  let v72 : BitVec 32 := Scalar.maxsi v65 v71
  let v79 : BitVec 32 := Scalar.maxsi v72 v78
  let v86 : BitVec 32 := Scalar.maxsi v79 v85
  let v93 : BitVec 32 := Scalar.maxsi v86 v92
  let v100 : BitVec 32 := Scalar.maxsi v93 v99
  let v107 : BitVec 32 := Scalar.maxsi v100 v106
  let v114 : BitVec 32 := Scalar.maxsi v107 v113
  let v121 : BitVec 32 := Scalar.maxsi v114 v120
  let c95_i32 : BitVec 32 := 95#32
  let v122 : BitVec 32 := Scalar.addi v121 c95_i32
  let c0_i32_50 : BitVec 32 := 0#32
  let v124 : BitVec 1 := Scalar.cmpi .sgt v122 c0_i32_50
  let v125 : BitVec 32 := Scalar.extui v124
  let c0_i32_51 : BitVec 32 := 0#32
  let v126 : BitVec 1 := Scalar.cmpi .slt v122 c0_i32_51
  let v127 : BitVec 32 := Scalar.extui v126
  let v128 : BitVec 32 := Scalar.subi v125 v127
  let c96_i32 : BitVec 32 := 96#32
  let c0_i32_52 : BitVec 32 := 0#32
  let v129 : BitVec 1 := Scalar.cmpi .sgt c96_i32 c0_i32_52
  let v130 : BitVec 32 := Scalar.extui v129
  let c0_i32_53 : BitVec 32 := 0#32
  let v131 : BitVec 1 := Scalar.cmpi .slt c96_i32 c0_i32_53
  let v132 : BitVec 32 := Scalar.extui v131
  let v133 : BitVec 32 := Scalar.subi v130 v132
  let v134 : BitVec 1 := Scalar.cmpi .ne v128 v133
  let v135 : BitVec 32 := Scalar.remsi v122 c96_i32
  let c0_i32_54 : BitVec 32 := 0#32
  let v136 : BitVec 1 := Scalar.cmpi .ne v135 c0_i32_54
  let v137 : BitVec 1 := Scalar.andi v134 v136
  let v123 : BitVec 32 := Scalar.divsi v122 c96_i32
  let c1_i32_55 : BitVec 32 := 1#32
  let v138 : BitVec 32 := Scalar.subi v123 c1_i32_55
  let v139 : BitVec 32 := Scalar.select v137 v138 v123
  let v164 : BitVec 32 := Scalar.subi v139 c0_i32_72
  let c1_i32_73 : BitVec 32 := 1#32
  let v166 : BitVec 32 := Scalar.divsi v164 c1_i32_73
  let v167 : BitVec 32 := Scalar.muli v166 c1_i32_73
  let v168 : BitVec 32 := Scalar.addi c0_i32_72 v167
  let v165 : BitVec 32 := Scalar.addi c0_i32_72 v164
  let c1_i32_75 : BitVec 32 := 1#32
  ⟨v168, v165, c1_i32_75⟩

def k0_chk1 (i : grid0.Coords) (v15 : BitVec 32) (v22 : BitVec 32) (v29 : BitVec 32) (v36 : BitVec 32) (v43 : BitVec 32) (v50 : BitVec 32) (v57 : BitVec 32) (v64 : BitVec 32) (v71 : BitVec 32) (v78 : BitVec 32) (v85 : BitVec 32) (v92 : BitVec 32) (v99 : BitVec 32) (v106 : BitVec 32) (v113 : BitVec 32) (v120 : BitVec 32) : Prop :=
  (∀ (k0_h2 : k0_cond2 i = 1#1), (k0_t1_loop v15 v22 v29 v36 v43 v50 v57 v64 v71 v78 v85 v92 v99 v106 v113 v120).OK) ∧
  (∀ (k0_h2 : k0_cond2 i = 1#1), (k0_t2_loop v15 v22 v29 v36 v43 v50 v57 v64 v71 v78 v85 v92 v99 v106 v113 v120).OK)
theorem k0_t1_ok : ∀ (i : grid0.Coords) (v15 : BitVec 32) (v22 : BitVec 32) (v29 : BitVec 32) (v36 : BitVec 32) (v43 : BitVec 32) (v50 : BitVec 32) (v57 : BitVec 32) (v64 : BitVec 32) (v71 : BitVec 32) (v78 : BitVec 32) (v85 : BitVec 32) (v92 : BitVec 32) (v99 : BitVec 32) (v106 : BitVec 32) (v113 : BitVec 32) (v120 : BitVec 32) (k0_hw1 : k0_chk1 i v15 v22 v29 v36 v43 v50 v57 v64 v71 v78 v85 v92 v99 v106 v113 v120), ∀ (k0_h2 : k0_cond2 i = 1#1), (k0_t1_loop v15 v22 v29 v36 v43 v50 v57 v64 v71 v78 v85 v92 v99 v106 v113 v120).OK := fun i v15 v22 v29 v36 v43 v50 v57 v64 v71 v78 v85 v92 v99 v106 v113 v120 k0_hw1 k0_h2 => k0_hw1.1 k0_h2
theorem k0_t2_ok : ∀ (i : grid0.Coords) (v15 : BitVec 32) (v22 : BitVec 32) (v29 : BitVec 32) (v36 : BitVec 32) (v43 : BitVec 32) (v50 : BitVec 32) (v57 : BitVec 32) (v64 : BitVec 32) (v71 : BitVec 32) (v78 : BitVec 32) (v85 : BitVec 32) (v92 : BitVec 32) (v99 : BitVec 32) (v106 : BitVec 32) (v113 : BitVec 32) (v120 : BitVec 32) (k0_hw1 : k0_chk1 i v15 v22 v29 v36 v43 v50 v57 v64 v71 v78 v85 v92 v99 v106 v113 v120), ∀ (k0_h2 : k0_cond2 i = 1#1), (k0_t2_loop v15 v22 v29 v36 v43 v50 v57 v64 v71 v78 v85 v92 v99 v106 v113 v120).OK := fun i v15 v22 v29 v36 v43 v50 v57 v64 v71 v78 v85 v92 v99 v106 v113 v120 k0_hw1 k0_h2 => k0_hw1.2 k0_h2

def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg1 : BitVec 32 := BitVec.ofNat 32 (i 1).val
  let c16_i32_4 : BitVec 32 := 16#32
  let v9 : BitVec 32 := Scalar.subi arg1 c16_i32_4
  let c512_i32 : BitVec 32 := 512#32
  let v10 : BitVec 32 := Scalar.muli v9 c512_i32
  v10
def k0_off3 (i : grid0.Coords) : Fin 2 → Nat :=
  let arg1 : BitVec 32 := BitVec.ofNat 32 (i 1).val
  let c16_i32_4 : BitVec 32 := 16#32
  let v9 : BitVec 32 := Scalar.subi arg1 c16_i32_4
  let c512_i32 : BitVec 32 := 512#32
  let v10 : BitVec 32 := Scalar.muli v9 c512_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.subi arg1 c16_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.subi arg1 c16_i32
  let c0_i32 : BitVec 32 := 0#32
  let v2 : BitVec 32 := Scalar.maxsi v1 c0_i32
  let v3 : BitVec 32 := Scalar.addi v0 v2
  let c4_i32_0 : BitVec 32 := 4#32
  let v4 : BitVec 32 := Scalar.divsi v3 c4_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.subi arg1 c16_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32x64 : Shape := ⟨2, ![32, 64]⟩
abbrev S16384x1024 : Shape := ⟨2, ![16384, 1024]⟩
abbrev S64x16384 : Shape := ⟨2, ![64, 16384]⟩
abbrev S8x6x1024 : Shape := ⟨3, ![8, 6, 1024]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1x1024 : Shape := ⟨2, ![1, 1024]⟩
abbrev S16384x64 : Shape := ⟨2, ![16384, 64]⟩
abbrev S64x1024x256 : Shape := ⟨3, ![64, 1024, 256]⟩
abbrev S1024x256 : Shape := ⟨2, ![1024, 256]⟩
abbrev S16384x64x256 : Shape := ⟨3, ![16384, 64, 256]⟩
abbrev S_ : Shape := ⟨0, ![]⟩
abbrev S16384x64x1 : Shape := ⟨3, ![16384, 64, 1]⟩
abbrev S16384x256 : Shape := ⟨2, ![16384, 256]⟩
abbrev S8x2048x1024 : Shape := ⟨3, ![8, 2048, 1024]⟩
abbrev S8x1x1024 : Shape := ⟨3, ![8, 1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S16384x1024, .bf16⟩
  | .hbm, ⟨2, _⟩ => ⟨S64x16384, .f32⟩
  | .hbm, ⟨3, _⟩ => ⟨S16384x1024, .f32⟩
  | .hbm, ⟨4, _⟩ => ⟨S8x6x1024, .f32⟩
  | .hbm, ⟨5, _⟩ => ⟨S64x1024x512, .bf16⟩
  | .hbm, ⟨6, _⟩ => ⟨S64x256x1024, .bf16⟩
  | .hbm, ⟨7, _⟩ => ⟨S1024x512, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x64, .f32⟩
  | .hbm, ⟨13, _⟩ => ⟨S64x1024x512, .f32⟩
  | .hbm, ⟨14, _⟩ => ⟨S64x256x1024, .f32⟩
  | .hbm, ⟨15, _⟩ => ⟨S1024x512, .f32⟩
  | .hbm, ⟨16, _⟩ => ⟨S256x1024, .f32⟩
  | .hbm, ⟨17, _⟩ => ⟨S64x1024x256, .f32⟩
  | .hbm, ⟨18, _⟩ => ⟨S64x1024x256, .f32⟩
  | .hbm, ⟨19, _⟩ => ⟨S1024x256, .f32⟩
  | .hbm, ⟨20, _⟩ => ⟨S1024x256, .f32⟩
  | .hbm, ⟨21, _⟩ => ⟨S16384x64x256, .f32⟩
  | .hbm, ⟨22, _⟩ => ⟨S16384x64x256, .f32⟩
  | .hbm, ⟨23, _⟩ => ⟨S16384x64x256, .f32⟩
  | .hbm, ⟨24, _⟩ => ⟨S_, .f32⟩
  | .hbm, ⟨25, _⟩ => ⟨S16384x64x256, .f32⟩
  | .hbm, ⟨26, _⟩ => ⟨S16384x64x256, .f32⟩
  | .hbm, ⟨27, _⟩ => ⟨S_, .f32⟩
  | .hbm, ⟨28, _⟩ => ⟨S16384x64x256, .f32⟩
  | .hbm, ⟨29, _⟩ => ⟨S16384x64x256, .f32⟩
  | .hbm, ⟨30, _⟩ => ⟨S16384x64x256, .f32⟩
  | .hbm, ⟨31, _⟩ => ⟨S16384x64x256, .f32⟩
  | .hbm, ⟨32, _⟩ => ⟨S16384x64x256, .f32⟩
  | .hbm, ⟨33, _⟩ => ⟨S16384x64x1, .f32⟩
  | .hbm, ⟨34, _⟩ => ⟨S16384x64x256, .f32⟩
  | .hbm, ⟨35, _⟩ => ⟨S16384x64x256, .f32⟩
  | .hbm, ⟨36, _⟩ => ⟨S16384x1024, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S_, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x1024, .f32⟩
  | .hbm, ⟨50, _⟩ => ⟨S16384x1024, .f32⟩
  | .hbm, ⟨51, _⟩ => ⟨S8x2048x1024, .f32⟩
  | .hbm, ⟨52, _⟩ => ⟨S8x2048x1024, .f32⟩
  | .hbm, ⟨53, _⟩ => ⟨S8x1x1024, .f32⟩
  | .hbm, ⟨54, _⟩ => ⟨S_, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S8x2048x1, .f32⟩
  | .hbm, ⟨86, _⟩ => ⟨S8x2048x1024, .f32⟩
  | .hbm, ⟨87, _⟩ => ⟨S8x2048x1024, .f32⟩
  | .hbm, ⟨88, _⟩ => ⟨S1x1x1024, .f32⟩
  | .hbm, ⟨89, _⟩ => ⟨S8x2048x1024, .f32⟩
  | .hbm, ⟨90, _⟩ => ⟨S8x2048x1024, .f32⟩
  | .hbm, ⟨91, _⟩ => ⟨S1x1x1024, .f32⟩
  | .hbm, ⟨92, _⟩ => ⟨S8x2048x1024, .f32⟩
  | .hbm, ⟨93, _⟩ => ⟨S8x2048x1024, .f32⟩
  | .hbm, ⟨94, _⟩ => ⟨S16384x1024, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_cst_0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_1 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_3 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6x1024 : Shape := ⟨3, ![8, 6, 1024]⟩
abbrev S8x2048x512 : Shape := ⟨3, ![8, 2048, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S1x512x1024 : Shape := ⟨3, ![1, 512, 1024]⟩
abbrev S1x6x1024 : Shape := ⟨3, ![1, 6, 1024]⟩
abbrev S1x512x512 : Shape := ⟨3, ![1, 512, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .hbm, ⟨13, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x2048x1024 : Shape := ⟨3, ![8, 2048, 1024]⟩
abbrev S8x6x1024 : Shape := ⟨3, ![8, 6, 1024]⟩
abbrev S8x2048x512 : Shape := ⟨3, ![8, 2048, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S8x1x1024 : Shape := ⟨3, ![8, 1, 1024]⟩
abbrev S_ : Shape := ⟨0, ![]⟩
abbrev S8x2048x3072 : Shape := ⟨3, ![8, 2048, 3072]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8x2048x512, .f32⟩
  | .hbm, ⟨13, _⟩ => ⟨S8x2048x512, .f32⟩
  | .hbm, ⟨14, _⟩ => ⟨S8x2048x512, .f32⟩
  | .hbm, ⟨15, _⟩ => ⟨S1024x3072, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x3072, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x1x1024, .f32⟩
  | .hbm, ⟨74, _⟩ => ⟨S8x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S_, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | .hbm, ⟨106, _⟩ => ⟨S1x1x1024, .f32⟩
  | .hbm, ⟨107, _⟩ => ⟨S8x2048x1024, .f32⟩
  | .hbm, ⟨108, _⟩ => ⟨S8x2048x1024, .f32⟩
  | .hbm, ⟨109, _⟩ => ⟨S_, .f32⟩
  | .hbm, ⟨110, _⟩ => ⟨S8x1x1024, .f32⟩
  | .hbm, ⟨111, _⟩ => ⟨S8x1x1024, .f32⟩
  | .hbm, ⟨112, _⟩ => ⟨S8x2048x1024, .f32⟩
  | .hbm, ⟨113, _⟩ => ⟨S8x2048x1024, .f32⟩
  | .hbm, ⟨114, _⟩ => ⟨S8x2048x1024, .f32⟩
  | .hbm, ⟨115, _⟩ => ⟨S8x2048x1024, .f32⟩
  | .hbm, ⟨116, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel3.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6x1024 : Shape := ⟨3, ![8, 6, 1024]⟩
abbrev S1024x7080 : Shape := ⟨2, ![1024, 7080]⟩
abbrev S2048x32 : Shape := ⟨2, ![2048, 32]⟩
abbrev S2048x16 : Shape := ⟨2, ![2048, 16]⟩
abbrev S1x128 : Shape := ⟨2, ![1, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x1x32 : Shape := ⟨4, ![1, 2048, 1, 32]⟩
abbrev S1x2048x4x32 : Shape := ⟨4, ![1, 2048, 4, 32]⟩
abbrev S1024x512 : Shape := ⟨2, ![1024, 512]⟩
abbrev S1024x64 : Shape := ⟨2, ![1024, 64]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S1024x96 : Shape := ⟨2, ![1024, 96]⟩
abbrev S1024x120 : Shape := ⟨2, ![1024, 120]⟩
abbrev S1024x4352 : Shape := ⟨2, ![1024, 4352]⟩
abbrev S1024x3072 : Shape := ⟨2, ![1024, 3072]⟩
abbrev S8x2048x512 : Shape := ⟨3, ![8, 2048, 512]⟩
abbrev S8x2048x128 : Shape := ⟨3, ![8, 2048, 128]⟩
abbrev S8x2048x256 : Shape := ⟨3, ![8, 2048, 256]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S1x512x128 : Shape := ⟨3, ![1, 512, 128]⟩
abbrev S1x512x256 : Shape := ⟨3, ![1, 512, 256]⟩
abbrev S512x1024 : Shape := ⟨2, ![512, 1024]⟩
abbrev S1x1x1024 : Shape := ⟨3, ![1, 1, 1024]⟩
abbrev S1x1024 : Shape := ⟨2, ![1, 1024]⟩
abbrev S512x512 : Shape := ⟨2, ![512, 512]⟩
abbrev S1024x128 : Shape := ⟨2, ![1024, 128]⟩
abbrev S512x256 : Shape := ⟨2, ![512, 256]⟩
abbrev S512 : Shape := ⟨1, ![512]⟩
abbrev S512x1 : Shape := ⟨2, ![512, 1]⟩

abbrev nBuf : Space → Nat
  | .hbm => 62
  | .vmem => 39
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024x7080, .f32⟩
  | .hbm, ⟨3, _⟩ => ⟨S2048x32, .f32⟩
  | .hbm, ⟨4, _⟩ => ⟨S2048x32, .f32⟩
  | .hbm, ⟨5, _⟩ => ⟨S2048x16, .f32⟩
  | .hbm, ⟨6, _⟩ => ⟨S2048x16, .f32⟩
  | .hbm, ⟨7, _⟩ => ⟨S1x128, .f32⟩
  | .hbm, ⟨8, _⟩ => ⟨S1x128, .f32⟩
  | .hbm, ⟨9, _⟩ => ⟨S2048x64, .f32⟩
  | .hbm, ⟨10, _⟩ => ⟨S1x2048x1x64, .f32⟩
  | .hbm, ⟨11, _⟩ => ⟨S1x2048x2x64, .f32⟩
  | .hbm, ⟨12, _⟩ => ⟨S2048x128, .f32⟩
  | .hbm, ⟨13, _⟩ => ⟨S2048x32, .f32⟩
  | .hbm, ⟨14, _⟩ => ⟨S2048x64, .f32⟩
  | .hbm, ⟨15, _⟩ => ⟨S1x2048x1x64, .f32⟩
  | .hbm, ⟨16, _⟩ => ⟨S1x2048x2x64, .f32⟩
  | .hbm, ⟨17, _⟩ => ⟨S2048x128, .f32⟩
  | .hbm, ⟨18, _⟩ => ⟨S2048x32, .f32⟩
  | .hbm, ⟨19, _⟩ => ⟨S1x2048x1x32, .f32⟩
  | .hbm, ⟨20, _⟩ => ⟨S1x2048x4x32, .f32⟩
  | .hbm, ⟨21, _⟩ => ⟨S2048x128, .f32⟩
  | .hbm, ⟨22, _⟩ => ⟨S2048x16, .f32⟩
  | .hbm, ⟨23, _⟩ => ⟨S2048x32, .f32⟩
  | .hbm, ⟨24, _⟩ => ⟨S1x2048x1x32, .f32⟩
  | .hbm, ⟨25, _⟩ => ⟨S1x2048x4x32, .f32⟩
  | .hbm, ⟨26, _⟩ => ⟨S2048x128, .f32⟩
  | .hbm, ⟨27, _⟩ => ⟨S1024x512, .f32⟩
  | .hbm, ⟨28, _⟩ => ⟨S1024x64, .f32⟩
  | .hbm, ⟨29, _⟩ => ⟨S1024x64, .f32⟩
  | .hbm, ⟨30, _⟩ => ⟨S1024x256, .f32⟩
  | .hbm, ⟨31, _⟩ => ⟨S1024x32, .f32⟩
  | .hbm, ⟨32, _⟩ => ⟨S1024x8, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x96, .f32⟩
  | .hbm, ⟨44, _⟩ => ⟨S_, .f32⟩
  | .hbm, ⟨45, _⟩ => ⟨S1024x120, .f32⟩
  | .hbm, ⟨46, _⟩ => ⟨S1024x4352, .f32⟩
  | .hbm, ⟨47, _⟩ => ⟨S1024x3072, .f32⟩
  | .hbm, ⟨48, _⟩ => ⟨S1024x4352, .bf16⟩
  | .hbm, ⟨49, _⟩ => ⟨S1024x3072, .bf16⟩
  | .hbm, ⟨50, _⟩ => ⟨S8x2048x512, .bf16⟩
  | .hbm, ⟨51, _⟩ => ⟨S8x2048x128, .bf16⟩
  | .hbm, ⟨52, _⟩ => ⟨S8x2048x128, .bf16⟩
  | .hbm, ⟨53, _⟩ => ⟨S8x2048x256, .bf16⟩
  | .hbm, ⟨54, _⟩ => ⟨S8x2048x128, .bf16⟩
  | .hbm, ⟨55, _⟩ => ⟨S8x2048x128, .f32⟩
  | .hbm, ⟨56, _⟩ => ⟨S8x2048x512, .bf16⟩
  | .hbm, ⟨57, _⟩ => ⟨S8x2048x512, .bf16⟩
  | .hbm, ⟨58, _⟩ => ⟨S8x2048x512, .bf16⟩
  | .hbm, ⟨59, _⟩ => ⟨S8x2048x512, .bf16⟩
  | .hbm, ⟨60, _⟩ => ⟨S8x2048x512, .bf16⟩
  | .hbm, ⟨61, _⟩ => ⟨S8x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4352, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S1x128, .f32⟩
  | .local _ .vmem, ⟨15, _⟩ => ⟨S1x512x512, .bf16⟩
  | .local _ .vmem, ⟨16, _⟩ => ⟨S1x512x512, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x128, .f32⟩
  | .local _ .vmem, ⟨26, _⟩ => ⟨S1x512x128, .f32⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_v39_3 : Ref sig .tc := ⟨.hbm, 53, rfl⟩
abbrev main_v39_4 : Ref sig .tc := ⟨.hbm, 54, rfl⟩
abbrev main_v39_5 : Ref sig .tc := ⟨.hbm, 55, rfl⟩
abbrev main_v39_6 : Ref sig .tc := ⟨.hbm, 56, rfl⟩
abbrev main_v39_7 : Ref sig .tc := ⟨.hbm, 57, rfl⟩
abbrev main_v39_8 : Ref sig .tc := ⟨.hbm, 58, rfl⟩
abbrev main_v39_9 : Ref sig .tc := ⟨.hbm, 59, rfl⟩
abbrev main_v39_10 : Ref sig .tc := ⟨.hbm, 60, rfl⟩
abbrev main_v39_11 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S8x2048x1024 : Shape := ⟨3, ![8, 2048, 1024]⟩
abbrev S8x6x1024 : Shape := ⟨3, ![8, 6, 1024]⟩
abbrev S1024x7080 : Shape := ⟨2, ![1024, 7080]⟩
abbrev S2048x32 : Shape := ⟨2, ![2048, 32]⟩
abbrev S2048x16 : Shape := ⟨2, ![2048, 16]⟩
abbrev S1x128 : Shape := ⟨2, ![1, 128]⟩
abbrev S8x1x1024 : Shape := ⟨3, ![8, 1, 1024]⟩
abbrev S_ : Shape := ⟨0, ![]⟩
abbrev S8x2048x7080 : Shape := ⟨3, ![8, 2048, 7080]⟩
abbrev S8x2048x512 : Shape := ⟨3, ![8, 2048, 512]⟩
abbrev S8x2048x64 : Shape := ⟨3, ![8, 2048, 64]⟩
abbrev S8x2048x256 : Shape := ⟨3, ![8, 2048, 256]⟩
abbrev S8x2048x32 : Shape := ⟨3, ![8, 2048, 32]⟩
abbrev S8x2048x8 : Shape := ⟨3, ![8, 2048, 8]⟩
abbrev S8x2048x3072 : Shape := ⟨3, ![8, 2048, 3072]⟩
abbrev S1x32 : Shape := ⟨2, ![1, 32]⟩
abbrev S32 : Shape := ⟨1, ![32]⟩
abbrev S8x2048 : Shape := ⟨2, ![8, 2048]⟩
abbrev S8x2048x1 : Shape := ⟨3, ![8, 2048, 1]⟩
abbrev S1x1x32 : Shape := ⟨3, ![1, 1, 32]⟩
abbrev S8x2048x16 : Shape := ⟨3, ![8, 2048, 16]⟩
abbrev S1x2048x16 : Shape := ⟨3, ![1, 2048, 16]⟩
abbrev S8x2048x8x64 : Shape := ⟨4, ![8, 2048, 8, 64]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S1x2048x32 : Shape := ⟨3, ![1, 2048, 32]⟩
abbrev S8x2048x128 : Shape := ⟨3, ![8, 2048, 128]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩

abbrev nBuf : Space → Nat
  | .hbm => 255
  | .vmem => 0
  | .smem => 0
  | _ => 0

abbrev hbmTy0_0 (i : Nat) : BufTy := match i % 128 with
  | 0 => ⟨S8x2048x1024, .f32⟩
  | 1 => ⟨S8x6x1024, .f32⟩
  | 2 => ⟨S1024x7080, .f32⟩
  | 3 => ⟨S2048x32, .f32⟩
  | 4 => ⟨S2048x32, .f32⟩
  | 5 => ⟨S2048x16, .f32⟩
  | 6 => ⟨S2048x16, .f32⟩
  | 7 => ⟨S1x128, .f32⟩
  | 8 => ⟨S1x128, .f32⟩
  | 9 => ⟨S8x1x1024, .f32⟩
  | 10 => ⟨S_, .f32⟩
  | 11 => ⟨S8x1x1024, .f32⟩
  | 12 => ⟨S8x1x1024, .f32⟩
  | 13 => ⟨S8x2048x1024, .f32⟩
  | 14 => ⟨S8x2048x1024, .f32⟩
  | 15 => ⟨S8x1x1024, .f32⟩
  | 16 => ⟨S8x2048x1024, .f32⟩
  | 17 => ⟨S8x2048x1024, .f32⟩
  | 18 => ⟨S8x2048x7080, .f32⟩
  | 19 => ⟨S8x2048x512, .f32⟩
  | 20 => ⟨S8x2048x64, .f32⟩
  | 21 => ⟨S8x2048x64, .f32⟩
  | 22 => ⟨S8x2048x256, .f32⟩
  | 23 => ⟨S8x2048x32, .f32⟩
  | 24 => ⟨S8x2048x8, .f32⟩
  | 25 => ⟨S8x2048x512, .f32⟩
  | 26 => ⟨S8x2048x512, .f32⟩
  | 27 => ⟨S8x2048x512, .f32⟩
  | 28 => ⟨S8x2048x512, .f32⟩
  | 29 => ⟨S8x2048x512, .f32⟩
  | 30 => ⟨S8x2048x512, .f32⟩
  | 31 => ⟨S8x2048x3072, .f32⟩
  | 32 => ⟨S1x32, .f32⟩
  | 33 => ⟨S32, .f32⟩
  | 34 => ⟨S1x32, .f32⟩
  | 35 => ⟨S32, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S8x2048x32, .f32⟩
  | 43 => ⟨S8x2048x32, .f32⟩
  | 44 => ⟨S8x2048x32, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S8x2048x32, .f32⟩
  | 52 => ⟨S8x2048x32, .f32⟩
  | 53 => ⟨S_, .f32⟩
  | 54 => ⟨S8x2048x1, .f32⟩
  | 55 => ⟨S8x2048x1, .f32⟩
  | 56 => ⟨S8x2048x1, .f32⟩
  | 57 => ⟨S8x2048x32, .f32⟩
  | 58 => ⟨S8x2048x32, .f32⟩
  | 59 => ⟨S1x1x32, .f32⟩
  | 60 => ⟨S8x2048x32, .f32⟩
  | 61 => ⟨S8x2048x32, .f32⟩
  | 62 => ⟨S1x1x32, .f32⟩
  | 63 => ⟨S8x2048x32, .f32⟩
  | 64 => ⟨S8x2048x32, .f32⟩
  | 65 => ⟨S8x2048x16, .f32⟩
  | 66 => ⟨S8x2048x16, .f32⟩
  | 67 => ⟨S1x2048x16, .f32⟩
  | 68 => ⟨S8x2048x16, .f32⟩
  | 69 => ⟨S8x2048x16, .f32⟩
  | 70 => ⟨S1x2048x16, .f32⟩
  | 71 => ⟨S8x2048x16, .f32⟩
  | 72 => ⟨S8x2048x16, .f32⟩
  | 73 => ⟨S8x2048x16, .f32⟩
  | 74 => ⟨S1x2048x16, .f32⟩
  | 75 => ⟨S8x2048x16, .f32⟩
  | 76 => ⟨S8x2048x16, .f32⟩
  | 77 => ⟨S1x2048x16, .f32⟩
  | 78 => ⟨S8x2048x16, .f32⟩
  | 79 => ⟨S8x2048x16, .f32⟩
  | 80 => ⟨S8x2048x16, .f32⟩
  | 81 => ⟨S8x2048x32, .f32⟩
  | 82 => ⟨S8x2048x8x64, .f32⟩
  | 83 => ⟨S2048x1x32, .f32⟩
  | 84 => ⟨S2048x1x32, .f32⟩
  | 85 => ⟨S8x2048x8x32, .f32⟩
  | 86 => ⟨S8x2048x8x32, .f32⟩
  | 87 => ⟨S1x2048x1x32, .f32⟩
  | 88 => ⟨S8x2048x8x32, .f32⟩
  | 89 => ⟨S8x2048x8x32, .f32⟩
  | 90 => ⟨S1x2048x1x32, .f32⟩
  | 91 => ⟨S8x2048x8x32, .f32⟩
  | 92 => ⟨S8x2048x8x32, .f32⟩
  | 93 => ⟨S8x2048x8x32, .f32⟩
  | 94 => ⟨S1x2048x1x32, .f32⟩
  | 95 => ⟨S8x2048x8x32, .f32⟩
  | 96 => ⟨S8x2048x8x32, .f32⟩
  | 97 => ⟨S1x2048x1x32, .f32⟩
  | 98 => ⟨S8x2048x8x32, .f32⟩
  | 99 => ⟨S8x2048x8x32, .f32⟩
  | 100 => ⟨S8x2048x8x32, .f32⟩
  | 101 => ⟨S8x2048x8x64, .f32⟩
  | 102 => ⟨S8x2048x512, .f32⟩
  | 103 => ⟨S_, .f32⟩
  | 104 => ⟨S8x2048x512, .f32⟩
  | 105 => ⟨S8x2048x512, .f32⟩
  | 106 => ⟨S8x2048x512, .bf16⟩
  | 107 => ⟨S8x2048x32, .f32⟩
  | 108 => ⟨S8x2048x32, .f32⟩
  | 109 => ⟨S1x2048x32, .f32⟩
  | 110 => ⟨S8x2048x32, .f32⟩
  | 111 => ⟨S8x2048x32, .f32⟩
  | 112 => ⟨S1x2048x32, .f32⟩
  | 113 => ⟨S8x2048x32, .f32⟩
  | 114 => ⟨S8x2048x32, .f32⟩
  | 115 => ⟨S8x2048x32, .f32⟩
  | 116 => ⟨S1x2048x32, .f32⟩
  | 117 => ⟨S8x2048x32, .f32⟩
  | 118 => ⟨S8x2048x32, .f32⟩
  | 119 => ⟨S1x2048x32, .f32⟩
  | 120 => ⟨S8x2048x32, .f32⟩
  | 121 => ⟨S8x2048x32, .f32⟩
  | 122 => ⟨S8x2048x32, .f32⟩
  | 123 => ⟨S8x2048x64, .f32⟩
  | 124 => ⟨S8x2048x128, .f32⟩
  | 125 => ⟨S8x2048x128, .bf16⟩
  | 126 => ⟨S8x2048x128, .f32⟩
  | 127 => ⟨S8x2048x128, .bf16⟩
  | _ => ⟨S8x2048x1024, .f32⟩

abbrev hbmTy0_1 (i : Nat) : BufTy := match i % 128 with
  | 0 => ⟨S8x2048x8x32, .f32⟩
  | 1 => ⟨S2048x1x16, .f32⟩
  | 2 => ⟨S2048x1x16, .f32⟩
  | 3 => ⟨S8x2048x8x16, .f32⟩
  | 4 => ⟨S8x2048x8x16, .f32⟩
  | 5 => ⟨S1x2048x1x16, .f32⟩
  | 6 => ⟨S8x2048x8x16, .f32⟩
  | 7 => ⟨S8x2048x8x16, .f32⟩
  | 8 => ⟨S1x2048x1x16, .f32⟩
  | 9 => ⟨S8x2048x8x16, .f32⟩
  | 10 => ⟨S8x2048x8x16, .f32⟩
  | 11 => ⟨S8x2048x8x16, .f32⟩
  | 12 => ⟨S1x2048x1x16, .f32⟩
  | 13 => ⟨S8x2048x8x16, .f32⟩
  | 14 => ⟨S8x2048x8x16, .f32⟩
  | 15 => ⟨S1x2048x1x16, .f32⟩
  | 16 => ⟨S8x2048x8x16, .f32⟩
  | 17 => ⟨S8x2048x8x16, .f32⟩
  | 18 => ⟨S8x2048x8x16, .f32⟩
  | 19 => ⟨S8x2048x8x32, .f32⟩
  | 20 => ⟨S8x2048x256, .f32⟩
  | 21 => ⟨S8x2048x256, .bf16⟩
  | 22 => ⟨S8x2048x64, .f32⟩
  | 23 => ⟨S8x2048x128, .f32⟩
  | 24 => ⟨S8x2048x128, .bf16⟩
  | 25 => ⟨S_, .f32⟩
  | 26 => ⟨S8x2048x8, .f32⟩
  | 27 => ⟨S8x2048x8, .f32⟩
  | 28 => ⟨S_, .i32⟩
  | 29 => ⟨S_, .f32⟩
  | 30 => ⟨S8x2048x128, .f32⟩
  | 31 => ⟨S8x2048x8x64, .f32⟩
  | 32 => ⟨S2048x1x32, .f32⟩
  | 33 => ⟨S2048x1x32, .f32⟩
  | 34 => ⟨S8x2048x8x32, .f32⟩
  | 35 => ⟨S8x2048x8x32, .f32⟩
  | 36 => ⟨S1x2048x1x32, .f32⟩
  | 37 => ⟨S8x2048x8x32, .f32⟩
  | 38 => ⟨S8x2048x8x32, .f32⟩
  | 39 => ⟨S1x2048x1x32, .f32⟩
  | 40 => ⟨S8x2048x8x32, .f32⟩
  | 41 => ⟨S8x2048x8x32, .f32⟩
  | 42 => ⟨S8x2048x8x32, .f32⟩
  | 43 => ⟨S1x2048x1x32, .f32⟩
  | 44 => ⟨S8x2048x8x32, .f32⟩
  | 45 => ⟨S8x2048x8x32, .f32⟩
  | 46 => ⟨S1x2048x1x32, .f32⟩
  | 47 => ⟨S8x2048x8x32, .f32⟩
  | 48 => ⟨S8x2048x8x32, .f32⟩
  | 49 => ⟨S8x2048x8x32, .f32⟩
  | 50 => ⟨S8x2048x8x64, .f32⟩
  | 51 => ⟨S8x2048x512, .f32⟩
  | 52 => ⟨S_, .f32⟩
  | 53 => ⟨S8x2048x512, .f32⟩
  | 54 => ⟨S8x2048x512, .f32⟩
  | 55 => ⟨S8x2048x512, .bf16⟩
  | 56 => ⟨S8x2048x8x64, .f32⟩
  | 57 => ⟨S2048x1x32, .f32⟩
  | 58 => ⟨S2048x1x32, .f32⟩
  | 59 => ⟨S8x2048x8x32, .f32⟩
  | 60 => ⟨S8x2048x8x32, .f32⟩
  | 61 => ⟨S1x2048x1x32, .f32⟩
  | 62 => ⟨S8x2048x8x32, .f32⟩
  | 63 => ⟨S8x2048x8x32, .f32⟩
  | 64 => ⟨S1x2048x1x32, .f32⟩
  | 65 => ⟨S8x2048x8x32, .f32⟩
  | 66 => ⟨S8x2048x8x32, .f32⟩
  | 67 => ⟨S8x2048x8x32, .f32⟩
  | 68 => ⟨S1x2048x1x32, .f32⟩
  | 69 => ⟨S8x2048x8x32, .f32⟩
  | 70 => ⟨S8x2048x8x32, .f32⟩
  | 71 => ⟨S1x2048x1x32, .f32⟩
  | 72 => ⟨S8x2048x8x32, .f32⟩
  | 73 => ⟨S8x2048x8x32, .f32⟩
  | 74 => ⟨S8x2048x8x32, .f32⟩
  | 75 => ⟨S8x2048x8x64, .f32⟩
  | 76 => ⟨S8x2048x512, .f32⟩
  | 77 => ⟨S8x2048x512, .bf16⟩
  | 78 => ⟨S8x2048x512, .bf16⟩
  | 79 => ⟨S8x2048x8x64, .f32⟩
  | 80 => ⟨S2048x1x32, .f32⟩
  | 81 => ⟨S2048x1x32, .f32⟩
  | 82 => ⟨S8x2048x8x32, .f32⟩
  | 83 => ⟨S8x2048x8x32, .f32⟩
  | 84 => ⟨S1x2048x1x32, .f32⟩
  | 85 => ⟨S8x2048x8x32, .f32⟩
  | 86 => ⟨S8x2048x8x32, .f32⟩
  | 87 => ⟨S1x2048x1x32, .f32⟩
  | 88 => ⟨S8x2048x8x32, .f32⟩
  | 89 => ⟨S8x2048x8x32, .f32⟩
  | 90 => ⟨S8x2048x8x32, .f32⟩
  | 91 => ⟨S1x2048x1x32, .f32⟩
  | 92 => ⟨S8x2048x8x32, .f32⟩
  | 93 => ⟨S8x2048x8x32, .f32⟩
  | 94 => ⟨S1x2048x1x32, .f32⟩
  | 95 => ⟨S8x2048x8x32, .f32⟩
  | 96 => ⟨S8x2048x8x32, .f32⟩
  | 97 => ⟨S8x2048x8x32, .f32⟩
  | 98 => ⟨S8x2048x8x64, .f32⟩
  | 99 => ⟨S8x2048x512, .f32⟩
  | 100 => ⟨S_, .f32⟩
  | 101 => ⟨S8x2048x512, .f32⟩
  | 102 => ⟨S8x2048x512, .f32⟩
  | 103 => ⟨S8x2048x512, .bf16⟩
  | 104 => ⟨S8x2048x8x64, .f32⟩
  | 105 => ⟨S2048x1x32, .f32⟩
  | 106 => ⟨S2048x1x32, .f32⟩
  | 107 => ⟨S8x2048x8x32, .f32⟩
  | 108 => ⟨S8x2048x8x32, .f32⟩
  | 109 => ⟨S1x2048x1x32, .f32⟩
  | 110 => ⟨S8x2048x8x32, .f32⟩
  | 111 => ⟨S8x2048x8x32, .f32⟩
  | 112 => ⟨S1x2048x1x32, .f32⟩
  | 113 => ⟨S8x2048x8x32, .f32⟩
  | 114 => ⟨S8x2048x8x32, .f32⟩
  | 115 => ⟨S8x2048x8x32, .f32⟩
  | 116 => ⟨S1x2048x1x32, .f32⟩
  | 117 => ⟨S8x2048x8x32, .f32⟩
  | 118 => ⟨S8x2048x8x32, .f32⟩
  | 119 => ⟨S1x2048x1x32, .f32⟩
  | 120 => ⟨S8x2048x8x32, .f32⟩
  | 121 => ⟨S8x2048x8x32, .f32⟩
  | 122 => ⟨S8x2048x8x32, .f32⟩
  | 123 => ⟨S8x2048x8x64, .f32⟩
  | 124 => ⟨S8x2048x512, .f32⟩
  | 125 => ⟨S8x2048x512, .bf16⟩
  | 126 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_5 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_cst_6 : Ref sig .tc := ⟨.hbm, 153, rfl⟩
abbrev main_v137 : Ref sig .tc := ⟨.hbm, 154, rfl⟩
abbrev main_v138 : Ref sig .tc := ⟨.hbm, 155, rfl⟩
abbrev main_c : Ref sig .tc := ⟨.hbm, 156, rfl⟩
abbrev main_call0_v0 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_cst_7 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_cst_8 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩

abbrev nD : Nat := 1
abbrev τ : Topo := Topo.v7x

variable {F : FTy → Type} [FloatOps F]
-- ==== Proof.Steps.lean ====
module
public import proofs.«01_k».proof.Proof.Gen.KernelIdeal.Loops

/-! What one trip of the expert loop computes, said once for every one of the four token tiles and of the four experts of a
group. A tile has 512 tokens; a trip serves 96 slots of every expert; a token sits in a slot when its rank equals the slot's
number. -/

@[expose] public section

set_option maxRecDepth 16384

noncomputable section

namespace Cert.Moe

open Idealize.ShloMosaic Idealize.SL.Sem Cert.KernelIdeal Cert.KernelIdeal.Gen

variable {F : FTy → Type} [FloatOps F]

theorem sl_row : ∀ t : Fin 4, S1x2048.Slices ![0, 512 * t.val] S1x512 := by decide
theorem sl_slots : ∀ t : Fin 4, S384x1024.Slices ![96 * t.val, 0] S96x1024 := by decide

/-- The blocks a trip reads: the ranks and the gates of the four experts, the tokens of the four tiles, and the four experts'
weights. -/
structure Group (F : FTy → Type) [FloatOps F] where
  rank : Fin 4 → Vec F S1x2048 .f32
  gate : Fin 4 → Vec F S1x2048 .f32
  u : Fin 4 → Vec F S512x1024 .bf16
  w : Fin 4 → Vec F S1x1024x512 .bf16
  d : Fin 4 → Vec F S1x256x1024 .bf16

/-- The numbers of the slots trip `a` serves. -/
def slots (a : BitVec 32) : FVec F S96x512 .f32 :=
  addf (sitofp .f32 (iota .tc S96x512 32 [0] iota_S96x512_d0_w32)) (broadcast S96x512 (Scalar.sitofp .f32 (Scalar.muli a 96#32)))

namespace Group

variable (G : Group F) (a : BitVec 32)

/-- Which token of tile `t` sits in which slot of expert `e`. -/
def hit (t e : Fin 4) : IVec S96x512 1 :=
  cmpf .oeq (broadcastTo S96x512 (extractStridedSlice S1x512 ![0, 512 * t.val] (G.rank e) (sl_row t)) broadcasts_S1x512_S96x512) (slots a)

/-- The same as ones and zeros. -/
def one (t e : Fin 4) : FVec F S96x512 .bf16 :=
  truncf .bf16 (select (G.hit a t e) (broadcast S96x512 (Scalar.ofBits .f32 0x3F800000#32)) (broadcast S96x512 (Scalar.ofBits .f32 0x00000000#32))) bitsLt_bf16_f32

/-- Ones and zeros of the four experts, below one another. -/
def ones (t : Fin 4) : FVec F S384x512 .bf16 :=
  concatenate S384x512 0 [⟨S96x512, G.one a t 0⟩, ⟨S96x512, G.one a t 1⟩, ⟨S96x512, G.one a t 2⟩, ⟨S96x512, G.one a t 3⟩] concatenates_S96x512_S96x512_S96x512_S96x512_S384x512_d0

/-- The tokens brought to their slots. -/
def taken (t : Fin 4) : FVec F S384x1024 .bf16 :=
  truncf .bf16 (matmul dot_S384x512_S512x1024_S384x1024_1_0_0_1_n_n none (G.ones a t) (G.u t) (constant S384x1024 .f32 0x00000000#32)) bitsLt_bf16_f32

/-- The gate of the token in each slot. -/
def gateAt (t e : Fin 4) : FVec F S96x1 .f32 :=
  shapeCast S96x1 (multiReduction .add [1] S96 (select (G.hit a t e)
    (broadcastTo S96x512 (shapeCast S1x512 (extractStridedSlice S1x512 ![0, 512 * t.val] (G.gate e) (sl_row t)) shapeCasts_S1x512_S1x512) broadcasts_S1x512_S96x512)
    (broadcast S96x512 (Scalar.ofBits .f32 0x00000000#32))) 0x00000000#32 reduces_S96x512_S96 (.inl rfl) rfl) shapeCasts_S96_S96x1

/-- Expert `e`'s slots of the four tiles. -/
def input (e : Fin 4) : FVec F S384x1024 .bf16 :=
  concatenate S384x1024 0 [⟨S96x1024, extractStridedSlice S96x1024 ![96 * e.val, 0] (G.taken a 0) (sl_slots e)⟩, ⟨S96x1024, extractStridedSlice S96x1024 ![96 * e.val, 0] (G.taken a 1) (sl_slots e)⟩, ⟨S96x1024, extractStridedSlice S96x1024 ![96 * e.val, 0] (G.taken a 2) (sl_slots e)⟩, ⟨S96x1024, extractStridedSlice S96x1024 ![96 * e.val, 0] (G.taken a 3) (sl_slots e)⟩] concatenates_S96x1024_S96x1024_S96x1024_S96x1024_S384x1024_d0

/-- Expert `e`'s gates of the four tiles. -/
def gates (e : Fin 4) : FVec F S384x1 .f32 :=
  concatenate S384x1 0 [⟨S96x1, G.gateAt a 0 e⟩, ⟨S96x1, G.gateAt a 1 e⟩, ⟨S96x1, G.gateAt a 2 e⟩, ⟨S96x1, G.gateAt a 3 e⟩] concatenates_S96x1_S96x1_S96x1_S96x1_S384x1_d0

/-- The product with the gate and up weights. -/
def mid (e : Fin 4) : FVec F S384x512 .f32 :=
  matmul dot_S384x1024_S1024x512_S384x512_1_0_0_1_n_n none (G.input a e) (shapeCast S1024x512 (G.w e) shapeCasts_S1x1024x512_S1024x512) (constant S384x512 .f32 0x00000000#32)

/-- The gated activation. -/
def act (e : Fin 4) : FVec F S384x256 .bf16 :=
  truncf .bf16 (mulf (mulf (mulf (extractStridedSlice S384x256 ![0, 0] (G.mid a e) slices_S384x512_o0_0_S384x256)
    (divf (broadcast S384x256 (Scalar.ofBits .f32 0x3F800000#32)) (addf (broadcast S384x256 (Scalar.ofBits .f32 0x3F800000#32))
      (exp (subf (broadcast S384x256 (Scalar.ofBits .f32 0x00000000#32)) (extractStridedSlice S384x256 ![0, 0] (G.mid a e) slices_S384x512_o0_0_S384x256))))))
    (extractStridedSlice S384x256 ![0, 256] (G.mid a e) slices_S384x512_o0_256_S384x256)) (broadcastTo S384x256 (G.gates a e) broadcasts_S384x1_S384x256)) bitsLt_bf16_f32

/-- The product with the down weights. -/
def down (e : Fin 4) : FVec F S384x1024 .bf16 :=
  truncf .bf16 (matmul dot_S384x256_S256x1024_S384x1024_1_0_0_1_n_n none (G.act a e) (shapeCast S256x1024 (G.d e) shapeCasts_S1x256x1024_S256x1024) (constant S384x1024 .f32 0x00000000#32)) bitsLt_bf16_f32

/-- Tile `t`'s slots of the four experts. -/
def back (t : Fin 4) : FVec F S384x1024 .bf16 :=
  concatenate S384x1024 0 [⟨S96x1024, extractStridedSlice S96x1024 ![96 * t.val, 0] (G.down a 0) (sl_slots t)⟩, ⟨S96x1024, extractStridedSlice S96x1024 ![96 * t.val, 0] (G.down a 1) (sl_slots t)⟩, ⟨S96x1024, extractStridedSlice S96x1024 ![96 * t.val, 0] (G.down a 2) (sl_slots t)⟩, ⟨S96x1024, extractStridedSlice S96x1024 ![96 * t.val, 0] (G.down a 3) (sl_slots t)⟩] concatenates_S96x1024_S96x1024_S96x1024_S96x1024_S384x1024_d0

/-- Tile `t` of the running sum after the trip. -/
def tile (t : Fin 4) (x : Vec F S512x1024 .f32) : FVec F S512x1024 .f32 :=
  shapeCast S512x1024 (addf x (matmul dot_S384x512_S384x1024_S512x1024_0_0_1_1_n_n none (G.ones a t) (G.back a t) (constant S512x1024 .f32 0x00000000#32))) shapeCasts_S512x1024_S512x1024

end Group

theorem in_tile : ∀ t : Fin 4, ∀ a, (![512 * t.val, 0] : Fin 2 → ℕ) a + (![512, 1024] : Fin 2 → ℕ) a ≤ S2048x1024.size a := by decide
theorem in_w : ∀ e : Fin 4, ∀ a, (![e.val, 0, 0] : Fin 3 → ℕ) a + (![1, 1024, 512] : Fin 3 → ℕ) a ≤ S4x1024x512.size a := by decide
theorem in_d : ∀ e : Fin 4, ∀ a, (![e.val, 0, 0] : Fin 3 → ℕ) a + (![1, 256, 1024] : Fin 3 → ℕ) a ≤ S4x256x1024.size a := by decide

/-- The place of tile `t` in a block of four tiles. -/
abbrev tileAt (t : Fin 4) : Rect S2048x1024 := Rect.unit ![512 * t.val, 0] ![512, 1024] (in_tile t)

/-- The place of expert `e` in a block of four experts' weights. -/
abbrev wAt (e : Fin 4) : Rect S4x1024x512 := Rect.unit ![e.val, 0, 0] ![1, 1024, 512] (in_w e)
abbrev dAt (e : Fin 4) : Rect S4x256x1024 := Rect.unit ![e.val, 0, 0] ![1, 256, 1024] (in_d e)

/-- A trip's blocks, from the whole blocks of a grid point. -/
def group (rank gate : Fin 4 → Vec F S1x2048 .f32) (u : Vec F S2048x1024 .bf16) (w : Vec F S4x1024x512 .bf16) (d : Vec F S4x256x1024 .bf16) : Group F where
  rank := rank
  gate := gate
  u t := fun y => u ((tileAt t).emb y)
  w e := fun y => w ((wAt e).emb y)
  d e := fun y => d ((dAt e).emb y)

end Cert.Moe
-- ==== Proof.Trip.lean ====
module
public import proofs.«01_k».proof.Proof.Steps

/-! What the generated account of one trip of the expert loop says it stores: the four tiles of `Steps`. -/

@[expose] public section

set_option maxRecDepth 16384
set_option maxHeartbeats 4000000

namespace Cert.Moe

open Idealize.ShloMosaic Idealize.ShloMosaic.TcCoe Idealize.SL.Sem Cert.KernelIdeal Cert.KernelIdeal.Gen

variable {F : FTy → Type} [FloatOps F]

/-- One trip stores the four tiles of the sum, each read before it is stored. -/
theorem trip_tiles (𝒱 : Variants) (c : Dev nD) (bd : Option 𝒱.V) (i : grid0.Coords) (arg2 : Memref sig .tc .smem S32x64 .i32) (harg2 : arg2.IsWhole) (arg3 : Memref sig .tc .vmem S2048x1024 .bf16) (harg3 : arg3.IsWhole) (arg4 : Memref sig .tc .vmem S64x2048 .f32) (harg4 : arg4.IsWhole) (arg5 : Memref sig .tc .vmem S512x1024 .f32) (harg5 : arg5.IsWhole) (arg6 : Memref sig .tc .vmem S1x6x1024 .f32) (harg6 : arg6.IsWhole) (arg7 : Memref sig .tc .vmem S4x1024x512 .bf16) (harg7 : arg7.IsWhole) (arg8 : Memref sig .tc .vmem S4x256x1024 .bf16) (harg8 : arg8.IsWhole) (arg9 : Memref sig .tc .vmem S1024x512 .bf16) (harg9 : arg9.IsWhole) (arg10 : Memref sig .tc .vmem S256x1024 .bf16) (harg10 : arg10.IsWhole) (arg11 : Memref sig .tc .vmem S512x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S2048x1024 .f32) (harg15 : arg15.IsWhole) (arg16 : Memref sig .tc .vmem S64x2048 .f32) (harg16 : arg16.IsWhole) (k0_h2 : k0_cond2 i = 1#1) (v9 : BitVec 32) (v15 : Elt F .i32) (v22 : Elt F .i32) (v29 : Elt F .i32) (v36 : Elt F .i32) (v43 : Elt F .i32) (v50 : Elt F .i32) (v57 : Elt F .i32) (v64 : Elt F .i32) (v71 : Elt F .i32) (v78 : Elt F .i32) (v85 : Elt F .i32) (v92 : Elt F .i32) (v99 : Elt F .i32) (v106 : Elt F .i32) (v113 : Elt F .i32) (v120 : Elt F .i32) (k0_hw1 : k0_chk1 i v15 v22 v29 v36 v43 v50 v57 v64 v71 v78 v85 v92 v99 v106 v113 v120) (v122 : BitVec 32) (c96_i32 : BitVec 32) (v123 : BitVec 32) (v128 : BitVec 32) (v130 : BitVec 32) (v131 : BitVec 1) (v142 : Vec F S1x2048 .f32) (v145 : Vec F S1x2048 .f32) (v148 : Vec F S1x2048 .f32) (v151 : Vec F S1x2048 .f32) (v154 : Vec F S1x2048 .f32) (v157 : Vec F S1x2048 .f32) (v160 : Vec F S1x2048 .f32) (v163 : Vec F S1x2048 .f32) (X_arg3 : BufTy.Contents (Elt F) arg3.view.ty) (X_arg7 : BufTy.Contents (Elt F) arg7.view.ty) (X_arg8 : BufTy.Contents (Elt F) arg8.view.ty) (k : Fin (k0_t1_loop v15 v22 v29 v36 v43 v50 v57 v64 v71 v78 v85 v92 v99 v106 v113 v120).trips) (f_arg15 : BufTy.Contents (Elt F) arg15.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v9 v15 v22 v29 v36 v43 v50 v57 v64 v71 v78 v85 v92 v99 v106 v113 v120 k0_hw1 v122 c96_i32 v123 v128 v130 v131 v142 v145 v148 v151 v154 v157 v160 v163 X_arg3 X_arg7 X_arg8 k f_arg15 =
      [⟨tileAt 3, (group ![v142, v145, v148, v151] ![v154, v157, v160, v163] (arg3.view.read (Elt F) X_arg3) (arg7.view.read (Elt F) X_arg7) (arg8.view.read (Elt F) X_arg8)).tile (Scf.iv 0#32 1#32 k) 3 (fun y => arg15.view.read (Elt F) f_arg15 ((tileAt 3).emb y))⟩,
       ⟨tileAt 2, (group ![v142, v145, v148, v151] ![v154, v157, v160, v163] (arg3.view.read (Elt F) X_arg3) (arg7.view.read (Elt F) X_arg7) (arg8.view.read (Elt F) X_arg8)).tile (Scf.iv 0#32 1#32 k) 2 (fun y => arg15.view.read (Elt F) f_arg15 ((tileAt 2).emb y))⟩,
       ⟨tileAt 1, (group ![v142, v145, v148, v151] ![v154, v157, v160, v163] (arg3.view.read (Elt F) X_arg3) (arg7.view.read (Elt F) X_arg7) (arg8.view.read (Elt F) X_arg8)).tile (Scf.iv 0#32 1#32 k) 1 (fun y => arg15.view.read (Elt F) f_arg15 ((tileAt 1).emb y))⟩,
       ⟨tileAt 0, (group ![v142, v145, v148, v151] ![v154, v157, v160, v163] (arg3.view.read (Elt F) X_arg3) (arg7.view.read (Elt F) X_arg7) (arg8.view.read (Elt F) X_arg8)).tile (Scf.iv 0#32 1#32 k) 0 (fun y => arg15.view.read (Elt F) f_arg15 ((tileAt 0).emb y))⟩] := by
  unfold tripL_k0_t1 trip_k0_t1
  rfl

end Cert.Moe
-- ==== Proof.Chk.lean ====
module
public import proofs.«01_k».proof.Proof.Gen.KernelIdeal.Loops

/-! The expert loop's bounds: what the kernel asks of them holds whatever the counts are, its second loop makes no trip, and
the number of trips of the first is the largest count divided by 96, rounded up. -/

@[expose] public section

set_option maxRecDepth 16384

namespace Cert.Moe

open Idealize.ShloMosaic Idealize.SL.Sem Cert.KernelIdeal Cert.KernelIdeal.Gen

/-- Counting up by one from zero never leaves the words. -/
theorem ok_from_zero (ub : BitVec 32) : Scf.OK 0#32 ub 1#32 := by
  have h1 : (1#32 : BitVec 32).toInt = 1 := by decide
  have h0 : (0#32 : BitVec 32).toInt = 0 := by decide
  have hu := BitVec.toInt_lt (x := ub)
  refine ⟨by rw [h1]; decide, ?_⟩
  unfold Scf.trips
  rw [h0, h1]
  simp only [Int.ediv_one]
  have e : (2 : ℤ) ^ (32 - 1) = 2147483648 := by decide
  rw [e] at hu ⊢
  omega

/-- A loop whose bounds are equal is in order and makes no trip. -/
theorem ok_empty (b : BitVec 32) : Scf.OK b b 1#32 ∧ Scf.trips b b 1#32 = 0 := by
  have h1 : (1#32 : BitVec 32).toInt = 1 := by decide
  have ht : Scf.trips b b 1#32 = 0 := by
    unfold Scf.trips
    rw [h1]
    simp
  have hu := BitVec.toInt_lt (x := b)
  refine ⟨⟨by rw [h1]; decide, ?_⟩, ht⟩
  have e : (2 : ℤ) ^ (32 - 1) = 2147483648 := by decide
  rw [ht]
  rw [e] at hu ⊢
  omega

theorem div_one (x : BitVec 32) : Scalar.muli (Scalar.divsi x 1#32) 1#32 = x := by
  simp [Scalar.muli, Scalar.divsi, IntOp.muli, IntOp.divsi, IntOp.SDivCorner]

variable (a b c d e f g h p q r s t u v w : BitVec 32)

/-- The largest count. -/
def most : BitVec 32 :=
  [a, b, c, d, e, f, g, h, p, q, r, s, t, u, v, w].foldl Scalar.maxsi 0#32

/-- The number of trips, as a word, from the largest count. -/
def chunks (x : BitVec 32) : BitVec 32 :=
  k0_t1_loop x 0#32 0#32 0#32 0#32 0#32 0#32 0#32 0#32 0#32 0#32 0#32 0#32 0#32 0#32 0#32 |>.ub

theorem loop_lb : (k0_t1_loop a b c d e f g h p q r s t u v w).lb = 0#32 ∧ (k0_t1_loop a b c d e f g h p q r s t u v w).st = 1#32 := ⟨rfl, rfl⟩

theorem loop_one : (k0_t1_loop a b c d e f g h p q r s t u v w).OK := ok_from_zero _

theorem two_bounds : (k0_t2_loop a b c d e f g h p q r s t u v w).lb = (k0_t2_loop a b c d e f g h p q r s t u v w).ub :=
  congrArg (Scalar.addi 0#32) (div_one _)

theorem loop_two : (k0_t2_loop a b c d e f g h p q r s t u v w).OK := by
  show Scf.OK (k0_t2_loop a b c d e f g h p q r s t u v w).lb (k0_t2_loop a b c d e f g h p q r s t u v w).ub 1#32
  rw [two_bounds]
  exact (ok_empty _).1

/-- The second loop makes no trip. -/
theorem two_trips : (k0_t2_loop a b c d e f g h p q r s t u v w).trips = 0 := by
  show Scf.trips (k0_t2_loop a b c d e f g h p q r s t u v w).lb (k0_t2_loop a b c d e f g h p q r s t u v w).ub 1#32 = 0
  rw [two_bounds]
  exact (ok_empty _).2

/-- The kernel's side condition holds for every counts. -/
theorem chk_all (i : grid0.Coords) : k0_chk1 i a b c d e f g h p q r s t u v w :=
  ⟨fun _ => loop_one _ _ _ _ _ _ _ _ _ _ _ _ _ _ _ _, fun _ => loop_two _ _ _ _ _ _ _ _ _ _ _ _ _ _ _ _⟩

end Cert.Moe
-- ==== Proof.Loop.lean ====
module
public import proofs.«01_k».proof.Proof.Trip
public import proofs.«01_k».proof.Proof.Chk

/-! What the expert loop leaves in the running sum: the trips one after another, each adding into its four tiles. -/

@[expose] public section

set_option maxRecDepth 16384
set_option maxHeartbeats 1000000

noncomputable section

namespace Cert.Moe

open Idealize.ShloMosaic Idealize.ShloMosaic.TcCoe Idealize.SL.Sem Cert.KernelIdeal Cert.KernelIdeal.Gen

variable {F : FTy → Type} [FloatOps F]

/-- The tile a place of the sum lies in, and the place within the tile. -/
def tileOf (y : S2048x1024.Idx) : Fin 4 := ⟨(y 0).val / 512, by have := (y 0).isLt; simp only [S2048x1024] at this; show (y 0).val / 512 < 4; have h : (y 0).val < 2048 := this; omega⟩
def inTile (y : S2048x1024.Idx) : S512x1024.Idx :=
  fun a => match a with
    | ⟨0, _⟩ => (⟨(y 0).val % 512, Nat.mod_lt _ (by decide)⟩ : Fin 512)
    | ⟨1, _⟩ => (⟨(y 1).val, (y 1).isLt⟩ : Fin 1024)

theorem at_tile (y : S2048x1024.Idx) : (tileAt (tileOf y)).emb (inTile y) = y := by
  funext a
  apply Fin.ext
  match a with
  | ⟨0, _⟩ =>
    show 512 * ((y 0).val / 512) + 1 * ((y 0).val % 512) = (y 0).val
    omega
  | ⟨1, _⟩ =>
    show 0 + 1 * (y 1).val = (y 1).val
    omega

theorem tileOf_emb (t : Fin 4) (x : S512x1024.Idx) : tileOf ((tileAt t).emb x) = t := by
  have hx : (x 0).val < 512 := (x 0).isLt
  apply Fin.ext
  show (512 * t.val + 1 * (x 0).val) / 512 = t.val
  omega

theorem inTile_emb (t : Fin 4) (x : S512x1024.Idx) : inTile ((tileAt t).emb x) = x := by
  have hx : (x 0).val < 512 := (x 0).isLt
  funext a
  apply Fin.ext
  match a with
  | ⟨0, _⟩ =>
    show (512 * t.val + 1 * (x 0).val) % 512 = (x 0).val
    omega
  | ⟨1, _⟩ =>
    show 0 + 1 * (x 1).val = (x 1).val
    omega

/-- The sum after the trip numbered `a`. -/
def Group.trip (G : Group F) (a : BitVec 32) (acc : Vec F S2048x1024 .f32) : Vec F S2048x1024 .f32 :=
  fun y => G.tile a (tileOf y) (fun x => acc ((tileAt (tileOf y)).emb x)) (inTile y)

/-- The sum after `n` trips. -/
def Group.run (G : Group F) : ℕ → Vec F S2048x1024 .f32 → Vec F S2048x1024 .f32
  | 0, acc => acc
  | n + 1, acc => G.trip (Scf.iv 0#32 1#32 n) (Group.run G n acc)

/-- Four tiles stored one after another read back tile by tile. -/
theorem read_tiles (v : View sig .tc .vmem S2048x1024 .f32) (f : v.ty.Contents (Elt F)) (p : Fin 4 → (S512x1024.Idx → Elt F .f32)) (y : S2048x1024.Idx) :
    v.read (Elt F) (v.writes (Elt F) f [⟨tileAt 3, p 3⟩, ⟨tileAt 2, p 2⟩, ⟨tileAt 1, p 1⟩, ⟨tileAt 0, p 0⟩]) y = p (tileOf y) (inTile y) := by
  refine View.read_writes_apply_of_pieces v f (fun y => p (tileOf y) (inTile y)) _ ?_ y ?_
  · intro q hq
    simp only [List.mem_cons, List.not_mem_nil, or_false] at hq
    rcases hq with rfl | rfl | rfl | rfl <;> intro x <;> dsimp only <;> rw [tileOf_emb, inTile_emb]
  · have hm : ∀ t : Fin 4, (⟨tileAt t, p t⟩ : View.Piece (Elt F) S2048x1024 .f32) ∈ ([⟨tileAt 3, p 3⟩, ⟨tileAt 2, p 2⟩, ⟨tileAt 1, p 1⟩, ⟨tileAt 0, p 0⟩] : List (View.Piece (Elt F) S2048x1024 .f32)) := by
      intro t
      fin_cases t <;> simp
    refine ⟨_, hm (tileOf y), ?_⟩
    have h : (tileAt (tileOf y)).emb (inTile y) ∈ Finset.univ.map (tileAt (tileOf y)).emb := Finset.mem_map_of_mem _ (Finset.mem_univ _)
    rwa [Rect.map_emb_univ, at_tile] at h

section
variable (𝒱 : Variants) (c : Dev nD) (bd : Option 𝒱.V) (i : grid0.Coords) (arg2 : Memref sig .tc .smem S32x64 .i32) (harg2 : arg2.IsWhole) (arg3 : Memref sig .tc .vmem S2048x1024 .bf16) (harg3 : arg3.IsWhole) (arg4 : Memref sig .tc .vmem S64x2048 .f32) (harg4 : arg4.IsWhole) (arg5 : Memref sig .tc .vmem S512x1024 .f32) (harg5 : arg5.IsWhole) (arg6 : Memref sig .tc .vmem S1x6x1024 .f32) (harg6 : arg6.IsWhole) (arg7 : Memref sig .tc .vmem S4x1024x512 .bf16) (harg7 : arg7.IsWhole) (arg8 : Memref sig .tc .vmem S4x256x1024 .bf16) (harg8 : arg8.IsWhole) (arg9 : Memref sig .tc .vmem S1024x512 .bf16) (harg9 : arg9.IsWhole) (arg10 : Memref sig .tc .vmem S256x1024 .bf16) (harg10 : arg10.IsWhole) (arg11 : Memref sig .tc .vmem S512x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S2048x1024 .f32) (harg15 : arg15.IsWhole) (arg16 : Memref sig .tc .vmem S64x2048 .f32) (harg16 : arg16.IsWhole) (k0_h2 : k0_cond2 i = 1#1) (v9 : BitVec 32) (v15 : Elt F .i32) (v22 : Elt F .i32) (v29 : Elt F .i32) (v36 : Elt F .i32) (v43 : Elt F .i32) (v50 : Elt F .i32) (v57 : Elt F .i32) (v64 : Elt F .i32) (v71 : Elt F .i32) (v78 : Elt F .i32) (v85 : Elt F .i32) (v92 : Elt F .i32) (v99 : Elt F .i32) (v106 : Elt F .i32) (v113 : Elt F .i32) (v120 : Elt F .i32) (k0_hw1 : k0_chk1 i v15 v22 v29 v36 v43 v50 v57 v64 v71 v78 v85 v92 v99 v106 v113 v120) (v122 : BitVec 32) (c96_i32 : BitVec 32) (v123 : BitVec 32) (v128 : BitVec 32) (v130 : BitVec 32) (v131 : BitVec 1) (v142 : Vec F S1x2048 .f32) (v145 : Vec F S1x2048 .f32) (v148 : Vec F S1x2048 .f32) (v151 : Vec F S1x2048 .f32) (v154 : Vec F S1x2048 .f32) (v157 : Vec F S1x2048 .f32) (v160 : Vec F S1x2048 .f32) (v163 : Vec F S1x2048 .f32) (X_arg3 : BufTy.Contents (Elt F) arg3.view.ty) (X_arg7 : BufTy.Contents (Elt F) arg7.view.ty) (X_arg8 : BufTy.Contents (Elt F) arg8.view.ty)

/-- The sum after the first `n` trips of the loop. -/
theorem read_trips (f : BufTy.Contents (Elt F) arg15.view.ty) (n : ℕ) (hn : n ≤ (k0_t1_loop v15 v22 v29 v36 v43 v50 v57 v64 v71 v78 v85 v92 v99 v106 v113 v120).trips) :
    arg15.view.read (Elt F) (arg15.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v9 v15 v22 v29 v36 v43 v50 v57 v64 v71 v78 v85 v92 v99 v106 v113 v120 k0_hw1 v122 c96_i32 v123 v128 v130 v131 v142 v145 v148 v151 v154 v157 v160 v163 X_arg3 X_arg7 X_arg8 f n)) =
      (group ![v142, v145, v148, v151] ![v154, v157, v160, v163] (arg3.view.read (Elt F) X_arg3) (arg7.view.read (Elt F) X_arg7) (arg8.view.read (Elt F) X_arg8)).run n (arg15.view.read (Elt F) f) := by
  induction n with
  | zero => rfl
  | succ n ih =>
    rw [pb_k0_t1_succ (k := ⟨n, hn⟩), View.writes_append]
    have e := ih (by omega)
    rw [trip_tiles]
    funext y
    refine (read_tiles arg15.view _ (fun t => (group ![v142, v145, v148, v151] ![v154, v157, v160, v163] (arg3.view.read (Elt F) X_arg3) (arg7.view.read (Elt F) X_arg7) (arg8.view.read (Elt F) X_arg8)).tile (Scf.iv 0#32 1#32 n) t (fun y => arg15.view.read (Elt F) (arg15.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v9 v15 v22 v29 v36 v43 v50 v57 v64 v71 v78 v85 v92 v99 v106 v113 v120 k0_hw1 v122 c96_i32 v123 v128 v130 v131 v142 v145 v148 v151 v154 v157 v160 v163 X_arg3 X_arg7 X_arg8 f n)) ((tileAt t).emb y))) y).trans ?_
    simp only [e]
    rfl

end

end Cert.Moe
-- ==== Proof.Setup.lean ====
module
public import proofs.«01_k».proof.Proof.Gen.KernelIdeal.Launch
public import proofs.«01_k».proof.Proof.Loop
public import Idealize.ShloMosaic.Lib.Pipeline.FrameBody
public import Idealize.ShloMosaic.Lib.Pipeline.Frame
public import Idealize.ShloMosaic.Lib.Tactic
public import Idealize.ShloMosaic.Lib.WordCmp

/-! The launch: what the host has put in memory when the kernel starts, the counts as the kernel reads them, the blocks each
grid point is handed, and which of the body's three branches a grid point takes. -/

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds when the kernel starts. -/
abbrev Vat (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (Vat m) :=
  Pipeline.hmainP_prefix pcfgs 0 defs₀ 𝒱₀ m main hostOps0 hostOps0_sub host_fresh main_chain

/-- The host writes eight buffers; every other one holds what it was launched with. -/
theorem host_leaves (c : Dev nD) (b : Ref sig .tc) (h : b ≠ main_v0 ∧ b ≠ main_v1 ∧ b ≠ main_v2 ∧ b ≠ main_v3 ∧ b ≠ main_v4 ∧ b ≠ main_v5 ∧ b ≠ main_v6 ∧ b ≠ main_v7) :
    Vat m c b = m ((c : Thread nD τ).loc b) :=
  StableHlo.after_of_forall_not_mem (b := Proc.devRef .tc b) _ _ (List.forall_iff_forall_mem.mp (by
    obtain ⟨h0, h1, h2, h3, h4, h5, h6, h7⟩ := h
    simp only [hostOps0, List.Forall, StableHlo.nullary_writes, StableHlo.unary_writes, StableHlo.binary_writes, Finset.mem_singleton]
    refine ⟨?_, ?_, ?_, ?_, ?_, ?_, ?_, ?_⟩ <;> apply StableHlo.devRef_ne_of_ne <;> assumption))

/-- The counts, as the kernel's table holds them. -/
def tbl : pre0.Contents (Elt F) := fun j => Vat m (0 : Dev nD) (pre0.ref j)

theorem tbl_eq (c : Dev nD) (j : Fin 1) : Vat m c (pre0.ref j) = tbl m j := by
  obtain rfl : c = 0 := Subsingleton.elim _ _
  rfl

theorem tbl_ok : ok0 (F := F) (tbl m) := trivial

abbrev adm : (pcfg0 (F := F)).Adm := ⟨tbl m, tbl_ok m⟩
abbrev cfgM : Pipeline.Cfg sig Λ₀ := cfg0 (adm m)

abbrev tab : Memref sig .tc .smem S32x64 .i32 := Memref.whole main_arg0
abbrev htab : tab.IsWhole := Memref.isWhole_whole _

/-- The table's contents, and the half of it the body is lent. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

theorem lent_eq (c : Dev nD) : (Pipeline.ΦT pre0 (tbl m) c : sProp 𝕄) = iprop(tabPt c tab (tbl m 0)) := by
  unfold Pipeline.ΦT Pipeline.prefHeld
  rw [show (Finset.univ : Finset (Fin 1)) = {(0 : Fin 1)} from by decide, bigSep_singleton]
  rfl

/-- Window `w`'s block at grid point `t`. -/
def blockAt (c : Dev nD) (w : Fin (cfgM m).W) (t : Fin (cfgM m).N) : (((cfgM m).win w).xblock ((cfgM m).grid.coords t)).Idx → Elt F ((cfgM m).win w).elt :=
  (((cfgM m).win w).blk t).view.read (Elt F) (Vat m c (Pipeline.arrRef spec0 w))

/-! Which branch a grid point takes: the twenty points of a group of tokens are the sixteen groups of experts, then the four
tiles to finish. -/

abbrev isFirst (i : grid0.Coords) : Prop := (Scalar.cmpi .ne (Scalar.extui (Scalar.cmpi .eq (BitVec.ofNat 32 (i 1).val) 0#32)) 0#32) = 1#1
abbrev isMid (i : grid0.Coords) : Prop := k0_cond2 i = 1#1
abbrev isLate (i : grid0.Coords) : Prop := k0_cond3 i = 1#1

theorem first_iff : ∀ t : Fin grid0.N, isFirst (grid0.coords t) ↔ t.val % 20 = 0 := by decide +kernel
theorem mid_iff : ∀ t : Fin grid0.N, isMid (grid0.coords t) ↔ t.val % 20 ≤ 15 := by decide +kernel
theorem late_iff : ∀ t : Fin grid0.N, isLate (grid0.coords t) ↔ 16 ≤ t.val % 20 := by decide +kernel

theorem out_idle : ∀ t : Fin (cfgM m).N, t.val % 20 ≤ 15 → (cfgM m).idle 11 (grid0.coords t) = true :=
  (by decide +kernel : ∀ t : Fin grid0.N, t.val % 20 ≤ 15 → idle0 11 (grid0.coords t) = true)
theorem out_kept : ∀ t : Fin (cfgM m).N, t.val % 20 ≤ 15 → ((cfgM m).win 11).flush t = false :=
  (by decide +kernel : ∀ t : Fin grid0.N, t.val % 20 ≤ 15 → Pipeline.Window.flushOf grid0 true cc0_transform_11 t = false)
theorem out_live : ∀ t : Fin (cfgM m).N, 16 ≤ t.val % 20 → (cfgM m).idle 11 (grid0.coords t) = false :=
  (by decide +kernel : ∀ t : Fin grid0.N, 16 ≤ t.val % 20 → idle0 11 (grid0.coords t) = false)

/-- The running sum and the ranks. -/
abbrev accM : Memref sig .tc .vmem S2048x1024 .f32 := Memref.whole cc0_scratch0
abbrev haccM : accM.IsWhole := Memref.isWhole_whole _
abbrev rankM : Memref sig .tc .vmem S64x2048 .f32 := Memref.whole cc0_scratch1
abbrev hrankM : rankM.IsWhole := Memref.isWhole_whole _

/-- The kernel's own buffers and the generator, as the launch hands them over. -/
theorem own_eq (c : Dev nD) : (Pipeline.ΦA spec0 c : sProp 𝕄) = iprop(((∃ d, owns (c : Thread nD τ) accM fullShare d) ∗ (∃ d, owns (c : Thread nD τ) rankM fullShare d)) ∗ (∃ r, prngReg c r)) := by
  unfold Pipeline.ΦA
  rw [scopedRest0_eq]
  simp only [accM, rankM, owns_whole]
  rfl

end Cert.Moe
-- ==== Proof.Point.lean ====
module
public import proofs.«01_k».proof.Proof.Setup
public import proofs.«01_k».proof.Proof.Chk
public import Idealize.ShloMosaic.Lib.WholeRead
public import Idealize.ShloMosaic.Lib.VecWindow

/-! What one grid point computes: the ranks (first point of a group of tokens), the running sum after a group of experts, and
the finished tile (last four points). -/

@[expose] public section
set_option maxRecDepth 16384
noncomputable section
namespace Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The count of tile `a` of this group of tokens for expert `b` of this group of experts. -/
def wordOf (c : Dev nD) (T : TabBuf (F := F) c tab) (i : grid0.Coords) (h : isMid i) (a b : Fin 4) : Elt F .i32 :=
  tab.view.readAt (Elt F) (Rect.unit (s := S32x64) (k0_off1 i (BitVec.ofNat 32 a.val) (BitVec.ofNat 32 b.val)) S1x1.size (k0_off1_inb i h a b)).toLoadRect T (Shape.Idx.first (show 0 < S1x1.numel from by decide))

/-- The row of expert `b` of this group. -/
def rowOf (x : Vec F S64x2048 .f32) (i : grid0.Coords) (h : isMid i) (b : Fin 4) : Vec F S1x2048 .f32 := fun y =>
  x ((Rect.unit (s := S64x2048) (k0_off2 i (BitVec.ofNat 32 b.val)) S1x2048.size (k0_off2_inb i h b)).emb y)

/-- The number of trips this grid point makes. -/
def tripsOf (c : Dev nD) (T : TabBuf (F := F) c tab) (i : grid0.Coords) (h : isMid i) : ℕ :=
  (k0_t1_loop (wordOf c T i h 0 0) (wordOf c T i h 0 1) (wordOf c T i h 0 2) (wordOf c T i h 0 3) (wordOf c T i h 1 0) (wordOf c T i h 1 1) (wordOf c T i h 1 2) (wordOf c T i h 1 3) (wordOf c T i h 2 0) (wordOf c T i h 2 1) (wordOf c T i h 2 2) (wordOf c T i h 2 3) (wordOf c T i h 3 0) (wordOf c T i h 3 1) (wordOf c T i h 3 2) (wordOf c T i h 3 3)).trips

/-- The running sum after a group of experts. -/
def midAcc (c : Dev nD) (T : TabBuf (F := F) c tab) (i : grid0.Coords) (h2 : isMid i) (rank gate : Vec F S64x2048 .f32) (u : Vec F S2048x1024 .bf16) (w : Vec F S4x1024x512 .bf16) (d : Vec F S4x256x1024 .bf16) (acc : Vec F S2048x1024 .f32) : Vec F S2048x1024 .f32 :=
  (group (rowOf rank i h2) (rowOf gate i h2) u w d).run (tripsOf c T i h2) acc

theorem no_second (a b c d e f g h p q r s t u v w : BitVec 32) : Scf.trips (k0_t2_loop a b c d e f g h p q r s t u v w).lb (k0_t2_loop a b c d e f g h p q r s t u v w).ub (k0_t2_loop a b c d e f g h p q r s t u v w).st = 0 :=
  two_trips a b c d e f g h p q r s t u v w

/-- The sum before the first group of experts. -/
def zeros : Vec F S2048x1024 .f32 := shapeCast S2048x1024 (broadcast S2048x1024 (Scalar.ofBits .f32 0x00000000#32)) shapeCasts_S2048x1024_S2048x1024

/-- Which tokens of a tile go to which expert. -/
def chosen (g : Vec F S64x512 .f32) : IVec S64x512 1 := cmpf .ogt g (broadcast S64x512 (Scalar.ofBits .f32 0x00000000#32))

/-- The ranks of one tile: how many earlier tokens of the tile an expert took, minus one where it does not take the token. -/
def rankTile (g : Vec F S64x512 .f32) (up : Vec F S512x512 .bf16) : FVec F S64x512 .f32 :=
  shapeCast S64x512 (select (chosen g)
    (matmul dot_S64x512_S512x512_S64x512_1_0_0_1_n_n none
      (truncf .bf16 (select (chosen g) (broadcast S64x512 (Scalar.ofBits .f32 0x3F800000#32)) (broadcast S64x512 (Scalar.ofBits .f32 0x00000000#32))) bitsLt_bf16_f32)
      (shapeCast S512x512 up shapeCasts_S512x512_S512x512) (constant S64x512 .f32 0x00000000#32))
    (broadcast S64x512 (Scalar.ofBits .f32 0xBF800000#32))) shapeCasts_S64x512_S64x512

theorem in_cols : ∀ t : Fin 4, ∀ a, (![0, 512 * t.val] : Fin 2 → ℕ) a + (![64, 512] : Fin 2 → ℕ) a ≤ S64x2048.size a := by decide

/-- The columns of tile `t`. -/
abbrev colsAt (t : Fin 4) : Rect S64x2048 := Rect.unit ![0, 512 * t.val] ![64, 512] (in_cols t)

/-- The tile a column lies in, and the place in it. -/
def colTile (y : S64x2048.Idx) : Fin 4 := ⟨(y 1).val / 512, by have h : (y 1).val < 2048 := (y 1).isLt; omega⟩
def inCols (y : S64x2048.Idx) : S64x512.Idx := fun a => match a with
  | ⟨0, _⟩ => (⟨(y 0).val, (y 0).isLt⟩ : Fin 64)
  | ⟨1, _⟩ => (⟨(y 1).val % 512, Nat.mod_lt _ (by decide)⟩ : Fin 512)

theorem at_cols (y : S64x2048.Idx) : (colsAt (colTile y)).emb (inCols y) = y := by
  have h : (y 1).val < 2048 := (y 1).isLt
  funext a
  apply Fin.ext
  match a with
  | ⟨0, _⟩ =>
    show 0 + 1 * (y 0).val = (y 0).val
    omega
  | ⟨1, _⟩ =>
    show 512 * ((y 1).val / 512) + 1 * ((y 1).val % 512) = (y 1).val
    omega

theorem colTile_emb (t : Fin 4) (x : S64x512.Idx) : colTile ((colsAt t).emb x) = t := by
  have hx : (x 1).val < 512 := (x 1).isLt
  apply Fin.ext
  show (512 * t.val + 1 * (x 1).val) / 512 = t.val
  omega

theorem inCols_emb (t : Fin 4) (x : S64x512.Idx) : inCols ((colsAt t).emb x) = x := by
  have hx : (x 1).val < 512 := (x 1).isLt
  funext a
  apply Fin.ext
  match a with
  | ⟨0, _⟩ =>
    show 0 + 1 * (x 0).val = (x 0).val
    omega
  | ⟨1, _⟩ =>
    show (512 * t.val + 1 * (x 1).val) % 512 = (x 1).val
    omega

/-- The ranks of the four tiles. -/
def ranks (g : Vec F S64x2048 .f32) (up : Vec F S512x512 .bf16) : Vec F S64x2048 .f32 := fun y =>
  rankTile (fun x => g ((colsAt (colTile y)).emb x)) up (inCols y)

/-- Four tiles of columns stored one after another read back tile by tile. -/
theorem read_cols (v : View sig .tc .vmem S64x2048 .f32) (f : v.ty.Contents (Elt F)) (p : Fin 4 → (S64x512.Idx → Elt F .f32)) (y : S64x2048.Idx) :
    v.read (Elt F) (v.writes (Elt F) f [⟨colsAt 3, p 3⟩, ⟨colsAt 2, p 2⟩, ⟨colsAt 1, p 1⟩, ⟨colsAt 0, p 0⟩]) y = p (colTile y) (inCols y) := by
  refine View.read_writes_apply_of_pieces v f (fun y => p (colTile y) (inCols y)) _ ?_ y ?_
  · intro q hq
    simp only [List.mem_cons, List.not_mem_nil, or_false] at hq
    rcases hq with rfl | rfl | rfl | rfl <;> intro x <;> dsimp only <;> rw [colTile_emb, inCols_emb]
  · have hm : ∀ t : Fin 4, (⟨colsAt t, p t⟩ : View.Piece (Elt F) S64x2048 .f32) ∈ ([⟨colsAt 3, p 3⟩, ⟨colsAt 2, p 2⟩, ⟨colsAt 1, p 1⟩, ⟨colsAt 0, p 0⟩] : List (View.Piece (Elt F) S64x2048 .f32)) := by
      intro t
      fin_cases t <;> simp
    refine ⟨_, hm (colTile y), ?_⟩
    have h : (colsAt (colTile y)).emb (inCols y) ∈ Finset.univ.map (colsAt (colTile y)).emb := Finset.mem_map_of_mem _ (Finset.mem_univ _)
    rwa [Rect.map_emb_univ, at_cols] at h

/-- A tile before its layer norm: the experts' sum plus the shared expert, modulated, plus the scaled input. -/
def beforeNorm (acc : Vec F S512x1024 .f32) (u : Vec F S512x1024 .bf16) (ws : Vec F S1024x512 .bf16) (ds : Vec F S256x1024 .bf16) (md : Vec F S1x1x1024 .f32) (x : Vec F S512x1024 .f32) : FVec F S512x1024 .f32 :=
  let s : FVec F S512x512 .f32 := matmul dot_S512x1024_S1024x512_S512x512_1_0_0_1_n_n none u ws (constant S512x512 .f32 0x00000000#32)
  let a : FVec F S512x256 .f32 := extractStridedSlice S512x256 ![0, 0] s slices_S512x512_o0_0_S512x256
  let r : FVec F S512x256 .f32 := divf (broadcast S512x256 (Scalar.ofBits .f32 0x3F800000#32)) (addf (broadcast S512x256 (Scalar.ofBits .f32 0x3F800000#32)) (exp (subf (broadcast S512x256 (Scalar.ofBits .f32 0x00000000#32)) a)))
  let h : FVec F S512x256 .bf16 := truncf .bf16 (mulf (mulf a r) (extractStridedSlice S512x256 ![0, 256] s slices_S512x512_o0_256_S512x256)) bitsLt_bf16_f32
  let y : FVec F S512x1024 .f32 := addf acc (matmul dot_S512x256_S256x1024_S512x1024_1_0_0_1_n_n none h ds (constant S512x1024 .f32 0x00000000#32))
  addf (mulf (broadcast S512x1024 (Scalar.ofBits .f32 0x3FB504F3#32)) x)
    (mulf (broadcastTo S512x1024 (addf (broadcast S1x1024 (Scalar.ofBits .f32 0x3F800000#32)) (shapeCast S1x1024 md shapeCasts_S1x1x1024_S1x1024)) broadcasts_S1x1024_S512x1024) y)

/-- The mean of each row, as a column. -/
def rowMean (x : FVec F S512x1024 .f32) : FVec F S512x1 .f32 :=
  divf (shapeCast S512x1 (multiReduction .add [1] S512 x 0x00000000#32 reduces_S512x1024_S512 (.inl rfl) rfl) shapeCasts_S512_S512x1) (broadcast S512x1 (Scalar.ofBits .f32 0x44800000#32))

/-- The layer norm of a tile. -/
def normed (x : FVec F S512x1024 .f32) (lg lb : Vec F S1x1024 .f32) : FVec F S512x1024 .f32 :=
  let z : FVec F S512x1024 .f32 := subf x (broadcastTo S512x1024 (rowMean x) broadcasts_S512x1_S512x1024)
  let r : FVec F S512x1 .f32 := rsqrt (addf (rowMean (mulf z z)) (broadcast S512x1 (Scalar.ofBits .f32 0x3727C5AC#32)))
  addf (mulf (mulf z (broadcastTo S512x1024 r broadcasts_S512x1_S512x1024)) (broadcastTo S512x1024 lg broadcasts_S1x1024_S512x1024)) (broadcastTo S512x1024 lb broadcasts_S1x1024_S512x1024)

/-- The tile of a block of four tiles which a late grid point finishes. -/
abbrev lateAt (i : grid0.Coords) (h : isLate i) : Rect S2048x1024 := Rect.unit (k0_off3 i) S512x1024.size (k0_off3_inb i h)

/-- The row of the modulation that scales the sum. -/
abbrev modAt : Rect S1x6x1024 := Rect.unit ![0, 5, 0] S1x1x1024.size inb_S1x6x1024_S1x1x1024_0_5_0

/-- The finished tile. -/
def lateOut (i : grid0.Coords) (h : isLate i) (acc : Vec F S2048x1024 .f32) (u : Vec F S2048x1024 .bf16) (ws : Vec F S1024x512 .bf16) (ds : Vec F S256x1024 .bf16) (md : Vec F S1x6x1024 .f32) (x : Vec F S512x1024 .f32) (lg lb : Vec F S1x1024 .f32) : Vec F S512x1024 .f32 :=
  normed (beforeNorm (fun y => acc ((lateAt i h).emb y)) (fun y => u ((lateAt i h).emb y)) ws ds (fun y => md (modAt.emb y)) x) lg lb

/-- A load of a whole array reads it. -/
theorem load_whole {s : Shape} {e : EltTy} {sp : Space} {M : Memref sig .tc sp s e} (hM : M.IsWhole) (X : s.Idx → Elt F e) {off : Fin s.rank → ℕ} (inb : ∀ a, off a + s.size a ≤ s.size a) :
    M.view.readAt (Elt F) (Rect.unit off s.size inb).toLoadRect (hM.unread X) = X :=
  (View.readAt_full M.view _ inb).trans (hM.read_unread X)

/-- A store of a whole array leaves it. -/
theorem store_whole {s : Shape} {e : EltTy} {sp : Space} (v : View sig .tc sp s e) (f : v.ty.Contents (Elt F)) {off : Fin s.rank → ℕ} (inb : ∀ a, off a + s.size a ≤ s.size a) (x : s.Idx → Elt F e) :
    v.read (Elt F) (v.writes (Elt F) f [⟨Rect.unit off s.size inb, x⟩]) = x := by
  funext y
  have h := View.read_writes_cons_emb v f (Rect.unit off s.size inb) x [] y
  rwa [Rect.emb_unit_full] at h

/-- The four stores of ranks leave the ranks. -/
theorem store_ranks {arg4 : Memref sig .tc .vmem S64x2048 .f32} (harg4 : arg4.IsWhole) {arg11 : Memref sig .tc .vmem S512x512 .bf16} (harg11 : arg11.IsWhole)
    (g : Vec F S64x2048 .f32) (up : Vec F S512x512 .bf16) (v : View sig .tc .vmem S64x2048 .f32) (f : v.ty.Contents (Elt F)) (inb : ∀ a, (![0, 0] : Fin 2 → ℕ) a + S512x512.size a ≤ S512x512.size a) :
    v.read (Elt F) (v.writes (Elt F) f
      [⟨colsAt 3, rankTile (arg4.view.readAt (Elt F) (colsAt 3).toLoadRect (harg4.unread g)) (arg11.view.readAt (Elt F) (Rect.unit (s := S512x512) ![0, 0] S512x512.size inb).toLoadRect (harg11.unread up))⟩,
       ⟨colsAt 2, rankTile (arg4.view.readAt (Elt F) (colsAt 2).toLoadRect (harg4.unread g)) (arg11.view.readAt (Elt F) (Rect.unit (s := S512x512) ![0, 0] S512x512.size inb).toLoadRect (harg11.unread up))⟩,
       ⟨colsAt 1, rankTile (arg4.view.readAt (Elt F) (colsAt 1).toLoadRect (harg4.unread g)) (arg11.view.readAt (Elt F) (Rect.unit (s := S512x512) ![0, 0] S512x512.size inb).toLoadRect (harg11.unread up))⟩,
       ⟨colsAt 0, rankTile (arg4.view.readAt (Elt F) (colsAt 0).toLoadRect (harg4.unread g)) (arg11.view.readAt (Elt F) (Rect.unit (s := S512x512) ![0, 0] S512x512.size inb).toLoadRect (harg11.unread up))⟩])
      = ranks g up := by
  rw [load_whole harg11]
  funext y
  refine (read_cols v f (fun t => rankTile (arg4.view.readAt (Elt F) (colsAt t).toLoadRect (harg4.unread g)) up) y).trans ?_
  refine congrArg (fun a => rankTile a up (inCols y)) ?_
  funext x
  exact harg4.readAt_unread g _ x

end Cert.Moe
-- ==== Proof.RunFirst.lean ====
module
public import proofs.«01_k».proof.Proof.Point
public import proofs.«01_k».proof.Proof.Gen.KernelIdeal.Skeleton
public import Idealize.ShloMosaic.Lib.WholeRead

/-! The first grid point of a group of tokens: the ranks are computed, the running sum starts at nothing and takes the first group's trips. -/

@[expose] public section
set_option maxRecDepth 16384
noncomputable section
namespace Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at such a grid point. -/
theorem run_first (c : Dev nD) (i : grid0.Coords) (h1 : isFirst i) (h2 : isMid i) (h3 : ¬ isLate i) (E : Set ℕ) (K : Unit → sProp 𝕄) (T : TabBuf (F := F) c tab)
    (arg3 : Memref sig .tc .vmem S2048x1024 .bf16) (harg3 : arg3.IsWhole)
    (arg4 : Memref sig .tc .vmem S64x2048 .f32) (harg4 : arg4.IsWhole)
    (arg5 : Memref sig .tc .vmem S512x1024 .f32) (harg5 : arg5.IsWhole)
    (arg6 : Memref sig .tc .vmem S1x6x1024 .f32) (harg6 : arg6.IsWhole)
    (arg7 : Memref sig .tc .vmem S4x1024x512 .bf16) (harg7 : arg7.IsWhole)
    (arg8 : Memref sig .tc .vmem S4x256x1024 .bf16) (harg8 : arg8.IsWhole)
    (arg9 : Memref sig .tc .vmem S1024x512 .bf16) (harg9 : arg9.IsWhole)
    (arg10 : Memref sig .tc .vmem S256x1024 .bf16) (harg10 : arg10.IsWhole)
    (arg11 : Memref sig .tc .vmem S512x512 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S2048x1024 .f32) (harg15 : arg15.IsWhole)
    (arg16 : Memref sig .tc .vmem S64x2048 .f32) (harg16 : arg16.IsWhole)
    (u : Vec F S2048x1024 .bf16)
    (g : Vec F S64x2048 .f32)
    (x : Vec F S512x1024 .f32)
    (md : Vec F S1x6x1024 .f32)
    (w : Vec F S4x1024x512 .bf16)
    (d : Vec F S4x256x1024 .bf16)
    (ws : Vec F S1024x512 .bf16)
    (ds : Vec F S256x1024 .bf16)
    (up : Vec F S512x512 .bf16)
    (lg : Vec F S1x1024 .f32)
    (lb : Vec F S1x1024 .f32)
    (o : Vec F S512x1024 .f32)
    (acc : Vec F S2048x1024 .f32)
    (rk : Vec F S64x2048 .f32)
    :
    owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare o ∗ owns (c : Thread nD τ) arg15 fullShare acc ∗ owns (c : Thread nD τ) arg16 fullShare rk ∗ tabPt c tab T ∗ (iprop(owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare o ∗ owns (c : Thread nD τ) arg15 fullShare (midAcc c T i h2 (ranks g up) g u w d zeros) ∗ owns (c : Thread nD τ) arg16 fullShare (ranks g up) ∗ tabPt c tab T) -∗ K ⟨⟩)
      ⊢ wp frame (wpE (defs₀ (F := F)) Variants.none c none) E (cc0_moe_experts_ln2 i tab htab arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_experts_ln2_eq_skeleton]; unfold cc0_moe_experts_ln2_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  obtain rfl := harg16.eq_unread hf13
  sl_exec (disch := first | sl_exact h1 | sl_exact h2 | sl_exact h3 | sl_exact chk_all _ _ _ _ _ _ _ _ _ _ _ _ _ _ _ _ _)
  sl_step
  iapply Hk
  have hR : arg16.view.read (Elt F) (arg16.view.writes (Elt F) arg16.view.junk (run_first.sl.H13_4 c arg4 harg4 arg11 harg11 g up)) = ranks g up :=
    store_ranks harg4 harg11 g up arg16.view _ _
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [H6]
  · iexists _; isplitr
    · ipureintro; exact harg9.read_unread _
    iexact H6
  isplitl [H7]
  · iexists _; isplitr
    · ipureintro; exact harg10.read_unread _
    iexact H7
  isplitl [H8]
  · iexists _; isplitr
    · ipureintro; exact harg11.read_unread _
    iexact H8
  isplitl [H9]
  · iexists _; isplitr
    · ipureintro; exact harg12.read_unread _
    iexact H9
  isplitl [H10]
  · iexists _; isplitr
    · ipureintro; exact harg13.read_unread _
    iexact H10
  isplitl [H11]
  · iexists _; isplitr
    · ipureintro; exact harg14.read_unread _
    iexact H11
  isplitl [H12]
  · iexists _; isplitr
    rotate_left
    · iexact H12
    · ipureintro
      rw [no_second, pb_k0_t2.eq_1, List.nil_append, View.writes_append]
      refine (read_trips (hn := le_rfl) ..).trans ?_
      simp only [Memref.IsWhole.read_unread]
      refine congrArg₂ (fun (G : Group F) a => G.run (tripsOf c T i h2) a) ?_ (store_whole _ _ _ _)
      refine congrArg₂ (fun a b => group a b u w d) ?_ ?_
      · funext b y
        match b with
        | 0 => exact congrFun hR _
        | 1 => exact congrFun hR _
        | 2 => exact congrFun hR _
        | 3 => exact congrFun hR _
      · funext b y
        match b with
        | 0 => exact harg4.readAt_unread _ _ _
        | 1 => exact harg4.readAt_unread _ _ _
        | 2 => exact harg4.readAt_unread _ _ _
        | 3 => exact harg4.readAt_unread _ _ _
  isplitl [H13]
  · iexists _; isplitr
    rotate_left
    · iexact H13
    · ipureintro
      exact hR
  iexact HT

end Cert.Moe
-- ==== Proof.RunMid.lean ====
module
public import proofs.«01_k».proof.Proof.Point
public import proofs.«01_k».proof.Proof.Gen.KernelIdeal.Skeleton
public import Idealize.ShloMosaic.Lib.WholeRead

/-! A grid point serving a group of experts after the first one: the running sum takes the group's trips, the ranks stay. -/

@[expose] public section
set_option maxRecDepth 16384
noncomputable section
namespace Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at such a grid point. -/
theorem run_mid (c : Dev nD) (i : grid0.Coords) (h1 : ¬ isFirst i) (h2 : isMid i) (h3 : ¬ isLate i) (E : Set ℕ) (K : Unit → sProp 𝕄) (T : TabBuf (F := F) c tab)
    (arg3 : Memref sig .tc .vmem S2048x1024 .bf16) (harg3 : arg3.IsWhole)
    (arg4 : Memref sig .tc .vmem S64x2048 .f32) (harg4 : arg4.IsWhole)
    (arg5 : Memref sig .tc .vmem S512x1024 .f32) (harg5 : arg5.IsWhole)
    (arg6 : Memref sig .tc .vmem S1x6x1024 .f32) (harg6 : arg6.IsWhole)
    (arg7 : Memref sig .tc .vmem S4x1024x512 .bf16) (harg7 : arg7.IsWhole)
    (arg8 : Memref sig .tc .vmem S4x256x1024 .bf16) (harg8 : arg8.IsWhole)
    (arg9 : Memref sig .tc .vmem S1024x512 .bf16) (harg9 : arg9.IsWhole)
    (arg10 : Memref sig .tc .vmem S256x1024 .bf16) (harg10 : arg10.IsWhole)
    (arg11 : Memref sig .tc .vmem S512x512 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S2048x1024 .f32) (harg15 : arg15.IsWhole)
    (arg16 : Memref sig .tc .vmem S64x2048 .f32) (harg16 : arg16.IsWhole)
    (u : Vec F S2048x1024 .bf16)
    (g : Vec F S64x2048 .f32)
    (x : Vec F S512x1024 .f32)
    (md : Vec F S1x6x1024 .f32)
    (w : Vec F S4x1024x512 .bf16)
    (d : Vec F S4x256x1024 .bf16)
    (ws : Vec F S1024x512 .bf16)
    (ds : Vec F S256x1024 .bf16)
    (up : Vec F S512x512 .bf16)
    (lg : Vec F S1x1024 .f32)
    (lb : Vec F S1x1024 .f32)
    (o : Vec F S512x1024 .f32)
    (acc : Vec F S2048x1024 .f32)
    (rk : Vec F S64x2048 .f32)
    :
    owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare o ∗ owns (c : Thread nD τ) arg15 fullShare acc ∗ owns (c : Thread nD τ) arg16 fullShare rk ∗ tabPt c tab T ∗ (iprop(owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare o ∗ owns (c : Thread nD τ) arg15 fullShare (midAcc c T i h2 rk g u w d acc) ∗ owns (c : Thread nD τ) arg16 fullShare rk ∗ tabPt c tab T) -∗ K ⟨⟩)
      ⊢ wp frame (wpE (defs₀ (F := F)) Variants.none c none) E (cc0_moe_experts_ln2 i tab htab arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_experts_ln2_eq_skeleton]; unfold cc0_moe_experts_ln2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  obtain rfl := harg16.eq_unread hf13
  sl_exec (disch := first | sl_exact h1 | sl_exact h2 | sl_exact h3 | sl_exact chk_all _ _ _ _ _ _ _ _ _ _ _ _ _ _ _ _ _)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [H6]
  · iexists _; isplitr
    · ipureintro; exact harg9.read_unread _
    iexact H6
  isplitl [H7]
  · iexists _; isplitr
    · ipureintro; exact harg10.read_unread _
    iexact H7
  isplitl [H8]
  · iexists _; isplitr
    · ipureintro; exact harg11.read_unread _
    iexact H8
  isplitl [H9]
  · iexists _; isplitr
    · ipureintro; exact harg12.read_unread _
    iexact H9
  isplitl [H10]
  · iexists _; isplitr
    · ipureintro; exact harg13.read_unread _
    iexact H10
  isplitl [H11]
  · iexists _; isplitr
    · ipureintro; exact harg14.read_unread _
    iexact H11
  isplitl [H12]
  · iexists _; isplitr
    rotate_left
    · iexact H12
    · ipureintro
      rw [no_second, pb_k0_t2.eq_1, List.nil_append]
      refine (read_trips (hn := le_rfl) ..).trans ?_
      simp only [Memref.IsWhole.read_unread]
      refine congrArg (fun G : Group F => G.run (tripsOf c T i h2) acc) ?_
      refine congrArg₂ (fun a b => group a b u w d) ?_ ?_
      · funext b y
        match b with
        | 0 => exact harg16.readAt_unread _ _ _
        | 1 => exact harg16.readAt_unread _ _ _
        | 2 => exact harg16.readAt_unread _ _ _
        | 3 => exact harg16.readAt_unread _ _ _
      · funext b y
        match b with
        | 0 => exact harg4.readAt_unread _ _ _
        | 1 => exact harg4.readAt_unread _ _ _
        | 2 => exact harg4.readAt_unread _ _ _
        | 3 => exact harg4.readAt_unread _ _ _
  isplitl [H13]
  · iexists _; isplitr
    · ipureintro; exact harg16.read_unread _
    iexact H13
  iexact HT

end Cert.Moe
-- ==== Proof.RunLate.lean ====
module
public import proofs.«01_k».proof.Proof.Point
public import proofs.«01_k».proof.Proof.Gen.KernelIdeal.Skeleton
public import Idealize.ShloMosaic.Lib.WholeRead

/-! One of the last four grid points of a group of tokens: a tile is finished. -/

@[expose] public section
set_option maxRecDepth 16384
noncomputable section
namespace Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at such a grid point. -/
theorem run_late (c : Dev nD) (i : grid0.Coords) (h1 : ¬ isFirst i) (h2 : ¬ isMid i) (h3 : isLate i) (E : Set ℕ) (K : Unit → sProp 𝕄) (T : TabBuf (F := F) c tab)
    (arg3 : Memref sig .tc .vmem S2048x1024 .bf16) (harg3 : arg3.IsWhole)
    (arg4 : Memref sig .tc .vmem S64x2048 .f32) (harg4 : arg4.IsWhole)
    (arg5 : Memref sig .tc .vmem S512x1024 .f32) (harg5 : arg5.IsWhole)
    (arg6 : Memref sig .tc .vmem S1x6x1024 .f32) (harg6 : arg6.IsWhole)
    (arg7 : Memref sig .tc .vmem S4x1024x512 .bf16) (harg7 : arg7.IsWhole)
    (arg8 : Memref sig .tc .vmem S4x256x1024 .bf16) (harg8 : arg8.IsWhole)
    (arg9 : Memref sig .tc .vmem S1024x512 .bf16) (harg9 : arg9.IsWhole)
    (arg10 : Memref sig .tc .vmem S256x1024 .bf16) (harg10 : arg10.IsWhole)
    (arg11 : Memref sig .tc .vmem S512x512 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S2048x1024 .f32) (harg15 : arg15.IsWhole)
    (arg16 : Memref sig .tc .vmem S64x2048 .f32) (harg16 : arg16.IsWhole)
    (u : Vec F S2048x1024 .bf16)
    (g : Vec F S64x2048 .f32)
    (x : Vec F S512x1024 .f32)
    (md : Vec F S1x6x1024 .f32)
    (w : Vec F S4x1024x512 .bf16)
    (d : Vec F S4x256x1024 .bf16)
    (ws : Vec F S1024x512 .bf16)
    (ds : Vec F S256x1024 .bf16)
    (up : Vec F S512x512 .bf16)
    (lg : Vec F S1x1024 .f32)
    (lb : Vec F S1x1024 .f32)
    (o : Vec F S512x1024 .f32)
    (acc : Vec F S2048x1024 .f32)
    (rk : Vec F S64x2048 .f32)
    :
    owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare o ∗ owns (c : Thread nD τ) arg15 fullShare acc ∗ owns (c : Thread nD τ) arg16 fullShare rk ∗ tabPt c tab T ∗ (iprop(owns (c : Thread nD τ) arg3 fullShare u ∗ owns (c : Thread nD τ) arg4 fullShare g ∗ owns (c : Thread nD τ) arg5 fullShare x ∗ owns (c : Thread nD τ) arg6 fullShare md ∗ owns (c : Thread nD τ) arg7 fullShare w ∗ owns (c : Thread nD τ) arg8 fullShare d ∗ owns (c : Thread nD τ) arg9 fullShare ws ∗ owns (c : Thread nD τ) arg10 fullShare ds ∗ owns (c : Thread nD τ) arg11 fullShare up ∗ owns (c : Thread nD τ) arg12 fullShare lg ∗ owns (c : Thread nD τ) arg13 fullShare lb ∗ owns (c : Thread nD τ) arg14 fullShare (lateOut i h3 acc u ws ds md x lg lb) ∗ owns (c : Thread nD τ) arg15 fullShare acc ∗ owns (c : Thread nD τ) arg16 fullShare rk ∗ tabPt c tab T) -∗ K ⟨⟩)
      ⊢ wp frame (wpE (defs₀ (F := F)) Variants.none c none) E (cc0_moe_experts_ln2 i tab htab arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_experts_ln2_eq_skeleton]; unfold cc0_moe_experts_ln2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  obtain rfl := harg16.eq_unread hf13
  sl_exec (disch := first | sl_exact h1 | sl_exact h2 | sl_exact h3 | sl_exact chk_all _ _ _ _ _ _ _ _ _ _ _ _ _ _ _ _ _)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [H6]
  · iexists _; isplitr
    · ipureintro; exact harg9.read_unread _
    iexact H6
  isplitl [H7]
  · iexists _; isplitr
    · ipureintro; exact harg10.read_unread _
    iexact H7
  isplitl [H8]
  · iexists _; isplitr
    · ipureintro; exact harg11.read_unread _
    iexact H8
  isplitl [H9]
  · iexists _; isplitr
    · ipureintro; exact harg12.read_unread _
    iexact H9
  isplitl [H10]
  · iexists _; isplitr
    · ipureintro; exact harg13.read_unread _
    iexact H10
  isplitl [H11]
  · iexists _; isplitr
    rotate_left
    · iexact H11
    · ipureintro
      refine (store_whole _ _ _ _).trans ?_
      have e13 := load_whole harg13 lb inb_S1x1024_S1x1024_0_0
      have e12 : run_late.sl.r_1 c arg12 harg12 lg = lg := load_whole harg12 lg _
      have e : run_late.sl.r c i h3 arg3 harg3 arg5 harg5 arg6 harg6 arg9 harg9 arg10 harg10 arg15 harg15 u x md ws ds acc = beforeNorm (fun y => acc ((lateAt i h3).emb y)) (fun y => u ((lateAt i h3).emb y)) ws ds (fun y => md (modAt.emb y)) x := by
        have a1 := load_whole harg9 ws inb_S1024x512_S1024x512_0_0
        have a2 := load_whole harg10 ds inb_S256x1024_S256x1024_0_0
        have a3 := load_whole harg5 x inb_S512x1024_S512x1024_0_0
        have a4 : arg15.view.readAt (Elt F) (lateAt i h3).toLoadRect (harg15.unread acc) = fun y => acc ((lateAt i h3).emb y) := funext fun y => harg15.readAt_unread _ _ _
        have a5 : arg3.view.readAt (Elt F) (lateAt i h3).toLoadRect (harg3.unread u) = fun y => u ((lateAt i h3).emb y) := funext fun y => harg3.readAt_unread _ _ _
        have a6 : arg6.view.readAt (Elt F) modAt.toLoadRect (harg6.unread md) = fun y => md (modAt.emb y) := funext fun y => harg6.readAt_unread _ _ _
        refine Eq.trans ?_ (congrArg (fun q => beforeNorm q _ ws ds _ x) a4)
        refine Eq.trans ?_ (congrArg (fun q => beforeNorm _ q ws ds _ x) a5)
        refine Eq.trans ?_ (congrArg (fun q => beforeNorm _ _ ws ds q x) a6)
        refine Eq.trans ?_ (congrArg (fun q => beforeNorm _ _ ws ds _ q) a3)
        refine Eq.trans ?_ (congrArg (fun q => beforeNorm _ _ ws q _ _) a2)
        refine Eq.trans ?_ (congrArg (fun q => beforeNorm _ _ q _ _ _) a1)
        rfl
      rw [e12, e, e13]
      rfl
  isplitl [H12]
  · iexists _; isplitr
    · ipureintro; exact harg15.read_unread _
    iexact H12
  isplitl [H13]
  · iexists _; isplitr
    · ipureintro; exact harg16.read_unread _
    iexact H13
  iexact HT

end Cert.Moe
-- ==== Proof.Frame.lean ====
module
public import proofs.«01_k».proof.Proof.RunFirst
public import proofs.«01_k».proof.Proof.RunMid
public import proofs.«01_k».proof.Proof.RunLate

/-! The launch as a whole: what the running sum and the ranks hold after every grid point, the body at every grid point, and
the run of the program. -/

@[expose] public section
set_option maxRecDepth 16384
noncomputable section
namespace Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The blocks of a grid point. -/

abbrev uAt (c : Dev nD) (t : Fin (cfgM m).N) : Vec F S2048x1024 .bf16 := blockAt m c 0 t
abbrev gAt (c : Dev nD) (t : Fin (cfgM m).N) : Vec F S64x2048 .f32 := blockAt m c 1 t
abbrev xAt (c : Dev nD) (t : Fin (cfgM m).N) : Vec F S512x1024 .f32 := blockAt m c 2 t
abbrev mdAt (c : Dev nD) (t : Fin (cfgM m).N) : Vec F S1x6x1024 .f32 := blockAt m c 3 t
abbrev wAt' (c : Dev nD) (t : Fin (cfgM m).N) : Vec F S4x1024x512 .bf16 := blockAt m c 4 t
abbrev dAt' (c : Dev nD) (t : Fin (cfgM m).N) : Vec F S4x256x1024 .bf16 := blockAt m c 5 t
abbrev wsAt (c : Dev nD) (t : Fin (cfgM m).N) : Vec F S1024x512 .bf16 := blockAt m c 6 t
abbrev dsAt (c : Dev nD) (t : Fin (cfgM m).N) : Vec F S256x1024 .bf16 := blockAt m c 7 t
abbrev upAt (c : Dev nD) (t : Fin (cfgM m).N) : Vec F S512x512 .bf16 := blockAt m c 8 t
abbrev lgAt (c : Dev nD) (t : Fin (cfgM m).N) : Vec F S1x1024 .f32 := blockAt m c 9 t
abbrev lbAt (c : Dev nD) (t : Fin (cfgM m).N) : Vec F S1x1024 .f32 := blockAt m c 10 t

/-- The running sum and the ranks. -/
abbrev State (F : FTy → Type) : Type := Vec F S2048x1024 .f32 × Vec F S64x2048 .f32

/-- What a grid point makes of them. -/
def stepAt (c : Dev nD) (t : Fin (cfgM m).N) (s : State F) : State F :=
  if h : t.val % 20 ≤ 15 then
    if t.val % 20 = 0 then
      (midAcc c (tbl m 0) (grid0.coords t) ((mid_iff t).mpr h) (ranks (gAt m c t) (upAt m c t)) (gAt m c t) (uAt m c t) (wAt' m c t) (dAt' m c t) zeros, ranks (gAt m c t) (upAt m c t))
    else (midAcc c (tbl m 0) (grid0.coords t) ((mid_iff t).mpr h) s.2 (gAt m c t) (uAt m c t) (wAt' m c t) (dAt' m c t) s.1, s.2)
  else s

theorem step_first (c : Dev nD) (t : Fin (cfgM m).N) (s : State F) (h : t.val % 20 ≤ 15) (h0 : t.val % 20 = 0) :
    stepAt m c t s = (midAcc c (tbl m 0) (grid0.coords t) ((mid_iff t).mpr h) (ranks (gAt m c t) (upAt m c t)) (gAt m c t) (uAt m c t) (wAt' m c t) (dAt' m c t) zeros, ranks (gAt m c t) (upAt m c t)) := by
  unfold stepAt; rw [dif_pos h, if_pos h0]

theorem step_mid (c : Dev nD) (t : Fin (cfgM m).N) (s : State F) (h : t.val % 20 ≤ 15) (h0 : ¬ t.val % 20 = 0) :
    stepAt m c t s = (midAcc c (tbl m 0) (grid0.coords t) ((mid_iff t).mpr h) s.2 (gAt m c t) (uAt m c t) (wAt' m c t) (dAt' m c t) s.1, s.2) := by
  unfold stepAt; rw [dif_pos h, if_neg h0]

theorem step_late (c : Dev nD) (t : Fin (cfgM m).N) (s : State F) (h : ¬ t.val % 20 ≤ 15) : stepAt m c t s = s := by
  unfold stepAt; rw [dif_neg h]

/-- What they hold before grid point `n`. -/
def stateAt (c : Dev nD) : ℕ → State F
  | 0 => (zeros, fun _ => Scalar.ofBits .f32 0x00000000#32)
  | n + 1 => if h : n < (cfgM m).N then stepAt m c ⟨n, h⟩ (stateAt c n) else stateAt c n

theorem stateAt_succ (c : Dev nD) (t : Fin (cfgM m).N) : stateAt m c (t.val + 1) = stepAt m c t (stateAt m c t.val) := by
  show (if h : t.val < (cfgM m).N then stepAt m c ⟨t.val, h⟩ (stateAt m c t.val) else stateAt m c t.val) = _
  rw [dif_pos t.isLt]

/-- The tile a grid point finishes, or the last one where it finishes none. -/
def outAt (c : Dev nD) (t : Fin (cfgM m).N) : Vec F S512x1024 .f32 :=
  if h : 16 ≤ t.val % 20 then
    lateOut (grid0.coords t) ((late_iff t).mpr h) (stateAt m c t.val).1 (uAt m c t) (wsAt m c t) (dsAt m c t) (mdAt m c t) (xAt m c t) (lgAt m c t) (lbAt m c t)
  else xAt m c t

/-- What is held between grid points: at the start anything, later the running sum and the ranks at what was computed; and the
half of the counts. -/
def held (c : Dev nD) : ℕ → sProp 𝕄
  | 0 => iprop(Pipeline.ΦA spec0 c ∗ tabPt c tab (tbl m 0))
  | n + 1 => iprop(((owns (c : Thread nD τ) accM fullShare (stateAt m c (n + 1)).1 ∗ owns (c : Thread nD τ) rankM fullShare (stateAt m c (n + 1)).2) ∗ (∃ r, prngReg c r)) ∗ tabPt c tab (tbl m 0))

theorem held_pos (c : Dev nD) (n : ℕ) (h : n ≠ 0) :
    held m c n = iprop(((owns (c : Thread nD τ) accM fullShare (stateAt m c n).1 ∗ owns (c : Thread nD τ) rankM fullShare (stateAt m c n).2) ∗ (∃ r, prngReg c r)) ∗ tabPt c tab (tbl m 0)) := by
  cases n with
  | zero => exact absurd rfl h
  | succ n => rfl

/-- The plan of the launch. -/
def dats (_ : Fin 1) (c : Dev nD) : Dat τ (Elt F) Unit ℕ (UR sig nD τ) ℕ (cfgM m) c where
  A w := Vat m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => outAt m c t
  Φ t := held m c t.val
  q _ := fullShare
  owed _ := 0

theorem A_eq (c : Dev nD) (w : Fin (cfgM m).W) : (dats m 0 c).A w = Vat m c (Pipeline.arrRef spec0 w) := by dsimp only [dats]

theorem phi_eq (c : Dev nD) (k : Fin ((cfgM m).N + 1)) : (dats m 0 c).Φ k = held m c k.val := by dsimp only [dats]

/-- A window that is live leaves its buffer at what is planned. -/
theorem leaves_live (c : Dev nD) (t : Fin (cfgM m).N) (w : Fin (cfgM m).W) (h : (cfgM m).idle w (grid0.coords t) = false) :
    (dats m 0 c).leavesExact w t = owns (c : Thread nD τ) (((cfgM m).win w).stage ((cfgM m).slots t w)) fullShare ((dats m 0 c).after w t) := by
  unfold Dat.leavesExact
  rw [show (cfgM m).idle w ((cfgM m).grid.coords t) = false from h]

/-! An input window holds its block at every grid point, and keeps it. -/

theorem after_0 (c : Dev nD) (t : Fin (cfgM m).N) : (dats m 0 c).after 0 t = blockAt m c 0 t := by dsimp only [dats]; try rfl
theorem after_1 (c : Dev nD) (t : Fin (cfgM m).N) : (dats m 0 c).after 1 t = blockAt m c 1 t := by dsimp only [dats]; try rfl
theorem after_2 (c : Dev nD) (t : Fin (cfgM m).N) : (dats m 0 c).after 2 t = blockAt m c 2 t := by dsimp only [dats]; try rfl
theorem after_3 (c : Dev nD) (t : Fin (cfgM m).N) : (dats m 0 c).after 3 t = blockAt m c 3 t := by dsimp only [dats]; try rfl
theorem after_4 (c : Dev nD) (t : Fin (cfgM m).N) : (dats m 0 c).after 4 t = blockAt m c 4 t := by dsimp only [dats]; try rfl
theorem after_5 (c : Dev nD) (t : Fin (cfgM m).N) : (dats m 0 c).after 5 t = blockAt m c 5 t := by dsimp only [dats]; try rfl
theorem after_6 (c : Dev nD) (t : Fin (cfgM m).N) : (dats m 0 c).after 6 t = blockAt m c 6 t := by dsimp only [dats]; try rfl
theorem after_7 (c : Dev nD) (t : Fin (cfgM m).N) : (dats m 0 c).after 7 t = blockAt m c 7 t := by dsimp only [dats]; try rfl
theorem after_8 (c : Dev nD) (t : Fin (cfgM m).N) : (dats m 0 c).after 8 t = blockAt m c 8 t := by dsimp only [dats]; try rfl
theorem after_9 (c : Dev nD) (t : Fin (cfgM m).N) : (dats m 0 c).after 9 t = blockAt m c 9 t := by dsimp only [dats]; try rfl
theorem after_10 (c : Dev nD) (t : Fin (cfgM m).N) : (dats m 0 c).after 10 t = blockAt m c 10 t := by dsimp only [dats]; try rfl
theorem after_11 (c : Dev nD) (t : Fin (cfgM m).N) : (dats m 0 c).after 11 t = outAt m c t := by dsimp only [dats]; try rfl

theorem before_0 (c : Dev nD) (t : Fin (cfgM m).N) (d) : (dats m 0 c).before 0 t d = blockAt m c 0 t :=
  ((dats m 0 c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin (cfgM m).N) (d) : (dats m 0 c).before 1 t d = blockAt m c 1 t :=
  ((dats m 0 c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin (cfgM m).N) (d) : (dats m 0 c).before 2 t d = blockAt m c 2 t :=
  ((dats m 0 c).before_in_eq_fetched 2 rfl (fun _ => rfl) (fun _ _ _ => rfl) (fun t => by rw [after_2]; unfold Dat.blockOf blockAt; rw [A_eq]; try rfl) t d).trans
    (by unfold Dat.fetched Dat.blockOf blockAt; rw [A_eq]; try rfl)
theorem before_3 (c : Dev nD) (t : Fin (cfgM m).N) (d) : (dats m 0 c).before 3 t d = blockAt m c 3 t :=
  ((dats m 0 c).before_in_eq_fetched 3 rfl (fun _ => rfl) (fun _ _ _ => rfl) (fun t => by rw [after_3]; unfold Dat.blockOf blockAt; rw [A_eq]; try rfl) t d).trans
    (by unfold Dat.fetched Dat.blockOf blockAt; rw [A_eq]; try rfl)
theorem before_4 (c : Dev nD) (t : Fin (cfgM m).N) (d) : (dats m 0 c).before 4 t d = blockAt m c 4 t :=
  ((dats m 0 c).before_in_eq_fetched 4 rfl (fun _ => rfl) (fun _ _ _ => rfl) (fun t => by rw [after_4]; unfold Dat.blockOf blockAt; rw [A_eq]; try rfl) t d).trans
    (by unfold Dat.fetched Dat.blockOf blockAt; rw [A_eq]; try rfl)
theorem before_5 (c : Dev nD) (t : Fin (cfgM m).N) (d) : (dats m 0 c).before 5 t d = blockAt m c 5 t :=
  ((dats m 0 c).before_in_eq_fetched 5 rfl (fun _ => rfl) (fun _ _ _ => rfl) (fun t => by rw [after_5]; unfold Dat.blockOf blockAt; rw [A_eq]; try rfl) t d).trans
    (by unfold Dat.fetched Dat.blockOf blockAt; rw [A_eq]; try rfl)
theorem before_6 (c : Dev nD) (t : Fin (cfgM m).N) (d) : (dats m 0 c).before 6 t d = blockAt m c 6 t :=
  ((dats m 0 c).before_in_eq_fetched 6 rfl (fun _ => rfl) (fun _ _ _ => rfl) (fun t => by rw [after_6]; unfold Dat.blockOf blockAt; rw [A_eq]; try rfl) t d).trans
    (by unfold Dat.fetched Dat.blockOf blockAt; rw [A_eq]; try rfl)
theorem before_7 (c : Dev nD) (t : Fin (cfgM m).N) (d) : (dats m 0 c).before 7 t d = blockAt m c 7 t :=
  ((dats m 0 c).before_in_eq_fetched 7 rfl (fun _ => rfl) (fun _ _ _ => rfl) (fun t => by rw [after_7]; unfold Dat.blockOf blockAt; rw [A_eq]; try rfl) t d).trans
    (by unfold Dat.fetched Dat.blockOf blockAt; rw [A_eq]; try rfl)
theorem before_8 (c : Dev nD) (t : Fin (cfgM m).N) (d) : (dats m 0 c).before 8 t d = blockAt m c 8 t :=
  ((dats m 0 c).before_in_eq_fetched 8 rfl (fun _ => rfl) (fun _ _ _ => rfl) (fun t => by rw [after_8]; unfold Dat.blockOf blockAt; rw [A_eq]; try rfl) t d).trans
    (by unfold Dat.fetched Dat.blockOf blockAt; rw [A_eq]; try rfl)
theorem before_9 (c : Dev nD) (t : Fin (cfgM m).N) (d) : (dats m 0 c).before 9 t d = blockAt m c 9 t :=
  ((dats m 0 c).before_in_eq_fetched 9 rfl (fun _ => rfl) (fun _ _ _ => rfl) (fun t => by rw [after_9]; unfold Dat.blockOf blockAt; rw [A_eq]; try rfl) t d).trans
    (by unfold Dat.fetched Dat.blockOf blockAt; rw [A_eq]; try rfl)
theorem before_10 (c : Dev nD) (t : Fin (cfgM m).N) (d) : (dats m 0 c).before 10 t d = blockAt m c 10 t :=
  ((dats m 0 c).before_in_eq_fetched 10 rfl (fun _ => rfl) (fun _ _ _ => rfl) (fun t => by rw [after_10]; unfold Dat.blockOf blockAt; rw [A_eq]; try rfl) t d).trans
    (by unfold Dat.fetched Dat.blockOf blockAt; rw [A_eq]; try rfl)

/-- The body at a grid point, on its windows' buffers. -/
def bodyAt (t : Fin (cfgM (F := F) m).N) :=
  cc0_moe_experts_ln2 (F := F) (grid0.coords t) tab htab (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) accM haccM rankM hrankM

/-- The windows' buffers before the body. -/
def bufsPre (c : Dev nD) (t : Fin (cfgM m).N) : sProp 𝕄 :=
  iprop((∃ d, owns (c : Thread nD τ) (spec0_0.stage ((cfgM m).slots t 0)) fullShare ((dats m 0 c).before 0 t d)) ∗ (∃ d, owns (c : Thread nD τ) (spec0_1.stage ((cfgM m).slots t 1)) fullShare ((dats m 0 c).before 1 t d)) ∗ (∃ d, owns (c : Thread nD τ) (spec0_2.stage ((cfgM m).slots t 2)) fullShare ((dats m 0 c).before 2 t d)) ∗ (∃ d, owns (c : Thread nD τ) (spec0_3.stage ((cfgM m).slots t 3)) fullShare ((dats m 0 c).before 3 t d)) ∗ (∃ d, owns (c : Thread nD τ) (spec0_4.stage ((cfgM m).slots t 4)) fullShare ((dats m 0 c).before 4 t d)) ∗ (∃ d, owns (c : Thread nD τ) (spec0_5.stage ((cfgM m).slots t 5)) fullShare ((dats m 0 c).before 5 t d)) ∗ (∃ d, owns (c : Thread nD τ) (spec0_6.stage ((cfgM m).slots t 6)) fullShare ((dats m 0 c).before 6 t d)) ∗ (∃ d, owns (c : Thread nD τ) (spec0_7.stage ((cfgM m).slots t 7)) fullShare ((dats m 0 c).before 7 t d)) ∗ (∃ d, owns (c : Thread nD τ) (spec0_8.stage ((cfgM m).slots t 8)) fullShare ((dats m 0 c).before 8 t d)) ∗ (∃ d, owns (c : Thread nD τ) (spec0_9.stage ((cfgM m).slots t 9)) fullShare ((dats m 0 c).before 9 t d)) ∗ (∃ d, owns (c : Thread nD τ) (spec0_10.stage ((cfgM m).slots t 10)) fullShare ((dats m 0 c).before 10 t d)) ∗ (∃ d, owns (c : Thread nD τ) (spec0_11.stage ((cfgM m).slots t 11)) fullShare ((dats m 0 c).before 11 t d)))

/-- and after it. -/
def bufsPost (c : Dev nD) (t : Fin (cfgM m).N) : sProp 𝕄 :=
  iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- The inputs' buffers, which the body reads only. -/
def inputs (c : Dev nD) (t : Fin (cfgM m).N) (P : sProp 𝕄) : sProp 𝕄 :=
  iprop(owns (c : Thread nD τ) (spec0_0.stage ((cfgM m).slots t 0)) fullShare (blockAt m c 0 t) ∗ owns (c : Thread nD τ) (spec0_1.stage ((cfgM m).slots t 1)) fullShare (blockAt m c 1 t) ∗ owns (c : Thread nD τ) (spec0_2.stage ((cfgM m).slots t 2)) fullShare (blockAt m c 2 t) ∗ owns (c : Thread nD τ) (spec0_3.stage ((cfgM m).slots t 3)) fullShare (blockAt m c 3 t) ∗ owns (c : Thread nD τ) (spec0_4.stage ((cfgM m).slots t 4)) fullShare (blockAt m c 4 t) ∗ owns (c : Thread nD τ) (spec0_5.stage ((cfgM m).slots t 5)) fullShare (blockAt m c 5 t) ∗ owns (c : Thread nD τ) (spec0_6.stage ((cfgM m).slots t 6)) fullShare (blockAt m c 6 t) ∗ owns (c : Thread nD τ) (spec0_7.stage ((cfgM m).slots t 7)) fullShare (blockAt m c 7 t) ∗ owns (c : Thread nD τ) (spec0_8.stage ((cfgM m).slots t 8)) fullShare (blockAt m c 8 t) ∗ owns (c : Thread nD τ) (spec0_9.stage ((cfgM m).slots t 9)) fullShare (blockAt m c 9 t) ∗ owns (c : Thread nD τ) (spec0_10.stage ((cfgM m).slots t 10)) fullShare (blockAt m c 10 t) ∗ P)

theorem pre_inputs (c : Dev nD) (t : Fin (cfgM m).N) : bufsPre m c t ⊢ inputs m c t iprop(∃ d, owns (c : Thread nD τ) (spec0_11.stage ((cfgM m).slots t 11)) fullShare ((dats m 0 c).before 11 t d)) := by
  unfold bufsPre inputs
  simp only [before_0, before_1, before_2, before_3, before_4, before_5, before_6, before_7, before_8, before_9, before_10]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem post_inputs (c : Dev nD) (t : Fin (cfgM m).N) : inputs m c t ((dats m 0 c).leavesExact 11 t) ⊢ bufsPost m c t := by
  unfold bufsPost inputs
  rw [leaves_live m c t 0 rfl, after_0]
  rw [leaves_live m c t 1 rfl, after_1]
  rw [leaves_live m c t 2 rfl, after_2]
  rw [leaves_live m c t 3 rfl, after_3]
  rw [leaves_live m c t 4 rfl, after_4]
  rw [leaves_live m c t 5 rfl, after_5]
  rw [leaves_live m c t 6 rfl, after_6]
  rw [leaves_live m c t 7 rfl, after_7]
  rw [leaves_live m c t 8 rfl, after_8]
  rw [leaves_live m c t 9 rfl, after_9]
  rw [leaves_live m c t 10 rfl, after_10]
  exact .rfl

set_option maxHeartbeats 2000000 in
/-- The body at the first grid point of a group of tokens. -/
theorem at_first (c : Dev nD) (t : Fin (cfgM m).N) (h : t.val % 20 ≤ 15) (h0 : t.val % 20 = 0) (E : Set ℕ) :
    iprop((((∃ d, owns (c : Thread nD τ) accM fullShare d) ∗ (∃ d, owns (c : Thread nD τ) rankM fullShare d)) ∗ tabPt c tab (tbl m 0)) ∗ inputs m c t iprop(∃ d, owns (c : Thread nD τ) (spec0_11.stage ((cfgM m).slots t 11)) fullShare ((dats m 0 c).before 11 t d)))
      ⊢ wp frame (wpE (defs₀ (F := F)) Variants.none c none) E (bodyAt m t) (fun _ =>
        iprop(((owns (c : Thread nD τ) accM fullShare (stateAt m c (t.val + 1)).1 ∗ owns (c : Thread nD τ) rankM fullShare (stateAt m c (t.val + 1)).2) ∗ tabPt c tab (tbl m 0)) ∗ inputs m c t ((dats m 0 c).leavesExact 11 t))) := by
  unfold inputs bodyAt
  rw [Dat.leavesExact_idle (dats m 0 c) 11 t (out_idle m t h) (out_kept m t h), stateAt_succ, step_first m c t _ h h0]
  iintro ⟨⟨⟨⟨%dA, HA⟩, ⟨%dR, HR⟩⟩, HT⟩, H0, H1, H2, H3, H4, H5, H6, H7, H8, H9, H10, ⟨%d11, H11⟩⟩
  iapply (run_first c (grid0.coords t) ((first_iff t).mpr h0) ((mid_iff t).mpr h) (fun q => absurd ((late_iff t).mp q) (by omega)) E _ (tbl m 0) _ _ _ _ _ _ _ _ _ _ _ _ _ _ _ _ _ _ _ _ _ _ _ _ _ _ _ _ (uAt m c t) (gAt m c t) (xAt m c t) (mdAt m c t) (wAt' m c t) (dAt' m c t) (wsAt m c t) (dsAt m c t) (upAt m c t) (lgAt m c t) (lbAt m c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HR]; · iexact HR
  isplitl [HT]; · iexact HT
  iintro ⟨H0, H1, H2, H3, H4, H5, H6, H7, H8, H9, H10, H11, HA, HR, HT⟩
  isplitl [HA HR HT]
  · isplitl [HA HR]
    · isplitl [HA]
      · iexact HA
      iexact HR
    iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 2000000 in
/-- The body at the other grid points which serve experts. -/
theorem at_mid (c : Dev nD) (t : Fin (cfgM m).N) (h : t.val % 20 ≤ 15) (h0 : ¬ t.val % 20 = 0) (E : Set ℕ) :
    iprop(((owns (c : Thread nD τ) accM fullShare (stateAt m c t.val).1 ∗ owns (c : Thread nD τ) rankM fullShare (stateAt m c t.val).2) ∗ tabPt c tab (tbl m 0)) ∗ inputs m c t iprop(∃ d, owns (c : Thread nD τ) (spec0_11.stage ((cfgM m).slots t 11)) fullShare ((dats m 0 c).before 11 t d)))
      ⊢ wp frame (wpE (defs₀ (F := F)) Variants.none c none) E (bodyAt m t) (fun _ =>
        iprop(((owns (c : Thread nD τ) accM fullShare (stateAt m c (t.val + 1)).1 ∗ owns (c : Thread nD τ) rankM fullShare (stateAt m c (t.val + 1)).2) ∗ tabPt c tab (tbl m 0)) ∗ inputs m c t ((dats m 0 c).leavesExact 11 t))) := by
  unfold inputs bodyAt
  rw [Dat.leavesExact_idle (dats m 0 c) 11 t (out_idle m t h) (out_kept m t h), stateAt_succ, step_mid m c t _ h h0]
  iintro ⟨⟨⟨HA, HR⟩, HT⟩, H0, H1, H2, H3, H4, H5, H6, H7, H8, H9, H10, ⟨%d11, H11⟩⟩
  iapply (run_mid c (grid0.coords t) (fun q => h0 ((first_iff t).mp q)) ((mid_iff t).mpr h) (fun q => absurd ((late_iff t).mp q) (by omega)) E _ (tbl m 0) _ _ _ _ _ _ _ _ _ _ _ _ _ _ _ _ _ _ _ _ _ _ _ _ _ _ _ _ (uAt m c t) (gAt m c t) (xAt m c t) (mdAt m c t) (wAt' m c t) (dAt' m c t) (wsAt m c t) (dsAt m c t) (upAt m c t) (lgAt m c t) (lbAt m c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HR]; · iexact HR
  isplitl [HT]; · iexact HT
  iintro ⟨H0, H1, H2, H3, H4, H5, H6, H7, H8, H9, H10, H11, HA, HR, HT⟩
  isplitl [HA HR HT]
  · isplitl [HA HR]
    · isplitl [HA]
      · iexact HA
      iexact HR
    iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 2000000 in
/-- The body at a grid point which finishes a tile. -/
theorem at_late (c : Dev nD) (t : Fin (cfgM m).N) (h : 16 ≤ t.val % 20) (E : Set ℕ) :
    iprop(((owns (c : Thread nD τ) accM fullShare (stateAt m c t.val).1 ∗ owns (c : Thread nD τ) rankM fullShare (stateAt m c t.val).2) ∗ tabPt c tab (tbl m 0)) ∗ inputs m c t iprop(∃ d, owns (c : Thread nD τ) (spec0_11.stage ((cfgM m).slots t 11)) fullShare ((dats m 0 c).before 11 t d)))
      ⊢ wp frame (wpE (defs₀ (F := F)) Variants.none c none) E (bodyAt m t) (fun _ =>
        iprop(((owns (c : Thread nD τ) accM fullShare (stateAt m c (t.val + 1)).1 ∗ owns (c : Thread nD τ) rankM fullShare (stateAt m c (t.val + 1)).2) ∗ tabPt c tab (tbl m 0)) ∗ inputs m c t ((dats m 0 c).leavesExact 11 t))) := by
  unfold inputs bodyAt
  rw [leaves_live m c t 11 (out_live m t h), after_11, stateAt_succ, step_late m c t _ (by omega)]
  unfold outAt
  rw [dif_pos h]
  iintro ⟨⟨⟨HA, HR⟩, HT⟩, H0, H1, H2, H3, H4, H5, H6, H7, H8, H9, H10, ⟨%d11, H11⟩⟩
  iapply (run_late c (grid0.coords t) (fun q => absurd ((first_iff t).mp q) (by omega)) (fun q => absurd ((mid_iff t).mp q) (by omega)) ((late_iff t).mpr h) E _ (tbl m 0) _ _ _ _ _ _ _ _ _ _ _ _ _ _ _ _ _ _ _ _ _ _ _ _ _ _ _ _ (uAt m c t) (gAt m c t) (xAt m c t) (mdAt m c t) (wAt' m c t) (dAt' m c t) (wsAt m c t) (dsAt m c t) (upAt m c t) (lgAt m c t) (lbAt m c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HR]; · iexact HR
  isplitl [HT]; · iexact HT
  iintro ⟨H0, H1, H2, H3, H4, H5, H6, H7, H8, H9, H10, H11, HA, HR, HT⟩
  isplitl [HA HR HT]
  · isplitl [HA HR]
    · isplitl [HA]
      · iexact HA
      iexact HR
    iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any grid point, from what is held to what is held. -/
theorem at_any (c : Dev nD) (t : Fin (cfgM m).N) (E : Set ℕ) :
    iprop(held m c t.val ∗ inputs m c t iprop(∃ d, owns (c : Thread nD τ) (spec0_11.stage ((cfgM m).slots t 11)) fullShare ((dats m 0 c).before 11 t d)))
      ⊢ wp frame (wpE (defs₀ (F := F)) Variants.none c none) E (bodyAt m t) (fun _ => iprop(held m c (t.val + 1) ∗ inputs m c t ((dats m 0 c).leavesExact 11 t))) := by
  rw [held_pos m c (t.val + 1) (Nat.succ_ne_zero _)]
  have reg : ∀ S S' I I' : sProp 𝕄, (iprop((S ∗ tabPt c tab (tbl m 0)) ∗ I) ⊢ wp frame (wpE (defs₀ (F := F)) Variants.none c none) E (bodyAt m t) (fun _ => iprop((S' ∗ tabPt c tab (tbl m 0)) ∗ I')))
      → (iprop(((S ∗ (∃ r, prngReg c r)) ∗ tabPt c tab (tbl m 0)) ∗ I) ⊢ wp frame (wpE (defs₀ (F := F)) Variants.none c none) E (bodyAt m t) (fun _ => iprop(((S' ∗ (∃ r, prngReg c r)) ∗ tabPt c tab (tbl m 0)) ∗ I'))) := by
    intro S S' I I' h
    have e1 : iprop(((S ∗ (∃ r, prngReg c r)) ∗ tabPt c tab (tbl m 0)) ∗ I) ⊢ iprop(((S ∗ tabPt c tab (tbl m 0)) ∗ I) ∗ (∃ r, prngReg c r) : sProp 𝕄) := by
      iintro ⟨⟨⟨HS, Hg⟩, HT⟩, HI⟩
      isplitr [Hg]
      · isplitr [HI]
        · isplitl [HS]
          · iexact HS
          iexact HT
        iexact HI
      iexact Hg
    have e2 : iprop(((S' ∗ tabPt c tab (tbl m 0)) ∗ I') ∗ (∃ r, prngReg c r) : sProp 𝕄) ⊢ iprop(((S' ∗ (∃ r, prngReg c r)) ∗ tabPt c tab (tbl m 0)) ∗ I') := by
      iintro ⟨⟨⟨HS, HT⟩, HI⟩, Hg⟩
      isplitr [HI]
      · isplitr [HT]
        · isplitl [HS]
          · iexact HS
          iexact Hg
        iexact HT
      iexact HI
    exact e1.trans ((sep_mono_left h).trans ((wp_frame_r _ _ _).trans (wp_mono _ _ _ fun _ => e2)))
  by_cases h : t.val % 20 ≤ 15
  · by_cases h0 : t.val % 20 = 0
    · have hh : held m c t.val ⊢ iprop((((∃ d, owns (c : Thread nD τ) accM fullShare d) ∗ (∃ d, owns (c : Thread nD τ) rankM fullShare d)) ∗ (∃ r, prngReg c r)) ∗ tabPt c tab (tbl m 0)) := by
        by_cases hz : t.val = 0
        · rw [hz]
          show iprop(Pipeline.ΦA spec0 c ∗ tabPt c tab (tbl m 0)) ⊢ _
          rw [own_eq]
        · rw [held_pos m c _ hz]
          iintro ⟨⟨⟨HA, HR⟩, Hg⟩, HT⟩
          isplitr [HT]
          · isplitr [Hg]
            · isplitl [HA]
              · iexists _; iexact HA
              iexists _; iexact HR
            iexact Hg
          iexact HT
      exact (sep_mono_left hh).trans (reg _ _ _ _ (at_first m c t h h0 E))
    · rw [held_pos m c t.val (fun q => h0 (by rw [q]))]
      exact reg _ _ _ _ (at_mid m c t h h0 E)
  · rw [held_pos m c t.val (fun q => h (by rw [q]; omega))]
    exact reg _ _ _ _ (at_late m c t (by omega) E)

/-- The body's obligation. -/
theorem body_obligation (c : Dev nD) : BodyObligation (dats (F := F) m 0 c) (defs₀ (F := F)) Variants.none () Set.univ := fun t => by
  rw [bigSep_W0, bigSep_W0]
  have e : defs₀ (F := F) .tc (cfgM (F := F) m).body ((cfgM (F := F) m).bodyArgs t ((cfgM (F := F) m).slots t)) = bodyAt m t := by
    unfold defs₀; rw [Defs.onTc_tc]; rfl
  rw [e]
  have p1 : (dats m 0 c).Φ t.castSucc = held m c t.val := (phi_eq m c _).trans (congrArg _ (Fin.val_castSucc t))
  have p2 : (dats m 0 c).Φ t.succ = held m c (t.val + 1) := (phi_eq m c _).trans (congrArg _ (Fin.val_succ t))
  have r1 : iprop((dats m 0 c).Φ t.castSucc ∗ (dats m 0 c).owesAt () t.castSucc ∗ bufsPre m c t) ⊢ iprop((held m c t.val ∗ inputs m c t iprop(∃ d, owns (c : Thread nD τ) (spec0_11.stage ((cfgM m).slots t 11)) fullShare ((dats m 0 c).before 11 t d))) ∗ (dats m 0 c).owesAt () t.castSucc) := by
    rw [p1]
    iintro ⟨HS, Ho, HI⟩
    isplitr [Ho]
    · isplitl [HS]
      · iexact HS
      iapply (pre_inputs m c t)
      iexact HI
    iexact Ho
  have r2 : iprop((held m c (t.val + 1) ∗ inputs m c t ((dats m 0 c).leavesExact 11 t)) ∗ (dats m 0 c).owesAt () t.castSucc) ⊢ iprop((dats m 0 c).Φ t.succ ∗ (dats m 0 c).owesAt () t.succ ∗ bufsPost m c t) := by
    rw [p2]
    iintro ⟨⟨HS, HI⟩, Ho⟩
    isplitl [HS]
    · iexact HS
    isplitl [Ho]
    · iexact Ho
    iapply (post_inputs m c t)
    iexact HI
  exact r1.trans ((sep_mono_left (at_any m c t Set.univ)).trans ((wp_frame_r _ _ _).trans (wp_mono _ _ _ fun _ => r2)))

theorem hin (c : Dev nD) : iprop(Pipeline.ΦA spec0 c ∗ Pipeline.ΦT pre0 (tbl m) c) ⊢ (dats m 0 c).Φ 0 := by
  rw [lent_eq]
  exact .rfl

theorem hout (c : Dev nD) : (dats m 0 c).Φ (Fin.last (cfgM m).N) ⊢ Pipeline.ΦA spec0 c := by
  have h : (Fin.last (cfgM m).N).val ≠ 0 := by rw [Fin.val_last]; have : (cfgM m).N = 160 := N_0; omega
  show held m c (Fin.last (cfgM m).N).val ⊢ _
  rw [held_pos m c _ h, own_eq]
  iintro ⟨⟨⟨HA, HR⟩, Hg⟩, -⟩
  isplitr [Hg]
  · isplitl [HA]
    · iexists _; iexact HA
    iexists _; iexact HR
  iexact Hg

set_option backward.isDefEq.respectTransparency.types false in
/-- The program runs to its end; every array ends at what the plan gives, and every counter at zero. -/
theorem run_all : θ_run defs (onTc (τ := τ) (main (F := F))) ⟨m, fun _ => 0, ρ⟩ (fun r => (Pipeline.FramePost (Pipeline.pin pcfgs fun _ => adm m) (dats m) 0 (Vat m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := Vat m) (hmain := hmain m Variants.none) (hA := A_eq m) (hpf := tbl_eq m)
    (hin := hin m) (hout := hout m)

/-- At a final state the arguments are as they were launched. -/
theorem args_kept (r : PUnit × MemSt nD τ sig (Elt F)) (h : Pipeline.FramePost (Pipeline.pin pcfgs fun _ => adm m) (dats m) 0 (Vat m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hw : ∀ w : Fin (cfgM m).W, ((cfgM m).win w).isOut = false → r.2.mem ((c : Thread nD τ).loc (Pipeline.arrRef spec0 w)) = Vat m c (Pipeline.arrRef spec0 w) := fun w hi =>
    ((h c).1 w).trans (((dats m 0 c).arrAt_in w hi _).trans (A_eq m c w))
  refine ⟨((h c).2 main_arg0 (by decide : main_arg0 ∈ Pipeline.restRefs sig spec0)).trans (host_leaves m c main_arg0 (by decide)), ?_⟩
  refine ⟨(hw 0 rfl).trans (host_leaves m c main_arg1 (by decide)), (hw 1 rfl).trans (host_leaves m c main_arg2 (by decide)), (hw 2 rfl).trans (host_leaves m c main_arg3 (by decide)), (hw 3 rfl).trans (host_leaves m c main_arg4 (by decide)), (hw 4 rfl).trans (host_leaves m c main_arg5 (by decide)), (hw 5 rfl).trans (host_leaves m c main_arg6 (by decide)), (hw 6 rfl).trans (host_leaves m c main_arg7 (by decide)), (hw 7 rfl).trans (host_leaves m c main_arg8 (by decide)), (hw 9 rfl).trans (host_leaves m c main_arg9 (by decide)), (hw 10 rfl).trans (host_leaves m c main_arg10 (by decide))⟩

end Cert.Moe
-- ==== Proof.Same.lean ====
module

public import proofs.«01_k».proof.Defs
public import proofs.«01_k».proof.Proof.Gen.Kernel
public import proofs.«01_k».proof.Proof.Gen.KernelIdeal

/-! The program as it is and its idealization are the same text: no operation of it had to be idealized.
    So what is proved of the one at every number format is proved of the other. -/

@[expose] public section
set_option maxRecDepth 16384
set_option maxHeartbeats 4000000

namespace Cert.Same
open Idealize.ShloMosaic Idealize.SL.Sem

variable {F : FTy → Type} [FloatOps F]

/-- The two kernel bodies are one function. -/
theorem body_eq : @Cert.Kernel.cc0_moe_experts_ln2 F _ Cert.Kernel.Gen.facts
    = @Cert.KernelIdeal.cc0_moe_experts_ln2 F _ Cert.KernelIdeal.Gen.facts := rfl

/-- The two mains are one program. -/
theorem main_eq : @Cert.Kernel.main F _ Cert.Kernel.Gen.facts
    = @Cert.KernelIdeal.main F _ Cert.KernelIdeal.Gen.facts := rfl

/-- The two tables of bodies are one table. -/
theorem defs0_eq : @Cert.Kernel.defs₀ F _ Cert.Kernel.Gen.facts = @Cert.KernelIdeal.defs₀ F _ Cert.KernelIdeal.Gen.facts := by
  unfold Cert.Kernel.defs₀ Cert.KernelIdeal.defs₀
  refine congrArg (f := @Defs.onTc _ _ _ _ _) ?_
  funext l
  funext a
  match l, a with
  | 0, (t, s) =>
    dsimp only
    rw [Cert.Same.body_eq]
    rfl

theorem defs_eq : @Cert.Kernel.defs F _ Cert.Kernel.Gen.facts = @Cert.KernelIdeal.defs F _ Cert.KernelIdeal.Gen.facts :=
  (congrArg (Pipeline.defs (@Cert.Kernel.pcfgs F _ Cert.Kernel.Gen.facts)) defs0_eq : _)

end Cert.Same
-- ==== Proof.Kept.lean ====
module
public import proofs.«01_k».proof.Defs
public import proofs.«01_k».proof.Proof.Frame
public import proofs.«01_k».proof.Proof.Same
public import proofs.«01_k».proof.Proof.Gen.ReferenceIdeal.Run
public import proofs.«01_k».proof.Proof.Gen.Pre_counted

/-! The programs run to their end, leave their arguments as they were, and end with every counter at zero. -/

@[expose] public section
set_option maxRecDepth 16384
noncomputable section
namespace Cert.Moe
open Idealize.ShloMosaic Idealize.ShloMosaic.TcCoe Idealize.SL.Sem

section K
open Cert.KernelIdeal
variable {F : FTy → Type} [FloatOps F]

/-- The kernel's program, at any number formats. -/
theorem kept (m : (ℓ : Loc nD τ sig) → Buf (Elt F) ℓ) (ρ : Dev nD → PrngReg) :
    θ_run (@Cert.KernelIdeal.defs F _ Cert.KernelIdeal.Gen.facts) (onTc (τ := τ) (@Cert.KernelIdeal.main F _ Cert.KernelIdeal.Gen.facts)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => args_kept m r h.1 c, h.2⟩) (run_all m ρ)
end K

theorem kernelIdeal_kept : Cert.quiescent_KernelIdeal (hKernelIdeal := Cert.KernelIdeal.Gen.facts) := fun m g _ => kept m g

theorem kernelIdeal_kept_counted : Cert.quiescent_KernelIdeal_pre_counted (hKernelIdeal := Cert.KernelIdeal.Gen.facts) (hPre_counted := Cert.Pre_counted.Gen.facts) :=
  fun m g _ => kept m g

/-- The same program at its own number formats. -/
theorem kernel_kept : Cert.quiescent_Kernel (hKernel := Cert.Kernel.Gen.facts) := by
  unfold Cert.quiescent_Kernel
  rw [Cert.Same.defs_eq, Cert.Same.main_eq]
  exact fun m g _ => kept (F := Bits) m g

theorem reference_kept : Cert.quiescent_ReferenceIdeal (hReferenceIdeal := Cert.ReferenceIdeal.Gen.facts) := fun m g _ =>
  (θ_run _ _ _).mono (fun _ h => ⟨fun c => (h c).2, Idealize.ShloMosaic.sem_eq_zero_of_no_sems (by decide) _⟩) (Cert.ReferenceIdeal.Value.run m g)

theorem reference_kept_counted : Cert.quiescent_ReferenceIdeal_pre_counted (hReferenceIdeal := Cert.ReferenceIdeal.Gen.facts) (hPre_counted := Cert.Pre_counted.Gen.facts) :=
  fun m g _ => reference_kept m g trivial

end Cert.Moe
-- ==== Proof.Blocks.lean ====
/-
The blocks a grid point is handed, read as entries of the arrays.
-/
module
public import proofs.«01_k».proof.Proof.Frame
public import Idealize.ShloMosaic.Lib.Pointwise
public import Idealize.ShloMosaic.Lib.Pipeline.ValueKit
@[expose] public section
set_option maxRecDepth 16384
noncomputable section
namespace Cert.Moe
open Idealize.ShloMosaic Idealize.SL.Sem Cert.KernelIdeal Cert.KernelIdeal.Gen
open Idealize.ShloMosaic.Pipeline (Dat Cfg Window BodyObligation cellOf)

variable {F : FTy → Type} [FloatOps F]
variable (m : (ℓ : Loc nD τ sig) → Buf (Elt F) ℓ)

/-- An argument array, as the launch finds it. -/
abbrev arg (c : Dev nD) (b : Ref sig .tc) : Buf (Elt F) ((c.tc : Thread nD τ).loc b) :=
  m ((c.tc : Thread nD τ).loc b)

/-! Which block of its array each window stands at: the twenty points of group `t / 20` of the tokens
are the sixteen groups of experts and then the four tiles. -/

theorem place_u (t : Fin (cfgM m).N) : ((cfgM m).win 0).index t = ![t.val / 20, 0] :=
  funext ((by decide +kernel : ∀ t : Fin grid0.N, ∀ a, cc0_transform_0 (grid0.coords t) a = (![t.val / 20, 0] : Fin 2 → ℕ) a) t)
theorem place_g (t : Fin (cfgM m).N) : ((cfgM m).win 1).index t = ![0, t.val / 20] :=
  funext ((by decide +kernel : ∀ t : Fin grid0.N, ∀ a, cc0_transform_1 (grid0.coords t) a = (![0, t.val / 20] : Fin 2 → ℕ) a) t)
theorem place_x (t : Fin (cfgM m).N) : ((cfgM m).win 2).index t = ![4 * (t.val / 20) + (t.val % 20 - 16), 0] :=
  funext ((by decide +kernel : ∀ t : Fin grid0.N, ∀ a, cc0_transform_2 (grid0.coords t) a = (![4 * (t.val / 20) + (t.val % 20 - 16), 0] : Fin 2 → ℕ) a) t)
theorem place_md (t : Fin (cfgM m).N) : ((cfgM m).win 3).index t = ![t.val / 20, 0, 0] :=
  funext ((by decide +kernel : ∀ t : Fin grid0.N, ∀ a, cc0_transform_3 (grid0.coords t) a = (![t.val / 20, 0, 0] : Fin 3 → ℕ) a) t)
theorem place_w (t : Fin (cfgM m).N) : ((cfgM m).win 4).index t = ![min (t.val % 20) 15, 0, 0] :=
  funext ((by decide +kernel : ∀ t : Fin grid0.N, ∀ a, cc0_transform_4 (grid0.coords t) a = (![min (t.val % 20) 15, 0, 0] : Fin 3 → ℕ) a) t)
theorem place_d (t : Fin (cfgM m).N) : ((cfgM m).win 5).index t = ![min (t.val % 20) 15, 0, 0] :=
  funext ((by decide +kernel : ∀ t : Fin grid0.N, ∀ a, cc0_transform_5 (grid0.coords t) a = (![min (t.val % 20) 15, 0, 0] : Fin 3 → ℕ) a) t)
theorem place_ws (t : Fin (cfgM m).N) : ((cfgM m).win 6).index t = ![0, 0] := rfl
theorem place_ds (t : Fin (cfgM m).N) : ((cfgM m).win 7).index t = ![0, 0] := rfl
theorem place_up (t : Fin (cfgM m).N) : ((cfgM m).win 8).index t = ![0, 0] := rfl
theorem place_lg (t : Fin (cfgM m).N) : ((cfgM m).win 9).index t = ![0, 0] := rfl
theorem place_lb (t : Fin (cfgM m).N) : ((cfgM m).win 10).index t = ![0, 0] := rfl
theorem place_out (t : Fin (cfgM m).N) : ((cfgM m).win 11).index t = ![4 * (t.val / 20) + (t.val % 20 - 16), 0] :=
  funext ((by decide +kernel : ∀ t : Fin grid0.N, ∀ a, cc0_transform_11 (grid0.coords t) a = (![4 * (t.val / 20) + (t.val % 20 - 16), 0] : Fin 2 → ℕ) a) t)

theorem group_lt (t : Fin (cfgM m).N) : t.val / 20 < 8 := by
  have h : t.val < 160 := t.isLt
  omega

/-! The blocks. -/

variable (c : Dev nD) (t : Fin (cfgM m).N)

theorem u_at (n : Fin 2048) (k : Fin 1024) (h : 2048 * (t.val / 20) + n.val < 16384) :
    uAt m c t (ix2 n k) = arg m c main_arg1 (ix2 ⟨2048 * (t.val / 20) + n.val, h⟩ k) := by
  have hv : Vat m c (Pipeline.arrRef spec0 0) = arg m c main_arg1 := host_leaves m c main_arg1 (by decide)
  refine (congrFun hv ((((cfgM m).win 0).blk t).view.emb (ix2 n k))).trans ?_
  blk_ext [place_u m t]

theorem g_at (e : Fin 64) (n : Fin 2048) (h : 2048 * (t.val / 20) + n.val < 16384) :
    gAt m c t (ix2 e n) = arg m c main_arg2 (ix2 e ⟨2048 * (t.val / 20) + n.val, h⟩) := by
  have hv : Vat m c (Pipeline.arrRef spec0 1) = arg m c main_arg2 := host_leaves m c main_arg2 (by decide)
  refine (congrFun hv ((((cfgM m).win 1).blk t).view.emb (ix2 e n))).trans ?_
  blk_ext [place_g m t]

theorem x_at (n : Fin 512) (k : Fin 1024) (h : 512 * (4 * (t.val / 20) + (t.val % 20 - 16)) + n.val < 16384) :
    xAt m c t (ix2 n k) = arg m c main_arg3 (ix2 ⟨512 * (4 * (t.val / 20) + (t.val % 20 - 16)) + n.val, h⟩ k) := by
  have hv : Vat m c (Pipeline.arrRef spec0 2) = arg m c main_arg3 := host_leaves m c main_arg3 (by decide)
  refine (congrFun hv ((((cfgM m).win 2).blk t).view.emb (ix2 n k))).trans ?_
  blk_ext [place_x m t]

theorem md_at (r : Fin 6) (k : Fin 1024) (h : t.val / 20 < 8) :
    mdAt m c t (ix3 0 r k) = arg m c main_arg4 (ix3 ⟨t.val / 20, h⟩ r k) := by
  have hv : Vat m c (Pipeline.arrRef spec0 3) = arg m c main_arg4 := host_leaves m c main_arg4 (by decide)
  refine (congrFun hv ((((cfgM m).win 3).blk t).view.emb (ix3 0 r k))).trans ?_
  blk_ext [place_md m t]

theorem w_at (e : Fin 4) (k : Fin 1024) (f : Fin 512) (hj : t.val % 20 ≤ 15) (h : 4 * (t.val % 20) + e.val < 64) :
    wAt' m c t (ix3 e k f) = arg m c main_arg5 (ix3 ⟨4 * (t.val % 20) + e.val, h⟩ k f) := by
  have hv : Vat m c (Pipeline.arrRef spec0 4) = arg m c main_arg5 := host_leaves m c main_arg5 (by decide)
  refine (congrFun hv ((((cfgM m).win 4).blk t).view.emb (ix3 e k f))).trans ?_
  blk_ext [place_w m t]

theorem d_at (e : Fin 4) (k : Fin 256) (f : Fin 1024) (hj : t.val % 20 ≤ 15) (h : 4 * (t.val % 20) + e.val < 64) :
    dAt' m c t (ix3 e k f) = arg m c main_arg6 (ix3 ⟨4 * (t.val % 20) + e.val, h⟩ k f) := by
  have hv : Vat m c (Pipeline.arrRef spec0 5) = arg m c main_arg6 := host_leaves m c main_arg6 (by decide)
  refine (congrFun hv ((((cfgM m).win 5).blk t).view.emb (ix3 e k f))).trans ?_
  blk_ext [place_d m t]

theorem ws_at (k : Fin 1024) (f : Fin 512) :
    wsAt m c t (ix2 k f) = arg m c main_arg7 (ix2 k f) := by
  have hv : Vat m c (Pipeline.arrRef spec0 6) = arg m c main_arg7 := host_leaves m c main_arg7 (by decide)
  refine (congrFun hv ((((cfgM m).win 6).blk t).view.emb (ix2 k f))).trans ?_
  blk_ext [place_ws m t]

theorem ds_at (k : Fin 256) (f : Fin 1024) :
    dsAt m c t (ix2 k f) = arg m c main_arg8 (ix2 k f) := by
  have hv : Vat m c (Pipeline.arrRef spec0 7) = arg m c main_arg8 := host_leaves m c main_arg8 (by decide)
  refine (congrFun hv ((((cfgM m).win 7).blk t).view.emb (ix2 k f))).trans ?_
  blk_ext [place_ds m t]

theorem lg_at (f : Fin 1024) :
    lgAt m c t (ix2 0 f) = arg m c main_arg9 (ix2 0 f) := by
  have hv : Vat m c (Pipeline.arrRef spec0 9) = arg m c main_arg9 := host_leaves m c main_arg9 (by decide)
  refine (congrFun hv ((((cfgM m).win 9).blk t).view.emb (ix2 0 f))).trans ?_
  blk_ext [place_lg m t]

theorem lb_at (f : Fin 1024) :
    lbAt m c t (ix2 0 f) = arg m c main_arg10 (ix2 0 f) := by
  have hv : Vat m c (Pipeline.arrRef spec0 10) = arg m c main_arg10 := host_leaves m c main_arg10 (by decide)
  refine (congrFun hv ((((cfgM m).win 10).blk t).view.emb (ix2 0 f))).trans ?_
  blk_ext [place_lb m t]

theorem coord0 : ∀ t : Fin grid0.N, (grid0.coords t 0).val = t.val / 20 := by decide +kernel
theorem coord1 : ∀ t : Fin grid0.N, (grid0.coords t 1).val = t.val % 20 := by decide +kernel

/-- A count, as the kernel reads it. -/
theorem word_at (h : isMid (grid0.coords t)) (a b : Fin 4) (ha : 4 * (t.val / 20) + a.val < 32) (hb : 4 * (t.val % 20) + b.val < 64) :
    wordOf c (tbl m 0) (grid0.coords t) h a b = arg m c main_arg0 (ix2 ⟨4 * (t.val / 20) + a.val, ha⟩ ⟨4 * (t.val % 20) + b.val, hb⟩) := by
  have hv : (tbl m 0 : S32x64.Idx → Elt F .i32) = arg m c main_arg0 :=
    (tbl_eq m c 0).symm.trans (host_leaves m c main_arg0 (by decide))
  refine (congrFun hv _).trans ?_
  refine congrArg (arg m c main_arg0) ?_
  funext p
  apply Fin.ext
  match p with
  | ⟨0, _⟩ =>
    show k0_off1 (grid0.coords t) (BitVec.ofNat 32 a.val) (BitVec.ofNat 32 b.val) 0 + 1 * 0 = 4 * (t.val / 20) + a.val
    rw [k0_off1_eq, ← coord0 t]
    rfl
  | ⟨1, _⟩ =>
    show k0_off1 (grid0.coords t) (BitVec.ofNat 32 a.val) (BitVec.ofNat 32 b.val) 1 + 1 * 0 = 4 * (t.val % 20) + b.val
    rw [k0_off1_eq, ← coord1 t]
    rfl

/-- One expert's row of a block. -/
theorem row_at (x : Vec F S64x2048 .f32) (h : isMid (grid0.coords t)) (b : Fin 4) (n : Fin 2048) (hb : 4 * (t.val % 20) + b.val < 64) :
    rowOf x (grid0.coords t) h b (ix2 0 n) = x (ix2 ⟨4 * (t.val % 20) + b.val, hb⟩ n) := by
  refine congrArg x ?_
  funext p
  apply Fin.ext
  match p with
  | ⟨0, _⟩ =>
    show k0_off2 (grid0.coords t) (BitVec.ofNat 32 b.val) 0 + 1 * 0 = 4 * (t.val % 20) + b.val
    rw [k0_off2_eq, ← coord1 t]
    rfl
  | ⟨1, _⟩ =>
    show k0_off2 (grid0.coords t) (BitVec.ofNat 32 b.val) 1 + 1 * n.val = n.val
    rw [k0_off2_eq]
    show 0 + 1 * n.val = n.val
    omega

/-- The matrix the host builds: ones strictly above the diagonal. -/
def upper : FVec F S512x512 .bf16 :=
  truncf .bf16 (uitofp .f32 (cmpi .slt
    (broadcastInDim S512x512 ![0, 1] bcast_S512x1_S512x512_0_1 (broadcastInDim S512x1 ![0] bcast_S512_S512x1_0 (iotaInDim S512 32 0)) : IVec S512x512 32)
    (broadcastInDim S512x512 ![0, 1] bcast_S1x512_S512x512_0_1 (broadcastInDim S1x512 ![1] bcast_S512_S1x512_1 (iotaInDim S512 32 0)) : IVec S512x512 32))) bitsLt_bf16_f32

theorem host_upper : Vat m c main_v7 = (upper : FVec F S512x512 .bf16) := by
  show StableHlo.after hostOps0 (fun b => m (c, b)) (Proc.devRef .tc main_v7) = _
  unfold hostOps0
  after_results
  try rfl

theorem small_toInt (k : Fin 512) : (BitVec.ofNat 32 k.val).toInt = (k.val : ℤ) := by
  rw [BitVec.toInt_eq_toNat_cond, BitVec.toNat_ofNat]
  have := k.isLt
  split <;> omega

theorem upper_at (k n : Fin 512) : (upper : FVec Ideal S512x512 .bf16) (ix2 k n) = if k < n then 1 else 0 := by
  pointwise [upper]
  show (((BitVec.ofBool ((BitVec.ofNat 32 k.val).slt (BitVec.ofNat 32 n.val))).toNat : ℝ) : EReal) = _
  rw [BitVec.slt_eq_decide, small_toInt, small_toInt]
  by_cases h : k < n
  · rw [if_pos h, decide_eq_true (by exact_mod_cast h)]; simp
  · rw [if_neg h, decide_eq_false (by exact_mod_cast h)]; simp

theorem up_at (m : (ℓ : Loc nD τ sig) → Buf (Elt Ideal) ℓ) (t : Fin (cfgM m).N) (k n : Fin 512) :
    upAt m c t (ix2 k n) = if k < n then 1 else 0 := by
  refine (congrFun (host_upper m c) ((((cfgM m).win 8).blk t).view.emb (ix2 k n))).trans ?_
  refine Eq.trans ?_ (upper_at k n)
  blk_ext [place_up m t]
end Cert.Moe
-- ==== Proof.Rows.lean ====
/-
What the layer computes for one token, in exact arithmetic.
-/
module
public import Idealize.ShloMosaic.Lib.Pointwise
@[expose] public section
noncomputable section
namespace Cert.Moe
open Idealize.ShloMosaic

/-- The hidden value number `f` of one expert for a token with entries `u`: the gated half of the
    product with the wide weights, times its other half. -/
def hid (u : Fin 1024 → EReal) (w : Fin 1024 → Fin 512 → EReal) (f : Fin 256) : EReal :=
  (∑ k, u k * w k ⟨f.val, by omega⟩) *
    Ideal.div 1 (1 + Ideal.exp (0 - ∑ k, u k * w k ⟨f.val, by omega⟩)) *
    ∑ k, u k * w k ⟨256 + f.val, by omega⟩

/-- What one expert gives a token in column `c`, weighted with the token's gate `g`. -/
def gated (u : Fin 1024 → EReal) (w : Fin 1024 → Fin 512 → EReal) (d : Fin 256 → Fin 1024 → EReal)
    (g : EReal) (c : Fin 1024) : EReal :=
  ∑ f, hid u w f * g * d f c

/-- A token with gate zero gets nothing. -/
theorem gated_zero (u : Fin 1024 → EReal) (w : Fin 1024 → Fin 512 → EReal)
    (d : Fin 256 → Fin 1024 → EReal) (c : Fin 1024) : gated u w d 0 c = 0 := by
  unfold gated
  simp only [mul_zero, zero_mul, Finset.sum_const_zero]

/-- The shared expert's share, in column `c`. -/
def sharedRow (u : Fin 1024 → EReal) (ws : Fin 1024 → Fin 512 → EReal) (ds : Fin 256 → Fin 1024 → EReal) (c : Fin 1024) : EReal :=
  ∑ f, hid u ws f * ds f c

/-- What the layer norm of a token is taken of: its scaled input and the modulated sum of the experts. -/
def beforeRow (x md acc sh : Fin 1024 → EReal) (c : Fin 1024) : EReal :=
  Ideal.ofBits .f32 0x3FB504F3#32 * x c + (1 + md c) * (acc c + sh c)

/-- The mean of a row. -/
def meanRow (z : Fin 1024 → EReal) : EReal := Ideal.div (∑ k, z k) (Ideal.ofBits .f32 0x44800000#32)

/-- The layer norm of a row. -/
def normRow (z lg lb : Fin 1024 → EReal) (c : Fin 1024) : EReal :=
  (z c - meanRow z) * Ideal.rsqrt (meanRow (fun k => (z k - meanRow z) * (z k - meanRow z)) + Ideal.ofBits .f32 0x3727C5AC#32) * lg c + lb c

end Cert.Moe
-- ==== Proof.OneTrip.lean ====
/-
One step of the loop over the chosen tokens of a group of four experts, in exact arithmetic.
-/
module
public import proofs.«01_k».proof.Proof.Steps
public import proofs.«01_k».proof.Proof.Rows
public import Idealize.ShloMosaic.Lib.Pointwise
@[expose] public section
set_option maxRecDepth 16384
noncomputable section
namespace Cert.Moe
open Idealize.ShloMosaic Idealize.SL.Sem Cert.KernelIdeal Cert.KernelIdeal.Gen

/-- What expert `e` of the group gives token `n` of tile `t`. -/
def Group.out (G : Group Ideal) (e t : Fin 4) (n : Fin 512) (c : Fin 1024) : EReal :=
  gated (fun k => G.u t (ix2 n k)) (fun k f => G.w e (ix3 0 k f)) (fun f c => G.d e (ix3 0 f c))
    (G.gate e (ix2 0 ⟨512 * t.val + n.val, by omega⟩)) c

/-- The ranks of the group are the whole numbers `R`, and in one tile no two tokens have the same
    rank from zero on. -/
structure Ranked (G : Group Ideal) (R : Fin 4 → Fin 4 → Fin 512 → ℤ) : Prop where
  eq : ∀ (e t : Fin 4) (n : Fin 512),
    G.rank e (ix2 0 ⟨512 * t.val + n.val, by omega⟩) = (((R e t n : ℤ) : ℝ) : EReal)
  inj : ∀ (e t : Fin 4) (n n' : Fin 512), 0 ≤ R e t n → R e t n = R e t n' → n = n'

/-- Two whole numbers are the same extended real only if they are the same. -/
theorem int_real_inj {a b : ℤ} : (((a : ℤ) : ℝ) : EReal) = (((b : ℤ) : ℝ) : EReal) ↔ a = b := by
  rw [EReal.coe_eq_coe_iff, Int.cast_inj]

/-- The rank that place `s` of step `a` takes. -/
theorem slots_at (a : ℕ) (ha : a < 1000) (s : Fin 96) (n : Fin 512) :
    slots (F := Ideal) (BitVec.ofNat 32 a) (ix2 s n) = (((s.val + 96 * a : ℤ) : ℝ) : EReal) := by
  pointwise [slots]
  have h1 : (BitVec.ofNat 32 s.val).toInt = (s.val : ℤ) := by
    rw [BitVec.toInt_eq_toNat_cond, BitVec.toNat_ofNat]
    have := s.isLt
    split <;> omega
  have h2 : (Scalar.muli (BitVec.ofNat 32 a) 96#32).toInt = (96 * a : ℤ) := by
    show (BitVec.ofNat 32 a * 96#32).toInt = _
    rw [BitVec.toInt_eq_toNat_cond, BitVec.toNat_mul, BitVec.toNat_ofNat, BitVec.toNat_ofNat]
    split <;> omega
  show (((BitVec.ofNat 32 s.val).toInt : ℝ) : EReal) + _ = _
  rw [h1, h2, ← EReal.coe_add, Int.cast_add]

section
variable {G : Group Ideal} {R : Fin 4 → Fin 4 → Fin 512 → ℤ} (hG : Ranked G R)
include hG

/-- A token sits at place `s` of step `a` when its rank says so. -/
theorem hit_at (a : ℕ) (ha : a < 1000) (t e : Fin 4) (s : Fin 96) (n : Fin 512) :
    G.hit (BitVec.ofNat 32 a) t e (ix2 s n) =
      BitVec.ofBool (decide (R e t n = s.val + 96 * a)) := by
  pointwise [Group.hit]
  rw [slots_at a ha, hG.eq]
  exact congrArg BitVec.ofBool (decide_eq_decide.mpr int_real_inj)

/-- One at the place of a token, zero elsewhere. -/
theorem one_at (a : ℕ) (ha : a < 1000) (t e : Fin 4) (s : Fin 96) (n : Fin 512) :
    G.one (BitVec.ofNat 32 a) t e (ix2 s n) = if R e t n = s.val + 96 * a then 1 else 0 := by
  pointwise [Group.one]
  rw [hit_at hG a ha]
  by_cases h : R e t n = s.val + 96 * a
  · rw [if_pos h, decide_eq_true h]; rfl
  · rw [if_neg h, decide_eq_false h]; rfl

/-- The places of the four experts, one after the other. -/
theorem ones_at (a : ℕ) (ha : a < 1000) (t e : Fin 4) (s : Fin 96) (n : Fin 512) :
    G.ones (BitVec.ofNat 32 a) t (ix2 ⟨e.val * 96 + s.val, by omega⟩ n) =
      if R e t n = s.val + 96 * a then 1 else 0 := by
  rw [← one_at hG a ha]
  pointwise [Group.ones]
  have hs := s.isLt
  fin_vals e with he
  · obtain rfl : e = 0 := Fin.ext he; rw [dif_pos (by omega)]; congr 2; simp
  · obtain rfl : e = 1 := Fin.ext he
    rw [dif_neg (by omega), dif_pos (by omega)]; congr 2; apply Fin.ext; show _ - _ = _; omega
  · obtain rfl : e = 2 := Fin.ext he
    rw [dif_neg (by omega), dif_neg (by omega), dif_pos (by omega)]
    congr 2; apply Fin.ext; show _ - _ - _ = _; omega
  · obtain rfl : e = 3 := Fin.ext he
    rw [dif_neg (by omega), dif_neg (by omega), dif_neg (by omega)]
    congr 2; apply Fin.ext; show _ - _ - _ - _ = _; omega

/-- At the place of token `n` stands its gate. -/
theorem gateAt_at (a : ℕ) (ha : a < 1000) (t e : Fin 4) (s : Fin 96) (n : Fin 512)
    (h : R e t n = s.val + 96 * a) :
    G.gateAt (BitVec.ofNat 32 a) t e (ix2 s 0) = G.gate e (ix2 0 ⟨512 * t.val + n.val, by omega⟩) := by
  pointwise [Group.gateAt]
  refine (Finset.sum_eq_single n (fun x _ hx => ?_) (fun hn => absurd (Finset.mem_univ n) hn)).trans ?_
  · rw [hit_at hG a ha, decide_eq_false (fun hx' => hx (hG.inj e t n x (by omega) (by omega)).symm)]
    rfl
  · rw [hit_at hG a ha, decide_eq_true h]; rfl

/-- At the place of token `n` stand its entries. -/
theorem taken_at (a : ℕ) (ha : a < 1000) (t e : Fin 4) (s : Fin 96) (n : Fin 512)
    (h : R e t n = s.val + 96 * a) (k : Fin 1024) :
    G.taken (BitVec.ofNat 32 a) t (ix2 ⟨e.val * 96 + s.val, by omega⟩ k) = G.u t (ix2 n k) := by
  pointwise [Group.taken]
  refine (Finset.sum_eq_single n (fun x _ hx => ?_) (fun hn => absurd (Finset.mem_univ n) hn)).trans ?_
  · rw [ones_at hG a ha, if_neg (fun hx' => hx (hG.inj e t n x (by omega) (by omega)).symm), zero_mul]
  · rw [ones_at hG a ha, if_pos h, one_mul]

/-- The entries of the token, among the tokens taken for one expert. -/
theorem input_at (a : ℕ) (ha : a < 1000) (t e : Fin 4) (s : Fin 96) (n : Fin 512)
    (h : R e t n = s.val + 96 * a) (k : Fin 1024) :
    G.input (BitVec.ofNat 32 a) e (ix2 ⟨t.val * 96 + s.val, by omega⟩ k) = G.u t (ix2 n k) := by
  rw [← taken_at hG a ha t e s n h]
  pointwise [Group.input]
  have hs := s.isLt
  fin_vals t with ht
  · obtain rfl : t = 0 := Fin.ext ht; rw [dif_pos (by omega)]; congr 2; apply Fin.ext; show 96 * _ + _ = _ * 96 + _; simp; omega
  · obtain rfl : t = 1 := Fin.ext ht
    rw [dif_neg (by omega), dif_pos (by omega)]; congr 2; apply Fin.ext
    show 96 * _ + _ = _ * 96 + _; simp; omega
  · obtain rfl : t = 2 := Fin.ext ht
    rw [dif_neg (by omega), dif_neg (by omega), dif_pos (by omega)]
    congr 2; apply Fin.ext; show 96 * _ + _ = _ * 96 + _; simp; omega
  · obtain rfl : t = 3 := Fin.ext ht
    rw [dif_neg (by omega), dif_neg (by omega), dif_neg (by omega)]
    congr 2; apply Fin.ext; show 96 * _ + _ = _ * 96 + _; simp; omega

/-- The gate of the token, among the gates of one expert. -/
theorem gates_at (a : ℕ) (ha : a < 1000) (t e : Fin 4) (s : Fin 96) (n : Fin 512)
    (h : R e t n = s.val + 96 * a) :
    G.gates (BitVec.ofNat 32 a) e (ix2 ⟨t.val * 96 + s.val, by omega⟩ 0) =
      G.gate e (ix2 0 ⟨512 * t.val + n.val, by omega⟩) := by
  rw [← gateAt_at hG a ha t e s n h]
  pointwise [Group.gates]
  have hs := s.isLt
  fin_vals t with ht
  · obtain rfl : t = 0 := Fin.ext ht; rw [dif_pos (by omega)]; congr 2; simp
  · obtain rfl : t = 1 := Fin.ext ht
    rw [dif_neg (by omega), dif_pos (by omega)]; congr 2; apply Fin.ext; show _ - _ = _; omega
  · obtain rfl : t = 2 := Fin.ext ht
    rw [dif_neg (by omega), dif_neg (by omega), dif_pos (by omega)]
    congr 2; apply Fin.ext; show _ - _ - _ = _; omega
  · obtain rfl : t = 3 := Fin.ext ht
    rw [dif_neg (by omega), dif_neg (by omega), dif_neg (by omega)]
    congr 2; apply Fin.ext; show _ - _ - _ - _ = _; omega

/-- The product with the wide weights, at the place of a token. -/
theorem mid_at (a : ℕ) (ha : a < 1000) (t e : Fin 4) (s : Fin 96) (n : Fin 512)
    (h : R e t n = s.val + 96 * a) (f : Fin 512) :
    G.mid (BitVec.ofNat 32 a) e (ix2 ⟨t.val * 96 + s.val, by omega⟩ f) =
      ∑ k, G.u t (ix2 n k) * G.w e (ix3 0 k f) := by
  pointwise [Group.mid]
  exact Finset.sum_congr rfl fun k _ => by rw [input_at hG a ha t e s n h]

/-- What the expert gives the token, at the token's place. -/
theorem down_at (a : ℕ) (ha : a < 1000) (t e : Fin 4) (s : Fin 96) (n : Fin 512)
    (h : R e t n = s.val + 96 * a) (c : Fin 1024) :
    G.down (BitVec.ofNat 32 a) e (ix2 ⟨t.val * 96 + s.val, by omega⟩ c) = G.out e t n c := by
  pointwise [Group.down]
  unfold Group.out gated hid
  refine Finset.sum_congr rfl fun f _ => congrArg (· * _) ?_
  pointwise [Group.act]
  rw [mid_at hG a ha t e s n h, mid_at hG a ha t e s n h, gates_at hG a ha t e s n h]

/-- The same, where it stands among what is given back to the tile. -/
theorem back_at (a : ℕ) (ha : a < 1000) (t e : Fin 4) (s : Fin 96) (n : Fin 512)
    (h : R e t n = s.val + 96 * a) (c : Fin 1024) :
    G.back (BitVec.ofNat 32 a) t (ix2 ⟨e.val * 96 + s.val, by omega⟩ c) = G.out e t n c := by
  rw [← down_at hG a ha t e s n h]
  pointwise [Group.back]
  have hs := s.isLt
  fin_vals e with he
  · obtain rfl : e = 0 := Fin.ext he; rw [dif_pos (by omega)]; congr 2; apply Fin.ext; show 96 * _ + _ = _ * 96 + _; simp; omega
  · obtain rfl : e = 1 := Fin.ext he
    rw [dif_neg (by omega), dif_pos (by omega)]; congr 2; apply Fin.ext
    show 96 * _ + _ = _ * 96 + _; simp; omega
  · obtain rfl : e = 2 := Fin.ext he
    rw [dif_neg (by omega), dif_neg (by omega), dif_pos (by omega)]
    congr 2; apply Fin.ext; show 96 * _ + _ = _ * 96 + _; simp; omega
  · obtain rfl : e = 3 := Fin.ext he
    rw [dif_neg (by omega), dif_neg (by omega), dif_neg (by omega)]
    congr 2; apply Fin.ext; show 96 * _ + _ = _ * 96 + _; simp; omega

/-- The places of one expert give a token what the expert gives it, if its rank is one of the
    step's, and nothing otherwise. -/
theorem place_sum (a : ℕ) (ha : a < 1000) (t e : Fin 4) (n : Fin 512) (c : Fin 1024) :
    (∑ s : Fin 96, G.ones (BitVec.ofNat 32 a) t (ix2 ⟨e.val * 96 + s.val, by omega⟩ n) *
        G.back (BitVec.ofNat 32 a) t (ix2 ⟨e.val * 96 + s.val, by omega⟩ c)) =
      if 0 ≤ R e t n ∧ R e t n / 96 = a then G.out e t n c else 0 := by
  by_cases h : 0 ≤ R e t n ∧ R e t n / 96 = a
  · rw [if_pos h]
    obtain ⟨h0, h1⟩ := h
    have hs : (R e t n % 96).toNat < 96 := by omega
    have hn : R e t n = ((⟨(R e t n % 96).toNat, hs⟩ : Fin 96).val : ℤ) + 96 * a := by
      show _ = (((R e t n % 96).toNat : ℕ) : ℤ) + _; omega
    refine (Finset.sum_eq_single ⟨(R e t n % 96).toNat, hs⟩ (fun x _ hx => ?_)
      (fun hn => absurd (Finset.mem_univ _) hn)).trans ?_
    · rw [ones_at hG a ha, if_neg (fun hx' => hx (Fin.ext ?_)), zero_mul]
      show x.val = (R e t n % 96).toNat
      have := x.isLt
      omega
    · rw [ones_at hG a ha, if_pos hn, one_mul, back_at hG a ha t e _ n hn]
  · rw [if_neg h]
    refine Finset.sum_eq_zero fun s _ => ?_
    rw [ones_at hG a ha, if_neg (fun hx => h ?_), zero_mul]
    have := s.isLt
    constructor <;> omega

/-- One step of the loop on a tile. -/
theorem tile_at (a : ℕ) (ha : a < 1000) (t : Fin 4) (x : Vec Ideal S512x1024 .f32) (n : Fin 512)
    (c : Fin 1024) :
    G.tile (BitVec.ofNat 32 a) t x (ix2 n c) =
      x (ix2 n c) + ∑ e : Fin 4, if 0 ≤ R e t n ∧ R e t n / 96 = a then G.out e t n c else 0 := by
  pointwise [Group.tile]
  refine congrArg (x (ix2 n c) + ·) ?_
  refine (Fin.sum_univ_tiles 4 96 rfl _).trans ?_
  exact Finset.sum_congr rfl fun e _ => place_sum hG a ha t e n c

end
end Cert.Moe
-- ==== Proof.GroupSum.lean ====
/-
What the loop over the chosen tokens leaves after all its steps, in exact arithmetic.
-/
module
public import proofs.«01_k».proof.Proof.OneTrip
public import proofs.«01_k».proof.Proof.Loop
@[expose] public section
set_option maxRecDepth 16384
noncomputable section
namespace Cert.Moe
open Idealize.ShloMosaic Idealize.SL.Sem Cert.KernelIdeal Cert.KernelIdeal.Gen

/-- The counter of a loop from zero by ones. -/
theorem iv_ones (n : ℕ) : Scf.iv 0#32 1#32 n = BitVec.ofNat 32 n := by
  unfold Scf.iv
  simp

theorem tile_place (t : Fin 4) (n : Fin 512) (c : Fin 1024) :
    (tileAt t).emb (ix2 n c) = (ix2 ⟨512 * t.val + n.val, by omega⟩ c : S2048x1024.Idx) := by
  funext a
  apply Fin.ext
  match a with
  | ⟨0, _⟩ => show 512 * t.val + 1 * n.val = 512 * t.val + n.val; omega
  | ⟨1, _⟩ => show 0 + 1 * c.val = c.val; omega

section
variable {G : Group Ideal} {R : Fin 4 → Fin 4 → Fin 512 → ℤ} (hG : Ranked G R)
include hG

/-- The sum after the first `N` steps. -/
theorem run_at (N : ℕ) (hN : N ≤ 1000) (acc : Vec Ideal S2048x1024 .f32) (t : Fin 4) (n : Fin 512) (c : Fin 1024) :
    G.run N acc (ix2 ⟨512 * t.val + n.val, by omega⟩ c) =
      acc (ix2 ⟨512 * t.val + n.val, by omega⟩ c) +
        ∑ e : Fin 4, if 0 ≤ R e t n ∧ R e t n / 96 < N then G.out e t n c else 0 := by
  induction N with
  | zero =>
    have : ∀ e : Fin 4, ¬ (0 ≤ R e t n ∧ R e t n / 96 < ((0 : ℕ) : ℤ)) := fun e h => by omega
    simp only [this, if_false, Finset.sum_const_zero, add_zero]
    rfl
  | succ N ih =>
    rw [← tile_place]
    show G.tile (Scf.iv 0#32 1#32 N) (tileOf ((tileAt t).emb (ix2 n c)))
      (fun x => G.run N acc ((tileAt (tileOf ((tileAt t).emb (ix2 n c)))).emb x)) (inTile ((tileAt t).emb (ix2 n c))) = _
    rw [tileOf_emb, inTile_emb, iv_ones, tile_at hG N (by omega), tile_place, ih (by omega), add_assoc,
      ← Finset.sum_add_distrib]
    refine congrArg (acc _ + ·) (Finset.sum_congr rfl fun e _ => ?_)
    by_cases h1 : 0 ≤ R e t n ∧ R e t n / 96 < (N : ℤ)
    · rw [if_pos h1, if_neg (by omega), if_pos (by push_cast; omega), add_zero]
    · by_cases h2 : 0 ≤ R e t n ∧ R e t n / 96 = (N : ℤ)
      · rw [if_neg h1, if_pos h2, if_pos (by push_cast; omega), zero_add]
      · rw [if_neg h1, if_neg h2, if_neg (by push_cast; omega), zero_add]

/-- After enough steps each token has got all that the four experts give it. -/
theorem run_all_at (N : ℕ) (hN : N ≤ 1000) (acc : Vec Ideal S2048x1024 .f32) (t : Fin 4) (n : Fin 512) (c : Fin 1024)
    (hlt : ∀ e, R e t n < 96 * N) (hout : ∀ e, R e t n < 0 → G.out e t n c = 0) :
    G.run N acc (ix2 ⟨512 * t.val + n.val, by omega⟩ c) =
      acc (ix2 ⟨512 * t.val + n.val, by omega⟩ c) + ∑ e : Fin 4, G.out e t n c := by
  rw [run_at hG N hN]
  refine congrArg (acc _ + ·) (Finset.sum_congr rfl fun e _ => ?_)
  by_cases h : 0 ≤ R e t n
  · have := hlt e
    rw [if_pos (by constructor <;> omega)]
  · rw [if_neg (fun h' => h h'.1), hout e (by omega)]

end
end Cert.Moe
-- ==== Proof.Ranks.lean ====
/-
The ranks of the chosen tokens of a tile, in exact arithmetic: whole numbers, each token its own.
-/
module
public import proofs.«01_k».proof.Proof.Point
public import Idealize.ShloMosaic.Lib.Pointwise
public import Idealize.ShloMosaic.Lib.IdealHost
import Mathlib.Tactic.NormNum
@[expose] public section
set_option maxRecDepth 16384
noncomputable section
namespace Cert.Moe
open Idealize.ShloMosaic Idealize.SL.Sem Cert.KernelIdeal Cert.KernelIdeal.Gen
open scoped Classical

/-- The chosen tokens before token `n`. -/
def earlier (g : Fin 512 → EReal) (n : Fin 512) : Finset (Fin 512) :=
  Finset.univ.filter fun k => 0 < g k ∧ k < n

/-- How many tokens are chosen. -/
def howMany (g : Fin 512 → EReal) : ℕ := (Finset.univ.filter fun k => 0 < g k).card

/-- The rank of token `n`: the number of chosen tokens before it, or minus one if it is not chosen. -/
def rankOf (g : Fin 512 → EReal) (n : Fin 512) : ℤ :=
  if 0 < g n then ((earlier g n).card : ℤ) else -1

theorem earlier_lt (g : Fin 512 → EReal) {n n' : Fin 512} (h : n < n') (hn : 0 < g n) :
    (earlier g n).card < (earlier g n').card := by
  refine Finset.card_lt_card (Finset.ssubset_iff_of_subset ?_ |>.mpr ⟨n, ?_, ?_⟩)
  · intro k hk
    simp only [earlier, Finset.mem_filter, Finset.mem_univ, true_and] at hk ⊢
    exact ⟨hk.1, hk.2.trans h⟩
  · simp only [earlier, Finset.mem_filter, Finset.mem_univ, true_and]
    exact ⟨hn, h⟩
  · simp only [earlier, Finset.mem_filter, Finset.mem_univ, true_and]
    exact fun hk => lt_irrefl _ hk.2

/-- A rank from zero on belongs to a chosen token. -/
theorem rankOf_nonneg (g : Fin 512 → EReal) (n : Fin 512) (h : 0 ≤ rankOf g n) : 0 < g n := by
  unfold rankOf at h
  split at h
  · assumption
  · omega

/-- No two tokens have the same rank from zero on. -/
theorem rankOf_inj (g : Fin 512 → EReal) (n n' : Fin 512) (h : 0 ≤ rankOf g n)
    (e : rankOf g n = rankOf g n') : n = n' := by
  have h1 := rankOf_nonneg g n h
  have h2 := rankOf_nonneg g n' (e ▸ h)
  unfold rankOf at e
  rw [if_pos h1, if_pos h2] at e
  rcases lt_trichotomy n n' with hl | hl | hl
  · have := earlier_lt g hl h1; omega
  · exact hl
  · have := earlier_lt g hl h2; omega

/-- A rank is less than the number of chosen tokens, or minus one. -/
theorem rankOf_lt (g : Fin 512 → EReal) (n : Fin 512) : rankOf g n < howMany g ∨ rankOf g n = -1 := by
  unfold rankOf
  split
  · rename_i hn
    left
    have : (earlier g n).card < howMany g := by
      refine Finset.card_lt_card (Finset.ssubset_iff_of_subset ?_ |>.mpr ⟨n, ?_, ?_⟩)
      · intro k hk
        simp only [earlier, Finset.mem_filter, Finset.mem_univ, true_and] at hk ⊢
        exact hk.1
      · simp only [Finset.mem_filter, Finset.mem_univ, true_and]
        exact hn
      · simp only [earlier, Finset.mem_filter, Finset.mem_univ, true_and]
        exact fun hk => lt_irrefl _ hk.2
    exact_mod_cast this
  · exact Or.inr rfl

theorem howMany_le (g : Fin 512 → EReal) : howMany g ≤ 512 :=
  (Finset.card_filter_le _ _).trans (by rw [Finset.card_univ, Fintype.card_fin])

/-- The word of minus one. -/
theorem minus_one : Ideal.ofBits .f32 0xBF800000#32 = (((-1 : ℤ) : ℝ) : EReal) := by
  rw [show ((-1 : ℤ) : ℝ) = -(1 : ℝ) by norm_num]
  simp [Ideal.ofBits, Ideal.ieee, -EReal.coe_mul, -EReal.coe_neg]; norm_num

/-- A sum of ones and zeros counts. -/
theorem sum_ones (p : Fin 512 → Prop) [DecidablePred p] :
    (∑ k, if p k then (1 : EReal) else 0) = ((((Finset.univ.filter p).card : ℤ) : ℝ) : EReal) := by
  rw [Finset.sum_ite, Finset.sum_const_zero, add_zero, Finset.sum_const, nsmul_one]
  norm_cast

theorem rankTile_at (g : Vec Ideal S64x512 .f32) (up : Vec Ideal S512x512 .bf16)
    (hup : ∀ k n : Fin 512, up (ix2 k n) = if k < n then 1 else 0) (e : Fin 64) (n : Fin 512) :
    rankTile g up (ix2 e n) = (((rankOf (fun k => g (ix2 e k)) n : ℤ) : ℝ) : EReal) := by
  pointwise [rankTile, chosen]
  unfold rankOf
  by_cases h : 0 < g (ix2 e n)
  · rw [if_pos h, if_pos h]
    refine Eq.trans (b := ∑ k, if 0 < g (ix2 e k) ∧ k < n then (1 : EReal) else 0)
      (Finset.sum_congr rfl fun k _ => ?_) (by rw [sum_ones]; unfold earlier; congr 4)
    rw [hup]
    by_cases h1 : 0 < g (ix2 e k)
    · by_cases h2 : k < n
      · rw [if_pos h1, if_pos h2, if_pos ⟨h1, h2⟩, mul_one]
      · rw [if_neg h2, if_neg (show ¬(0 < g (ix2 e k) ∧ k < n) from fun h => h2 h.2), mul_zero]
    · rw [if_neg h1, if_neg (show ¬(0 < g (ix2 e k) ∧ k < n) from fun h => h1 h.1), zero_mul]
  · rw [if_neg h, if_neg h, minus_one]

/-- The ranks of all the tiles. -/
theorem ranks_at (g : Vec Ideal S64x2048 .f32) (up : Vec Ideal S512x512 .bf16)
    (hup : ∀ k n : Fin 512, up (ix2 k n) = if k < n then 1 else 0) (e : Fin 64) (t : Fin 4) (n : Fin 512) :
    ranks g up (ix2 e ⟨512 * t.val + n.val, by omega⟩) =
      (((rankOf (fun k => g (ix2 e ⟨512 * t.val + k.val, by omega⟩)) n : ℤ) : ℝ) : EReal) := by
  have hp : ∀ (k : Fin 512), (colsAt t).emb (ix2 e k) = (ix2 e ⟨512 * t.val + k.val, by omega⟩ : S64x2048.Idx) := by
    intro k
    funext a
    apply Fin.ext
    match a with
    | ⟨0, _⟩ => show 0 + 1 * e.val = e.val; omega
    | ⟨1, _⟩ => show 512 * t.val + 1 * k.val = 512 * t.val + k.val; omega
  rw [← hp n]
  unfold ranks
  rw [colTile_emb, inCols_emb]
  refine (rankTile_at _ up hup e n).trans ?_
  simp only [hp]

end Cert.Moe
-- ==== Proof.Trips.lean ====
/-
How many steps the loop over the chosen tokens makes: enough for the largest count, and not many.
-/
module
public import proofs.«01_k».proof.Proof.Chk
@[expose] public section
set_option maxRecDepth 16384
namespace Cert.Moe
open Idealize.ShloMosaic Idealize.SL.Sem Cert.KernelIdeal Cert.KernelIdeal.Gen

/-- The larger of two small words. -/
theorem maxsi_small (x y : BitVec 32) (hx : x.toNat ≤ 512) (hy : y.toNat ≤ 512) :
    (Scalar.maxsi x y).toNat = max x.toNat y.toNat := by
  have ex : x.toInt = x.toNat := by rw [BitVec.toInt_eq_toNat_cond]; split <;> omega
  have ey : y.toInt = y.toNat := by rw [BitVec.toInt_eq_toNat_cond]; split <;> omega
  unfold Scalar.maxsi IntOp.maxsi
  rw [BitVec.slt_eq_decide, ex, ey]
  split <;> rename_i h <;> simp only [decide_eq_true_eq] at h <;> omega

/-- The largest of a list of small words is small and at least each of them. -/
theorem foldl_maxsi (l : List (BitVec 32)) (hl : ∀ x ∈ l, x.toNat ≤ 512) (z : BitVec 32) (hz : z.toNat ≤ 512) :
    (l.foldl Scalar.maxsi z).toNat ≤ 512 ∧ z.toNat ≤ (l.foldl Scalar.maxsi z).toNat ∧
      ∀ x ∈ l, x.toNat ≤ (l.foldl Scalar.maxsi z).toNat := by
  induction l generalizing z with
  | nil => exact ⟨hz, le_refl _, fun x hx => absurd hx (List.not_mem_nil)⟩
  | cons y l ih =>
    have hy := hl y List.mem_cons_self
    have hm := maxsi_small z y hz hy
    obtain ⟨h1, h2, h3⟩ := ih (fun x hx => hl x (List.mem_cons_of_mem _ hx)) (Scalar.maxsi z y) (by omega)
    refine ⟨h1, ?_, ?_⟩
    · show z.toNat ≤ (l.foldl Scalar.maxsi (Scalar.maxsi z y)).toNat
      omega
    · intro x hx
      show x.toNat ≤ (l.foldl Scalar.maxsi (Scalar.maxsi z y)).toNat
      rcases List.mem_cons.mp hx with rfl | hx
      · omega
      · exact h3 x hx

/-- The number of steps for a largest count up to 512. -/
theorem chunks_small : ∀ n : Fin 513, (chunks (BitVec.ofNat 32 n.val)).toInt = ((n.val + 95) / 96 : ℕ) := by
  decide +kernel

variable (a b c d e f g h p q r s t u v w : BitVec 32)

/-- The upper bound of the loop depends on the largest count alone. -/
theorem loop_ub (hm : ∀ x : BitVec 32, x.toNat ≤ 512 →
      most x 0#32 0#32 0#32 0#32 0#32 0#32 0#32 0#32 0#32 0#32 0#32 0#32 0#32 0#32 0#32 = x)
    (hw : (most a b c d e f g h p q r s t u v w).toNat ≤ 512) :
    (k0_t1_loop a b c d e f g h p q r s t u v w).ub = chunks (most a b c d e f g h p q r s t u v w) := by
  have e := hm _ hw
  unfold chunks
  unfold most at e ⊢
  simp only [List.foldl_cons, List.foldl_nil] at e ⊢
  rw [e]

theorem most_alone (x : BitVec 32) (hx : x.toNat ≤ 512) :
    most x 0#32 0#32 0#32 0#32 0#32 0#32 0#32 0#32 0#32 0#32 0#32 0#32 0#32 0#32 0#32 = x := by
  have h0 : Scalar.maxsi 0#32 x = x := BitVec.eq_of_toNat_eq (by
    rw [maxsi_small _ _ (by decide) hx]; simp)
  have h1 : Scalar.maxsi x 0#32 = x := BitVec.eq_of_toNat_eq (by
    rw [maxsi_small _ _ hx (by decide)]; simp)
  unfold most
  simp only [List.foldl_cons, List.foldl_nil, h0, h1]

/-- The number of steps from the upper bound. -/
theorem trips_of_ub (ub : BitVec 32) (m : ℕ) (h : ub.toInt = ((m + 95) / 96 : ℕ)) :
    Scf.trips 0#32 ub 1#32 = (m + 95) / 96 := by
  unfold Scf.trips
  have z : (0#32 : BitVec 32).toInt = 0 := by decide
  have o : (1#32 : BitVec 32).toInt = 1 := by decide
  rw [h, z, o]
  omega

theorem chunks_of (x : BitVec 32) (hx : x.toNat ≤ 512) : (chunks x).toInt = ((x.toNat + 95) / 96 : ℕ) := by
  have hc := chunks_small ⟨x.toNat, by omega⟩
  rwa [BitVec.ofNat_toNat, BitVec.setWidth_eq] at hc

/-- The steps are enough for each of the counts, and at most six. -/
theorem trips_enough
    (hl : ∀ x ∈ [a, b, c, d, e, f, g, h, p, q, r, s, t, u, v, w], x.toNat ≤ 512) :
    (k0_t1_loop a b c d e f g h p q r s t u v w).trips ≤ 6 ∧
      ∀ x ∈ [a, b, c, d, e, f, g, h, p, q, r, s, t, u, v, w],
        x.toNat ≤ 96 * (k0_t1_loop a b c d e f g h p q r s t u v w).trips := by
  obtain ⟨h1, -, h3⟩ := foldl_maxsi _ hl 0#32 (by decide)
  have ht : (k0_t1_loop a b c d e f g h p q r s t u v w).trips =
      ((most a b c d e f g h p q r s t u v w).toNat + 95) / 96 :=
    trips_of_ub _ _ (by rw [loop_ub a b c d e f g h p q r s t u v w most_alone h1]; exact chunks_of _ h1)
  have hm : [a, b, c, d, e, f, g, h, p, q, r, s, t, u, v, w].foldl Scalar.maxsi 0#32 =
    most a b c d e f g h p q r s t u v w := rfl
  rw [hm] at h1 h3
  rw [ht]
  generalize most a b c d e f g h p q r s t u v w = M at h1 h3
  refine ⟨by omega, fun x hx => ?_⟩
  have := h3 x hx
  omega

end Cert.Moe
-- ==== Proof.Sum.lean ====
/-
The running sum: after the sixteen groups of experts it holds what all of the experts give each token.
-/
module
public import proofs.«01_k».proof.Proof.Blocks
public import proofs.«01_k».proof.Proof.GroupSum
public import proofs.«01_k».proof.Proof.Ranks
public import proofs.«01_k».proof.Proof.Trips
@[expose] public section
set_option maxRecDepth 16384
noncomputable section
namespace Cert.Moe
open Idealize.ShloMosaic Idealize.SL.Sem Cert.KernelIdeal Cert.KernelIdeal.Gen
open Idealize.ShloMosaic.Pipeline (Dat Cfg Window BodyObligation cellOf)

variable (m : (ℓ : Loc nD τ sig) → Buf (Elt Ideal) ℓ) (c : Dev nD)

/-- Token `n` of tile `T` of group `b` of the tokens. -/
def tok (b : Fin 8) (T : Fin 4) (n : Fin 512) : Fin 16384 :=
  ⟨2048 * b.val + (512 * T.val + n.val), by omega⟩

/-- What expert `e` gives token `p`. -/
def given (p : Fin 16384) (e : Fin 64) (col : Fin 1024) : EReal :=
  gated (fun k => arg m c main_arg1 (ix2 p k)) (fun k f => arg m c main_arg5 (ix3 e k f))
    (fun f q => arg m c main_arg6 (ix3 e f q)) (arg m c main_arg2 (ix2 e p)) col

/-- The gates of expert `e` in a tile. -/
def gates (b : Fin 8) (T : Fin 4) (e : Fin 64) (n : Fin 512) : EReal := arg m c main_arg2 (ix2 e (tok b T n))

/-- No gate is negative, and the counts are right. -/
structure Fair : Prop where
  pos : ∀ (b : Fin 8) (T : Fin 4) (e : Fin 64) (n : Fin 512), 0 ≤ gates m c b T e n
  count : ∀ (b : Fin 8) (T : Fin 4) (e : Fin 64) (h : 4 * b.val + T.val < 32),
    arg m c main_arg0 (ix2 ⟨4 * b.val + T.val, h⟩ e) = BitVec.ofNat 32 (howMany (gates m c b T e))

/-- A point's group of the tokens. -/
def grpOf (t : Fin (cfgM m).N) : Fin 8 := ⟨t.val / 20, group_lt m t⟩

/-- The ranks are those of the group's tokens. -/
def RanksOf (b : Fin 8) (x : Vec Ideal S64x2048 .f32) : Prop :=
  ∀ (e : Fin 64) (T : Fin 4) (n : Fin 512),
    x (ix2 e ⟨512 * T.val + n.val, by omega⟩) = (((rankOf (gates m c b T e) n : ℤ) : ℝ) : EReal)

theorem ranks_first (t : Fin (cfgM m).N) : RanksOf m c (grpOf m t) (ranks (gAt m c t) (upAt m c t)) := by
  intro e T n
  have hlt := group_lt m t
  rw [ranks_at (gAt m c t) (upAt m c t) (up_at c m t) e T n]
  have : (fun k : Fin 512 => gAt m c t (ix2 e ⟨512 * T.val + k.val, by omega⟩)) = gates m c (grpOf m t) T e :=
    funext fun k => g_at m c t e ⟨512 * T.val + k.val, by omega⟩ (by show 2048 * (t.val / 20) + (512 * T.val + k.val) < 16384; omega)
  rw [this]

/-- Enough steps for sixteen counts. -/
theorem trips_words (w : Fin 4 → Fin 4 → BitVec 32) (hw : ∀ a b, (w a b).toNat ≤ 512) :
    (k0_t1_loop (w 0 0) (w 0 1) (w 0 2) (w 0 3) (w 1 0) (w 1 1) (w 1 2) (w 1 3) (w 2 0) (w 2 1) (w 2 2) (w 2 3) (w 3 0) (w 3 1) (w 3 2) (w 3 3)).trips ≤ 6 ∧
      ∀ a b, (w a b).toNat ≤ 96 * (k0_t1_loop (w 0 0) (w 0 1) (w 0 2) (w 0 3) (w 1 0) (w 1 1) (w 1 2) (w 1 3) (w 2 0) (w 2 1) (w 2 2) (w 2 3) (w 3 0) (w 3 1) (w 3 2) (w 3 3)).trips := by
  have h := trips_enough (w 0 0) (w 0 1) (w 0 2) (w 0 3) (w 1 0) (w 1 1) (w 1 2) (w 1 3) (w 2 0) (w 2 1) (w 2 2) (w 2 3) (w 3 0) (w 3 1) (w 3 2) (w 3 3) (by
    intro x hx
    simp only [List.mem_cons, List.not_mem_nil, or_false] at hx
    rcases hx with rfl | rfl | rfl | rfl | rfl | rfl | rfl | rfl | rfl | rfl | rfl | rfl | rfl | rfl | rfl | rfl <;> exact hw _ _)
  generalize (k0_t1_loop (w 0 0) (w 0 1) (w 0 2) (w 0 3) (w 1 0) (w 1 1) (w 1 2) (w 1 3) (w 2 0) (w 2 1) (w 2 2) (w 2 3) (w 3 0) (w 3 1) (w 3 2) (w 3 3)).trips = N at h ⊢
  refine ⟨h.1, fun a b => h.2 _ ?_⟩
  clear h hw
  fin_cases a <;> fin_cases b <;> simp

theorem gated_congr {u u' : Fin 1024 → EReal} {w w' : Fin 1024 → Fin 512 → EReal} {d d' : Fin 256 → Fin 1024 → EReal} {g g' : EReal} (col : Fin 1024)
    (hu : ∀ k, u k = u' k) (hw : ∀ k f, w k f = w' k f) (hd : ∀ f q, d f q = d' f q) (hg : g = g') :
    gated u w d g col = gated u' w' d' g' col := by
  obtain rfl : u = u' := funext hu
  obtain rfl : w = w' := funext fun k => funext (hw k)
  obtain rfl : d = d' := funext fun k => funext (hd k)
  rw [hg]

theorem wplace (e : Fin 4) (k : Fin 1024) (f : Fin 512) : (wAt e).emb (ix3 0 k f) = (ix3 e k f : S4x1024x512.Idx) := by
  funext a
  apply Fin.ext
  match a with
  | ⟨0, _⟩ => show e.val + 1 * 0 = e.val; omega
  | ⟨1, _⟩ => show 0 + 1 * k.val = k.val; omega
  | ⟨2, _⟩ => show 0 + 1 * f.val = f.val; omega

theorem dplace (e : Fin 4) (k : Fin 256) (f : Fin 1024) : (dAt e).emb (ix3 0 k f) = (ix3 e k f : S4x256x1024.Idx) := by
  funext a
  apply Fin.ext
  match a with
  | ⟨0, _⟩ => show e.val + 1 * 0 = e.val; omega
  | ⟨1, _⟩ => show 0 + 1 * k.val = k.val; omega
  | ⟨2, _⟩ => show 0 + 1 * f.val = f.val; omega

/-- Expert `e` of a point's group of experts. -/
def expOf (t : Fin (cfgM m).N) (h : t.val % 20 ≤ 15) (e : Fin 4) : Fin 64 := ⟨4 * (t.val % 20) + e.val, by omega⟩

/-- The point's group of experts, for its tokens. -/
abbrev groupAt (t : Fin (cfgM m).N) (h : isMid (grid0.coords t)) (rank : Vec Ideal S64x2048 .f32) : Group Ideal :=
  group (rowOf rank (grid0.coords t) h) (rowOf (gAt m c t) (grid0.coords t) h) (uAt m c t) (wAt' m c t) (dAt' m c t)

section
variable (t : Fin (cfgM m).N) (hj : t.val % 20 ≤ 15) (h : isMid (grid0.coords t)) (rank : Vec Ideal S64x2048 .f32)

theorem ranked (hr : RanksOf m c (grpOf m t) rank) :
    Ranked (groupAt m c t h rank) (fun e T n => rankOf (gates m c (grpOf m t) T (expOf m t hj e)) n) where
  eq e T n := (row_at m t rank h e _ (expOf m t hj e).isLt).trans (hr _ T n)
  inj e T n n' := rankOf_inj _ n n'

theorem out_given (e T : Fin 4) (n : Fin 512) (col : Fin 1024) :
    (groupAt m c t h rank).out e T n col = given m c (tok (grpOf m t) T n) (expOf m t hj e) col := by
  have hlt := group_lt m t
  unfold Group.out given
  refine gated_congr col (fun k => ?_) (fun k f => ?_) (fun f q => ?_) ?_
  · exact (congrArg (uAt m c t) (tile_place T n k)).trans (u_at m c t ⟨512 * T.val + n.val, by omega⟩ k (tok (grpOf m t) T n).isLt)
  · exact (congrArg (wAt' m c t) (wplace e k f)).trans (w_at m c t e k f hj (expOf m t hj e).isLt)
  · exact (congrArg (dAt' m c t) (dplace e f q)).trans (d_at m c t e f q hj (expOf m t hj e).isLt)
  · exact (row_at m t (gAt m c t) h e _ (expOf m t hj e).isLt).trans (g_at m c t _ ⟨512 * T.val + n.val, by omega⟩ (tok (grpOf m t) T n).isLt)

/-- One point adds what its four experts give. -/
theorem adds_group (hf : Fair m c) (hr : RanksOf m c (grpOf m t) rank) (acc : Vec Ideal S2048x1024 .f32) (T : Fin 4) (n : Fin 512) (col : Fin 1024) :
    midAcc c (tbl m 0) (grid0.coords t) h rank (gAt m c t) (uAt m c t) (wAt' m c t) (dAt' m c t) acc (ix2 ⟨512 * T.val + n.val, by omega⟩ col) =
      acc (ix2 ⟨512 * T.val + n.val, by omega⟩ col) + ∑ e : Fin 4, given m c (tok (grpOf m t) T n) (expOf m t hj e) col := by
  have hlt := group_lt m t
  have hword : ∀ a b : Fin 4, (wordOf c (tbl m 0) (grid0.coords t) h a b).toNat = howMany (gates m c (grpOf m t) a (expOf m t hj b)) := by
    intro a b
    rw [word_at m c t h a b (by omega) (by omega)]
    refine (congrArg BitVec.toNat (hf.count (grpOf m t) a (expOf m t hj b) (by show 4 * (t.val / 20) + a.val < 32; omega))).trans ?_
    rw [BitVec.toNat_ofNat]
    have := howMany_le (gates m c (grpOf m t) a (expOf m t hj b))
    omega
  have htr := trips_words (fun a b => wordOf c (tbl m 0) (grid0.coords t) h a b) (fun a b => by rw [hword]; exact howMany_le _)
  change tripsOf c (tbl m 0) (grid0.coords t) h ≤ 6 ∧ ∀ a b, (wordOf c (tbl m 0) (grid0.coords t) h a b).toNat ≤ 96 * tripsOf c (tbl m 0) (grid0.coords t) h at htr
  unfold midAcc
  generalize tripsOf c (tbl m 0) (grid0.coords t) h = N at htr ⊢
  refine (run_all_at (ranked m c t hj h rank hr) N (by omega) acc T n col (fun e => ?_) (fun e hneg => ?_)).trans ?_
  · have h1 := htr.2 T e
    rw [hword] at h1
    rcases rankOf_lt (gates m c (grpOf m t) T (expOf m t hj e)) n with h2 | h2 <;> omega
  · rw [out_given m c t hj h rank]
    have h1 : ¬ 0 < gates m c (grpOf m t) T (expOf m t hj e) n := fun hp => by
      have h2 : rankOf (gates m c (grpOf m t) T (expOf m t hj e)) n < 0 := hneg
      unfold rankOf at h2
      rw [if_pos hp] at h2
      omega
    have h3 : gates m c (grpOf m t) T (expOf m t hj e) n = 0 := le_antisymm (not_lt.mp h1) (hf.pos _ _ _ _)
    unfold given
    exact (congrArg (fun x => gated _ _ _ x col) h3).trans (gated_zero _ _ _ col)
  · exact congrArg (acc _ + ·) (Finset.sum_congr rfl fun e _ => out_given m c t hj h rank e T n col)
end

/-- What the first `j` groups of experts give a token. -/
def partSum (p : Fin 16384) (col : Fin 1024) (j : ℕ) : EReal :=
  ∑ q ∈ Finset.range j, ∑ e : Fin 4, if h : 4 * q + e.val < 64 then given m c p ⟨4 * q + e.val, h⟩ col else 0

theorem partSum_succ (p : Fin 16384) (col : Fin 1024) (t : Fin (cfgM m).N) (hj : t.val % 20 ≤ 15) :
    partSum m c p col (t.val % 20 + 1) = partSum m c p col (t.val % 20) + ∑ e : Fin 4, given m c p (expOf m t hj e) col := by
  unfold partSum
  rw [Finset.sum_range_succ]
  refine congrArg (_ + ·) (Finset.sum_congr rfl fun e _ => ?_)
  rw [dif_pos (by omega)]
  rfl

/-- All of them. -/
theorem partSum_all (p : Fin 16384) (col : Fin 1024) : partSum m c p col 16 = ∑ e : Fin 64, given m c p e col := by
  unfold partSum
  rw [Finset.sum_range]
  refine Eq.trans ?_ (Fin.sum_univ_tiles 16 4 rfl _).symm
  refine Finset.sum_congr rfl fun q _ => Finset.sum_congr rfl fun e _ => ?_
  rw [dif_pos (by omega)]
  refine congrArg (fun x => given m c p x col) (Fin.ext ?_)
  show 4 * q.val + e.val = q.val * 4 + e.val
  omega

theorem zeros_at (y : S2048x1024.Idx) : (zeros : Vec Ideal S2048x1024 .f32) y = 0 := by
  unfold zeros
  show Ideal.ofBits .f32 0x00000000#32 = 0
  exact Ideal.ofBits_zero_f32

/-- What is held after a point, where `j` groups of experts are done. -/
def Holds (b : Fin 8) (j : ℕ) (s : State Ideal) : Prop :=
  RanksOf m c b s.2 ∧ ∀ (T : Fin 4) (n : Fin 512) (col : Fin 1024),
    s.1 (ix2 ⟨512 * T.val + n.val, by omega⟩ col) = partSum m c (tok b T n) col j

theorem holds_step (hf : Fair m c) (t : Fin (cfgM m).N)
    (ih : t.val % 20 ≠ 0 → Holds m c (grpOf m t) (min (t.val % 20) 16) (stateAt m c t.val)) :
    Holds m c (grpOf m t) (min (t.val % 20 + 1) 16) (stateAt m c (t.val + 1)) := by
  rw [stateAt_succ]
  by_cases hj : t.val % 20 ≤ 15
  · rw [show min (t.val % 20 + 1) 16 = t.val % 20 + 1 by omega]
    by_cases h0 : t.val % 20 = 0
    · rw [step_first m c t _ hj h0]
      refine ⟨ranks_first m c t, fun T n col => ?_⟩
      refine (adds_group m c t hj _ _ hf (ranks_first m c t) zeros T n col).trans ?_
      rw [partSum_succ m c _ _ t hj, zeros_at, h0]
      rfl
    · have h1 := ih h0
      rw [show min (t.val % 20) 16 = t.val % 20 by omega] at h1
      rw [step_mid m c t _ hj h0]
      refine ⟨h1.1, fun T n col => ?_⟩
      refine (adds_group m c t hj _ _ hf h1.1 (stateAt m c t.val).1 T n col).trans ?_
      rw [partSum_succ m c _ _ t hj, h1.2]
  · rw [step_late m c t _ hj]
    have h1 := ih (by omega)
    rw [show min (t.val % 20) 16 = 16 by omega] at h1
    rw [show min (t.val % 20 + 1) 16 = 16 by omega]
    exact h1

theorem holds_after (hf : Fair m c) (b : Fin 8) (j : ℕ) (hj : j < 20) :
    Holds m c b (min (j + 1) 16) (stateAt m c (20 * b.val + j + 1)) := by
  have hN : (cfgM m).N = 160 := N_0
  induction j with
  | zero =>
    have hlt : 20 * b.val + 0 < (cfgM m).N := by omega
    have h := holds_step m c hf ⟨20 * b.val + 0, hlt⟩ (fun h => absurd (by show (20 * b.val + 0) % 20 = 0; omega) h)
    have hb : grpOf m ⟨20 * b.val + 0, hlt⟩ = b := Fin.ext (by show (20 * b.val + 0) / 20 = b.val; omega)
    rw [hb] at h
    rwa [show (20 * b.val + 0) % 20 = 0 by omega] at h
  | succ j ih =>
    have hlt : 20 * b.val + (j + 1) < (cfgM m).N := by omega
    have hb : grpOf m ⟨20 * b.val + (j + 1), hlt⟩ = b := Fin.ext (by show (20 * b.val + (j + 1)) / 20 = b.val; omega)
    have hm : (20 * b.val + (j + 1)) % 20 = j + 1 := by omega
    have h := holds_step m c hf ⟨20 * b.val + (j + 1), hlt⟩ (by
      intro _
      rw [hb]
      show Holds m c b (min ((20 * b.val + (j + 1)) % 20) 16) (stateAt m c (20 * b.val + (j + 1)))
      rw [hm]
      exact ih (by omega))
    rw [hb] at h
    rwa [show (20 * b.val + (j + 1)) % 20 = j + 1 from hm] at h

/-- At the last four points of a group of tokens the running sum holds what all experts give. -/
theorem acc_at (hf : Fair m c) (t : Fin (cfgM m).N) (h : 16 ≤ t.val % 20) (T : Fin 4) (n : Fin 512) (col : Fin 1024) :
    (stateAt m c t.val).1 (ix2 ⟨512 * T.val + n.val, by omega⟩ col) = ∑ e : Fin 64, given m c (tok (grpOf m t) T n) e col := by
  have h1 := holds_after m c hf (grpOf m t) (t.val % 20 - 1) (by omega)
  rw [show 20 * (grpOf m t).val + (t.val % 20 - 1) + 1 = t.val by show 20 * (t.val / 20) + _ + 1 = _; omega,
    show min (t.val % 20 - 1 + 1) 16 = 16 by omega] at h1
  rw [h1.2, partSum_all]

end Cert.Moe
-- ==== Proof.TileRow.lean ====
/-
What the kernel finishes for one token of a tile, in exact arithmetic.
-/
module
public import proofs.«01_k».proof.Proof.Rows
public import proofs.«01_k».proof.Proof.Point
@[expose] public section
set_option maxRecDepth 16384
noncomputable section
namespace Cert.Moe
open Idealize.ShloMosaic Idealize.SL.Sem Cert.KernelIdeal Cert.KernelIdeal.Gen

theorem beforeNorm_at (acc : Vec Ideal S512x1024 .f32) (u : Vec Ideal S512x1024 .bf16) (ws : Vec Ideal S1024x512 .bf16)
    (ds : Vec Ideal S256x1024 .bf16) (md : Vec Ideal S1x1x1024 .f32) (x : Vec Ideal S512x1024 .f32) (n : Fin 512) (c : Fin 1024) :
    beforeNorm acc u ws ds md x (ix2 n c) =
      beforeRow (fun c => x (ix2 n c)) (fun c => md (ix3 0 0 c)) (fun c => acc (ix2 n c))
        (sharedRow (fun k => u (ix2 n k)) (fun k f => ws (ix2 k f)) (fun f c => ds (ix2 f c))) c := by
  pointwise [beforeNorm, beforeRow, sharedRow, hid]

theorem rowMean_at (z : FVec Ideal S512x1024 .f32) (n : Fin 512) :
    rowMean z (ix2 n 0) = meanRow fun c => z (ix2 n c) := by
  pointwise [rowMean, meanRow]

theorem normed_at (z : FVec Ideal S512x1024 .f32) (lg lb : Vec Ideal S1x1024 .f32) (n : Fin 512) (c : Fin 1024) :
    normed z lg lb (ix2 n c) = normRow (fun c => z (ix2 n c)) (fun c => lg (ix2 0 c)) (fun c => lb (ix2 0 c)) c := by
  pointwise [normed]
  rw [rowMean_at, rowMean_at]
  unfold normRow
  have h : (fun c => mulf (subf z (broadcastTo S512x1024 (rowMean z) broadcasts_S512x1_S512x1024))
        (subf z (broadcastTo S512x1024 (rowMean z) broadcasts_S512x1_S512x1024)) (ix2 n c)) =
      fun c => (z (ix2 n c) - meanRow fun c => z (ix2 n c)) * (z (ix2 n c) - meanRow fun c => z (ix2 n c)) := by
    funext c
    pointwise []
    rw [rowMean_at]
  rw [h]

/-- The tile of its block a late grid point finishes. -/
theorem late_off : ∀ t : Fin grid0.N, 16 ≤ t.val % 20 → ∀ a, k0_off3 (grid0.coords t) a = (![512 * (t.val % 20 - 16), 0] : Fin 2 → ℕ) a := by
  decide +kernel

theorem late_place (t : Fin grid0.N) (h : isLate (grid0.coords t)) (h' : 16 ≤ t.val % 20) (n : Fin 512) (c : Fin 1024) :
    (lateAt (grid0.coords t) h).emb (ix2 n c) = (ix2 ⟨512 * (t.val % 20 - 16) + n.val, by omega⟩ c : S2048x1024.Idx) := by
  funext a
  apply Fin.ext
  match a with
  | ⟨0, _⟩ =>
    show k0_off3 (grid0.coords t) 0 + 1 * n.val = 512 * (t.val % 20 - 16) + n.val
    rw [late_off t h' 0]
    show 512 * (t.val % 20 - 16) + 1 * n.val = _
    omega
  | ⟨1, _⟩ =>
    show k0_off3 (grid0.coords t) 1 + 1 * c.val = c.val
    rw [late_off t h' 1]
    show 0 + 1 * c.val = _
    omega

theorem mod_place (c : Fin 1024) : modAt.emb (ix3 0 0 c) = (ix3 0 5 c : S1x6x1024.Idx) := by
  funext a
  apply Fin.ext
  match a with
  | ⟨0, _⟩ => rfl
  | ⟨1, _⟩ => rfl
  | ⟨2, _⟩ => show 0 + 1 * c.val = c.val; omega

/-- The finished tile at one token. -/
theorem lateOut_at (t : Fin grid0.N) (h : isLate (grid0.coords t)) (h' : 16 ≤ t.val % 20) (acc : Vec Ideal S2048x1024 .f32)
    (u : Vec Ideal S2048x1024 .bf16) (ws : Vec Ideal S1024x512 .bf16) (ds : Vec Ideal S256x1024 .bf16) (md : Vec Ideal S1x6x1024 .f32)
    (x : Vec Ideal S512x1024 .f32) (lg lb : Vec Ideal S1x1024 .f32) (n : Fin 512) (c : Fin 1024) :
    lateOut (grid0.coords t) h acc u ws ds md x lg lb (ix2 n c) =
      normRow (beforeRow (fun c => x (ix2 n c)) (fun c => md (ix3 0 5 c))
          (fun c => acc (ix2 ⟨512 * (t.val % 20 - 16) + n.val, by omega⟩ c))
          (sharedRow (fun k => u (ix2 ⟨512 * (t.val % 20 - 16) + n.val, by omega⟩ k)) (fun k f => ws (ix2 k f)) (fun f c => ds (ix2 f c))))
        (fun c => lg (ix2 0 c)) (fun c => lb (ix2 0 c)) c := by
  unfold lateOut
  rw [normed_at]
  simp only [beforeNorm_at, late_place t h h', mod_place]

end Cert.Moe
-- ==== Proof.RefParts.lean ====
/-
The reference's result in parts: the routed experts, the shared expert, the sum before the layer norm, the layer norm.
-/
module
public import proofs.«01_k».proof.Proof.OneTrip
public import proofs.«01_k».proof.Proof.Gen.ReferenceIdeal.Run
public import Idealize.ShloMosaic.Lib.Pointwise
@[expose] public section
set_option maxRecDepth 16384
noncomputable section
namespace Cert.Moe.Plain
open Idealize.ShloMosaic Idealize.SL.Sem Cert.ReferenceIdeal Cert.ReferenceIdeal.Gen

variable {F : FTy → Type} [FloatOps F]
variable (u : FVec F S16384x1024 .bf16) (g : FVec F S64x16384 .f32) (x : FVec F S16384x1024 .f32) (md : FVec F S8x6x1024 .f32)
  (w : FVec F S64x1024x512 .bf16) (d : FVec F S64x256x1024 .bf16) (ws : FVec F S1024x512 .bf16) (ds : FVec F S256x1024 .bf16)
  (lg lb : FVec F S1x1024 .f32)

/-- Every token times every expert's gate weights. -/
def wideA : FVec F S16384x64x256 .f32 :=
  Host.dotGeneral dot_S16384x1024_S64x1024x256_S16384x64x256_1_1_0_02_n_n none (extf .f32 u bitsLt_bf16_f32)
    (extractStridedSlice S64x1024x256 ![0, 0, 0] (extf .f32 w bitsLt_bf16_f32) slices_S64x1024x512_S64x1024x256_0_0_0)

/-- Every token times every expert's up weights. -/
def wideB : FVec F S16384x64x256 .f32 :=
  Host.dotGeneral dot_S16384x1024_S64x1024x256_S16384x64x256_1_1_0_02_n_n none (extf .f32 u bitsLt_bf16_f32)
    (extractStridedSlice S64x1024x256 ![0, 0, 256] (extf .f32 w bitsLt_bf16_f32) slices_S64x1024x512_S64x1024x256_0_0_256)

/-- The experts' hidden values with the gates. -/
def hidden : FVec F S16384x64x256 .f32 :=
  mulf (mulf (mulf (wideA u w) (Host.divf (broadcastInDim S16384x64x256 ![] bcast_S_S16384x64x256 (constant S_ .f32 0x3F800000#32))
      (addf (broadcastInDim S16384x64x256 ![] bcast_S_S16384x64x256 (constant S_ .f32 0x3F800000#32)) (Host.exp (Host.negf (wideA u w))))))
    (wideB u w))
    (broadcastInDim S16384x64x256 ![0, 1, 2] bcast_S16384x64x1_S16384x64x256_0_1_2
      (broadcastInDim S16384x64x1 ![0, 1] bcast_S16384x64_S16384x64x1_0_1 (transpose S16384x64 [1, 0] g transposes_S64x16384_S16384x64_1_0)))

/-- The routed experts' sum. -/
def routed : FVec F S16384x1024 .f32 :=
  Host.dotGeneral dot_S16384x64x256_S64x256x1024_S16384x1024_12_01_0_2_n_n none (hidden u g w) (extf .f32 d bitsLt_bf16_f32)

/-- The shared expert's products. -/
def sharedA : FVec F S16384x256 .f32 :=
  Host.dotGeneral dot_S16384x1024_S1024x256_S16384x256_1_0_0_1_n_n none (extf .f32 u bitsLt_bf16_f32)
    (extractStridedSlice S1024x256 ![0, 0] (extf .f32 ws bitsLt_bf16_f32) slices_S1024x512_S1024x256_0_0)
def sharedB : FVec F S16384x256 .f32 :=
  Host.dotGeneral dot_S16384x1024_S1024x256_S16384x256_1_0_0_1_n_n none (extf .f32 u bitsLt_bf16_f32)
    (extractStridedSlice S1024x256 ![0, 256] (extf .f32 ws bitsLt_bf16_f32) slices_S1024x512_S1024x256_0_256)

/-- The shared expert. -/
def shared : FVec F S16384x1024 .f32 :=
  Host.dotGeneral dot_S16384x256_S256x1024_S16384x1024_1_0_0_1_n_n none
    (mulf (mulf (sharedA u ws) (Host.divf (broadcastInDim S16384x256 ![] bcast_S_S16384x256 (constant S_ .f32 0x3F800000#32))
      (addf (broadcastInDim S16384x256 ![] bcast_S_S16384x256 (constant S_ .f32 0x3F800000#32)) (Host.exp (Host.negf (sharedA u ws))))))
      (sharedB u ws)) (extf .f32 ds bitsLt_bf16_f32)

/-- What the layer norm is taken of. -/
def before : FVec F S8x2048x1024 .f32 :=
  addf (mulf (broadcastInDim S8x2048x1024 ![] bcast_S_S8x2048x1024 (constant S_ .f32 0x3FB504F3#32)) (shapeCast _ x shapeCasts_S16384x1024_S8x2048x1024))
    (mulf (broadcastInDim S8x2048x1024 ![0, 1, 2] bcast_S8x1x1024_S8x2048x1024_0_1_2
        (addf (broadcastInDim S8x1x1024 ![] bcast_S_S8x1x1024 (constant S_ .f32 0x3F800000#32))
          (extractStridedSlice S8x1x1024 ![0, 5, 0] md slices_S8x6x1024_S8x1x1024_0_5_0)))
      (shapeCast _ (addf (routed u g w d) (shared u ws ds)) shapeCasts_S16384x1024_S8x2048x1024))

/-- The mean over the columns. -/
def mean (z : FVec F S8x2048x1024 .f32) : FVec F S8x2048x1 .f32 :=
  Host.divf (broadcastInDim S8x2048x1 ![0, 1] bcast_S8x2048_S8x2048x1_0_1
    (Host.reduceAdd z (constant S_ .f32 0x00000000#32) reducesTo_S8x2048x1024_S8x2048_d2 h_S_))
    (broadcastInDim S8x2048x1 ![] bcast_S_S8x2048x1 (constant S_ .f32 0x44800000#32))

/-- An array less its mean. -/
def centred (z : FVec F S8x2048x1024 .f32) : FVec F S8x2048x1024 .f32 :=
  subf z (broadcastInDim S8x2048x1024 ![0, 1, 2] bcast_S8x2048x1_S8x2048x1024_0_1_2 (mean z))

/-- The layer norm. -/
def norm (z : FVec F S8x2048x1024 .f32) : FVec F S16384x1024 .f32 :=
  shapeCast _ (addf (mulf (mulf (centred z)
      (broadcastInDim S8x2048x1024 ![0, 1, 2] bcast_S8x2048x1_S8x2048x1024_0_1_2
        (Host.rsqrt (addf (mean (mulf (centred z) (centred z))) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast _ lg shapeCasts_S1x1024_S1024))))
    (broadcastInDim S8x2048x1024 ![0, 1, 2] bcast_S1x1x1024_S8x2048x1024_0_1_2 (broadcastInDim S1x1x1024 ![2] bcast_S1024_S1x1x1024_2 (shapeCast _ lb shapeCasts_S1x1024_S1024))))
    shapeCasts_S8x2048x1024_S16384x1024

/-- The reference's result is put together of these parts. -/
theorem result_eq (m : (ℓ : Loc nD τ sig) → Buf (Elt F) ℓ) (c : Dev nD) :
    Cert.ReferenceIdeal.Value.res_main_v60 m c =
      norm (m ((c.tc : Thread nD τ).loc main_arg9)) (m ((c.tc : Thread nD τ).loc main_arg10))
        (before (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))) := by
  unfold Cert.ReferenceIdeal.Value.res_main_v60 norm centred mean before shared sharedA sharedB routed hidden wideA wideB
  rfl

end Cert.Moe.Plain
-- ==== Proof.RefRow.lean ====
/-
The reference's result at one token, in exact arithmetic.
-/
module
public import proofs.«01_k».proof.Proof.RefParts
@[expose] public section
set_option maxRecDepth 16384
noncomputable section
namespace Cert.Moe.Plain
open Idealize.ShloMosaic Idealize.SL.Sem Cert.ReferenceIdeal Cert.ReferenceIdeal.Gen
variable (u : FVec Ideal S16384x1024 .bf16) (g : FVec Ideal S64x16384 .f32) (x : FVec Ideal S16384x1024 .f32) (md : FVec Ideal S8x6x1024 .f32)
  (w : FVec Ideal S64x1024x512 .bf16) (d : FVec Ideal S64x256x1024 .bf16) (ws : FVec Ideal S1024x512 .bf16) (ds : FVec Ideal S256x1024 .bf16)
  (lg lb : FVec Ideal S1x1024 .f32)

theorem wideA_at (n : Fin 16384) (e : Fin 64) (f : Fin 256) :
    wideA u w (ix3 n e f) = ∑ k, u (ix2 n k) * w (ix3 e k ⟨f.val, by omega⟩) := by
  pointwise [wideA]

theorem wideB_at (n : Fin 16384) (e : Fin 64) (f : Fin 256) :
    wideB u w (ix3 n e f) = ∑ k, u (ix2 n k) * w (ix3 e k ⟨256 + f.val, by omega⟩) := by
  pointwise [wideB]

theorem sharedA_at (n : Fin 16384) (f : Fin 256) :
    sharedA u ws (ix2 n f) = ∑ k, u (ix2 n k) * ws (ix2 k ⟨f.val, by omega⟩) := by
  pointwise [sharedA]

theorem sharedB_at (n : Fin 16384) (f : Fin 256) :
    sharedB u ws (ix2 n f) = ∑ k, u (ix2 n k) * ws (ix2 k ⟨256 + f.val, by omega⟩) := by
  pointwise [sharedB]

/-- One expert's hidden value for one token. -/
theorem hidden_at (n : Fin 16384) (e : Fin 64) (f : Fin 256) :
    hidden u g w (ix3 n e f) = hid (fun k => u (ix2 n k)) (fun k f => w (ix3 e k f)) f * g (ix2 e n) := by
  pointwise [hidden]
  rw [wideA_at, wideB_at]
  unfold hid
  rw [zero_sub]

/-- The experts' sum for one token. -/
theorem routed_at (n : Fin 16384) (c : Fin 1024) :
    routed u g w d (ix2 n c) =
      ∑ e : Fin 64, gated (fun k => u (ix2 n k)) (fun k f => w (ix3 e k f)) (fun f c => d (ix3 e f c)) (g (ix2 e n)) c := by
  pointwise [routed]
  refine Finset.sum_congr rfl fun e _ => ?_
  unfold gated
  exact Finset.sum_congr rfl fun f _ => by rw [hidden_at]

/-- The shared expert for one token. -/
theorem shared_at (n : Fin 16384) (c : Fin 1024) :
    shared u ws ds (ix2 n c) = sharedRow (fun k => u (ix2 n k)) (fun k f => ws (ix2 k f)) (fun f c => ds (ix2 f c)) c := by
  pointwise [shared]
  unfold sharedRow hid
  exact Finset.sum_congr rfl fun f _ => by rw [sharedA_at, sharedB_at, zero_sub]

/-- What the layer norm of a token is taken of. -/
theorem before_at (b : Fin 8) (n : Fin 2048) (c : Fin 1024) :
    before u g x md w d ws ds (ix3 b n c) =
      beforeRow (fun c => x (ix2 ⟨b.val * 2048 + n.val, by omega⟩ c)) (fun c => md (ix3 b 5 c))
        (fun c => routed u g w d (ix2 ⟨b.val * 2048 + n.val, by omega⟩ c))
        (fun c => shared u ws ds (ix2 ⟨b.val * 2048 + n.val, by omega⟩ c)) c := by
  pointwise [before, beforeRow]

theorem mean_at (z : FVec Ideal S8x2048x1024 .f32) (b : Fin 8) (n : Fin 2048) :
    mean z (ix3 b n 0) = meanRow fun c => z (ix3 b n c) := by
  pointwise [mean, meanRow]

theorem centred_at (z : FVec Ideal S8x2048x1024 .f32) (b : Fin 8) (n : Fin 2048) (c : Fin 1024) :
    centred z (ix3 b n c) = z (ix3 b n c) - meanRow fun c => z (ix3 b n c) := by
  pointwise [centred]
  rw [mean_at]

/-- The group of tokens a token belongs to, and its place in it. -/
abbrev grp (n : Fin 16384) : Fin 8 := ⟨n.val / 2048, by omega⟩
abbrev plc (n : Fin 16384) : Fin 2048 := ⟨n.val % 2048, by omega⟩

theorem grp_plc (n : Fin 16384) (h : n.val / 2048 * 2048 + n.val % 2048 < 16384) :
    (⟨n.val / 2048 * 2048 + n.val % 2048, h⟩ : Fin 16384) = n :=
  Fin.ext (by show n.val / 2048 * 2048 + n.val % 2048 = n.val; omega)

/-- The layer norm of a token. -/
theorem norm_at (z : FVec Ideal S8x2048x1024 .f32) (n : Fin 16384) (c : Fin 1024) :
    norm lg lb z (ix2 n c) =
      normRow (fun c => z (ix3 (grp n) (plc n) c)) (fun c => lg (ix2 0 c)) (fun c => lb (ix2 0 c)) c := by
  pointwise [norm]
  rw [mean_at, centred_at]
  unfold normRow
  have h : (fun c => mulf (centred z) (centred z) (ix3 (grp n) (plc n) c)) =
      fun c => (z (ix3 (grp n) (plc n) c) - meanRow fun c => z (ix3 (grp n) (plc n) c)) *
        (z (ix3 (grp n) (plc n) c) - meanRow fun c => z (ix3 (grp n) (plc n) c)) := by
    funext c
    pointwise []
    rw [centred_at]
  rw [h]

/-- The reference's result at one token. -/
theorem result_at (n : Fin 16384) (c : Fin 1024) :
    norm lg lb (before u g x md w d ws ds) (ix2 n c) =
      normRow (beforeRow (fun c => x (ix2 n c)) (fun c => md (ix3 (grp n) 5 c))
          (fun c => ∑ e : Fin 64, gated (fun k => u (ix2 n k)) (fun k f => w (ix3 e k f)) (fun f c => d (ix3 e f c)) (g (ix2 e n)) c)
          (sharedRow (fun k => u (ix2 n k)) (fun k f => ws (ix2 k f)) (fun f c => ds (ix2 f c))))
        (fun c => lg (ix2 0 c)) (fun c => lb (ix2 0 c)) c := by
  rw [norm_at]
  simp only [before_at, routed_at, shared_at, grp_plc]

end Cert.Moe.Plain
-- ==== Proof.Final.lean ====
/-
What the result array holds at the end: every token's row is the layer's.
-/
module
public import proofs.«01_k».proof.Proof.Sum
public import proofs.«01_k».proof.Proof.TileRow
public import proofs.«01_k».proof.Proof.RefRow
public import Idealize.ShloMosaic.Lib.Pipeline.Covers
@[expose] public section
set_option maxRecDepth 16384
noncomputable section
namespace Cert.Moe
open Idealize.ShloMosaic Idealize.SL.Sem Cert.KernelIdeal Cert.KernelIdeal.Gen
open Idealize.ShloMosaic.Pipeline (Dat Cfg Window BodyObligation cellOf)

variable (m : (ℓ : Loc nD τ sig) → Buf (Elt Ideal) ℓ) (c : Dev nD)

/-- What the reference makes of the arguments. -/
def layer : FVec Ideal S16384x1024 .f32 :=
  Plain.norm (arg m c main_arg9) (arg m c main_arg10)
    (Plain.before (arg m c main_arg1) (arg m c main_arg2) (arg m c main_arg3) (arg m c main_arg4) (arg m c main_arg5)
      (arg m c main_arg6) (arg m c main_arg7) (arg m c main_arg8))

theorem sharedRow_congr {u u' : Fin 1024 → EReal} {w w' : Fin 1024 → Fin 512 → EReal} {d d' : Fin 256 → Fin 1024 → EReal}
    (hu : ∀ k, u k = u' k) (hw : ∀ k f, w k f = w' k f) (hd : ∀ f q, d f q = d' f q) :
    sharedRow u w d = sharedRow u' w' d' := by
  obtain rfl : u = u' := funext hu
  obtain rfl : w = w' := funext fun k => funext (hw k)
  obtain rfl : d = d' := funext fun k => funext (hd k)
  rfl

theorem row_congr {x x' md md' acc acc' sh sh' lg lg' lb lb' : Fin 1024 → EReal} (col : Fin 1024)
    (hx : ∀ k, x k = x' k) (hm : ∀ k, md k = md' k) (ha : ∀ k, acc k = acc' k) (hs : sh = sh') (hg : ∀ k, lg k = lg' k) (hb : ∀ k, lb k = lb' k) :
    normRow (beforeRow x md acc sh) lg lb col = normRow (beforeRow x' md' acc' sh') lg' lb' col := by
  obtain rfl : x = x' := funext hx
  obtain rfl : md = md' := funext hm
  obtain rfl : acc = acc' := funext ha
  obtain rfl : lg = lg' := funext hg
  obtain rfl : lb = lb' := funext hb
  rw [hs]

/-- The tile a late point finishes. -/
def lateTile (t : Fin (cfgM m).N) (h : 16 ≤ t.val % 20) : Fin 4 := ⟨t.val % 20 - 16, by omega⟩

/-- A late point's tile holds its tokens' rows. -/
theorem out_at (hf : Fair m c) (t : Fin (cfgM m).N) (h : 16 ≤ t.val % 20) (n : Fin 512) (col : Fin 1024) :
    outAt m c t (ix2 n col) = layer m c (ix2 (tok (grpOf m t) (lateTile m t h) n) col) := by
  have hlt := group_lt m t
  unfold outAt layer
  rw [dif_pos h]
  refine (lateOut_at t _ h _ _ _ _ _ _ _ _ n col).trans ?_
  refine Eq.trans ?_ (Plain.result_at _ _ _ _ _ _ _ _ _ _ _ col).symm
  have hp : (tok (grpOf m t) (lateTile m t h) n).val = 2048 * (t.val / 20) + (512 * (t.val % 20 - 16) + n.val) := rfl
  refine row_congr col (fun k => ?_) (fun k => ?_) (fun k => ?_) (sharedRow_congr (fun k => ?_) (fun k f => ?_) (fun f q => ?_)) (fun k => ?_) (fun k => ?_)
  · refine (x_at m c t n k (by omega)).trans (congrArg (fun p => arg m c main_arg3 (ix2 p k)) (Fin.ext ?_))
    rw [hp]
    show 512 * (4 * (t.val / 20) + (t.val % 20 - 16)) + n.val = _
    omega
  · refine (md_at m c t 5 k hlt).trans (congrArg (fun p => arg m c main_arg4 (ix3 p 5 k)) (Fin.ext ?_))
    show t.val / 20 = (tok (grpOf m t) (lateTile m t h) n).val / 2048
    rw [hp]
    omega
  · exact acc_at m c hf t h (lateTile m t h) n k
  · exact u_at m c t ⟨512 * (t.val % 20 - 16) + n.val, by omega⟩ k (tok (grpOf m t) (lateTile m t h) n).isLt
  · exact ws_at m c t k f
  · exact ds_at m c t f q
  · exact lg_at m c t k
  · exact lb_at m c t k

/-- Every tile of the result is some late point's. -/
theorem out_covers : ((cfgM m).win 11).Covers := by
  refine ((cfgM m).win 11).covers_of_index_surj rfl (by decide : ∀ a : Fin 2, 0 < S512x1024.size a) fun β => ?_
  obtain ⟨r, hr⟩ : ∃ r : ℕ, r = (β (0 : Fin 2)).val := ⟨_, rfl⟩
  have e0 : ((cfgM m).win 11).nblk (0 : Fin 2) = 32 := by show (16384 + 512 - 1) / 512 = 32; decide
  have e1 : ((cfgM m).win 11).nblk (1 : Fin 2) = 1 := by show (1024 + 1024 - 1) / 1024 = 1; decide
  have h0 : r < 32 := hr ▸ (β (0 : Fin 2)).isLt.trans_eq e0
  have h1 : (β (1 : Fin 2)).val < 1 := (β (1 : Fin 2)).isLt.trans_eq e1
  have hN : (cfgM m).N = 160 := N_0
  refine ⟨⟨20 * (r / 4) + 16 + r % 4, lt_of_lt_of_eq (by omega) hN.symm⟩, fun a => ?_⟩
  rw [place_out]
  match a with
  | ⟨0, _⟩ =>
    refine Eq.trans ?_ hr
    show 4 * ((20 * (r / 4) + 16 + r % 4) / 20) + ((20 * (r / 4) + 16 + r % 4) % 20 - 16) = r
    omega
  | ⟨1, _⟩ =>
    show 0 = (β (1 : Fin 2)).val
    omega

theorem out_place (t : Fin (cfgM m).N) (n : Fin 512) (col : Fin 1024) (p : Fin 16384) (hp : p.val = 512 * (4 * (t.val / 20) + (t.val % 20 - 16)) + n.val) :
    ((((cfgM m).win 11).blk t).view.emb (ix2 n col)) = (ix2 p col : S16384x1024.Idx) := by
  blk_ext [place_out m t]

theorem result_at_end (hf : Fair m c) : (dats m 0 c).arrAt 11 (cfgM m).N = layer m c := by
  refine (dats m 0 c).arrAt_eq_of_covers 11 _ (out_covers m) fun t hfl y => ?_
  have h : 16 ≤ t.val % 20 := by
    by_contra hn
    exact absurd (out_kept m t (by omega)) (by rw [hfl]; decide)
  rw [after_11]
  obtain ⟨n, col, rfl⟩ : ∃ (n : Fin 512) (col : Fin 1024), y = ix2 n col := ⟨_, _, eq_ix2 (n0 := 512) (n1 := 1024) y⟩
  refine (out_at m c hf t h n col).trans ?_
  exact congrArg (layer m c) (out_place m t n col _ (by
    show 2048 * (t.val / 20) + (512 * (t.val % 20 - 16) + n.val) = _
    omega)).symm

end Cert.Moe
-- ==== Proof.Counted.lean ====
/-
What the precondition says: no gate is negative, and the counts are those of the positive gates.
-/
module
public import proofs.«01_k».proof.Proof.Ranks
public import proofs.«01_k».proof.Defs
public import Idealize.ShloMosaic.Lib.ReduceAll
@[expose] public section
set_option maxRecDepth 16384
noncomputable section
namespace Cert.Moe
open Idealize.ShloMosaic Idealize.SL.Sem
open scoped Classical

/-- Adding up one-bit words counts. -/
theorem fold_count (p : Fin 512 → Prop) [DecidablePred p] (s : Finset (Fin 512)) :
    s.fold IntOp.addi 0#32 (fun x => BitVec.setWidth 32 (BitVec.ofBool (decide (p x)))) =
      BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun h' => ha (Finset.mem_filter.mp h').1), decide_eq_true h]
      show 1#32 + BitVec.ofNat 32 _ = _
      rw [← BitVec.ofNat_add, Nat.add_comm]
    · rw [if_neg h, decide_eq_false h]
      show 0#32 + BitVec.ofNat 32 _ = _
      rw [← BitVec.ofNat_add, Nat.zero_add]

theorem of_ofBool {p : Prop} {_ : Decidable p} (h : BitVec.ofBool (decide p) = 1#1) : p := by
  by_contra hp
  rw [decide_eq_false hp] at h
  exact absurd h (by decide)

section
variable [Cert.Pre_counted.Facts]
variable (a0 : IVec Cert.Pre_counted.S32x64 32) (a1 : FVec Ideal Cert.Pre_counted.S16384x1024 .bf16) (a2 : FVec Ideal Cert.Pre_counted.S64x16384 .f32) (a3 : FVec Ideal Cert.Pre_counted.S16384x1024 .f32) (a4 : FVec Ideal Cert.Pre_counted.S8x6x1024 .f32) (a5 : FVec Ideal Cert.Pre_counted.S64x1024x512 .bf16) (a6 : FVec Ideal Cert.Pre_counted.S64x256x1024 .bf16) (a7 : FVec Ideal Cert.Pre_counted.S1024x512 .bf16) (a8 : FVec Ideal Cert.Pre_counted.S256x1024 .bf16) (a9 a10 : FVec Ideal Cert.Pre_counted.S1x1024 .f32)

theorem fn_parts (h : Cert.Pre_counted.fn a0 a1 a2 a3 a4 a5 a6 a7 a8 a9 a10 = fun _ => 1#1) :
    (∀ (e : Fin 64) (n : Fin 16384), 0 ≤ a2 (ix2 e n)) ∧ ∀ (T : Fin 32) (e : Fin 64), a0 (ix2 T e) = BitVec.ofNat 32 (howMany fun k => a2 (ix2 e ⟨T.val * 512 + k.val, by omega⟩)) := by
  have h0 := congrFun h ix0
  dsimp only [Cert.Pre_counted.fn] at h0
  have h1 := IntOp.andi_eq_one.mp h0
  constructor
  · intro e n
    have h2 := Host.reduce_andi_all _ _ _ _ _ h1.1 (ix2 e n)
    pointwise [] at h2
    exact of_ofBool h2
  · intro T e
    have h2 := Host.reduce_andi_all _ _ _ _ _ h1.2 (ix2 T e)
    pointwise [] at h2
    have h3 := of_ofBool h2
    refine h3.trans ?_
    refine Eq.trans ?_ ((fold_count (fun x => 0 < a2 (ix2 e ⟨T.val * 512 + x.val, by omega⟩)) Finset.univ).trans
      (by unfold howMany; congr 2))
    congr 1
end
end Cert.Moe
-- ==== Proof.Value.lean ====
/-
The kernel's result is the reference's.
-/
module
public import proofs.«01_k».proof.Defs
public import proofs.«01_k».proof.Proof.Final
public import proofs.«01_k».proof.Proof.Counted
public import proofs.«01_k».proof.Proof.Gen.Pre_counted
@[expose] public section
set_option maxRecDepth 16384
noncomputable section
namespace Cert.Moe
open Idealize.ShloMosaic Idealize.ShloMosaic.TcCoe Idealize.SL.Sem Cert.KernelIdeal Cert.KernelIdeal.Gen

/-- What the precondition says. -/
theorem fair_of (m : (ℓ : Loc nD τ sig) → Buf (Elt Ideal) ℓ) (h : Cert.Pre_KernelIdeal_counted (hPre_counted := Cert.Pre_counted.Gen.facts) m) (c : Dev nD) : Fair m c := by
  obtain ⟨h1, h2⟩ := fn_parts _ _ _ _ _ _ _ _ _ _ _ (h c)
  refine ⟨fun b T e n => h1 e (tok b T n), fun b T e hlt => ?_⟩
  refine (h2 ⟨4 * b.val + T.val, hlt⟩ e).trans (congrArg (fun g => BitVec.ofNat 32 (howMany g)) (funext fun k => ?_))
  refine congrArg (fun p => arg m c main_arg2 (ix2 e p)) (Fin.ext ?_)
  show (4 * b.val + T.val) * 512 + k.val = 2048 * b.val + (512 * T.val + k.val)
  omega

theorem algebraic : Cert.algebraic_KernelIdeal_ReferenceIdeal_pre_counted (hKernelIdeal := Cert.KernelIdeal.Gen.facts) (hReferenceIdeal := Cert.ReferenceIdeal.Gen.facts) (hPre_counted := Cert.Pre_counted.Gen.facts) := by
  intro m g m' g' hpre hagree
  refine ⟨fun c => layer m c, ?_, ?_⟩
  · refine (θ_run _ _ _).mono (fun r h c => ⟨?_, args_kept m r h.1 c⟩) (run_all m g)
    exact ((h.1 c).1 11).trans (result_at_end m c (fair_of m hpre c))
  · refine (θ_run _ _ _).mono (fun r h c => ⟨(h c).1.trans ?_, (h c).2⟩) (Cert.ReferenceIdeal.Value.run m' g')
    rw [Plain.result_eq]
    obtain ⟨-, e1, e2, e3, e4, e5, e6, e7, e8, e9, e10⟩ := hagree c
    rw [e1, e2, e3, e4, e5, e6, e7, e8, e9, e10]
    rfl

end Cert.Moe
-- ==== Proof.MergeRows.lean ====
/-
What the merge of the three branches computes for one token, in exact arithmetic.
-/
module
public import proofs.«01_k».proof.Proof.Rows
@[expose] public section
noncomputable section
namespace Cert.Merge
open Idealize.ShloMosaic Cert.Moe

/-- A row scaled and shifted. -/
def modRow (x sh sc : Fin 1024 → EReal) (k : Fin 1024) : EReal := x k * (1 + sc k) + sh k

/-- One branch's output in column `d`, times its gate, where `w` is the column of the gate's weights and `v` the column of the projection. -/
def branchRow (u : Fin 1024 → EReal) (w : Fin 1024 → EReal) (o : Fin 512 → EReal) (v : Fin 512 → EReal) : EReal :=
  Ideal.div 1 (1 + Ideal.exp (0 - ∑ k, u k * w k)) * ∑ k, o k * v k

/-- The three branches merged, in column `d`. -/
def mergedRow (u : Fin 1024 → EReal) (wg : Fin 1024 → Fin 3072 → EReal) (oa ob oc : Fin 512 → EReal)
    (wa wb wc : Fin 512 → Fin 1024 → EReal) (d : Fin 1024) : EReal :=
  branchRow u (fun k => wg k ⟨d.val, by omega⟩) oa (fun k => wa k d)
    + branchRow u (fun k => wg k ⟨1024 + d.val, by omega⟩) ob (fun k => wb k d)
    + branchRow u (fun k => wg k ⟨2048 + d.val, by omega⟩) oc (fun k => wc k d)

/-- What the layer norm is taken of: the scaled input and the modulated output projection. -/
def preRow (x g y : Fin 1024 → EReal) (wo : Fin 1024 → Fin 1024 → EReal) (c : Fin 1024) : EReal :=
  Ideal.ofBits .f32 0x3FB504F3#32 * x c + (1 + g c) * ∑ d, y d * wo d c

/-- The token after the merge and the layer norm. -/
def tokenRow (x : Fin 1024 → EReal) (md : Fin 6 → Fin 1024 → EReal) (oa ob oc : Fin 512 → EReal) (wg : Fin 1024 → Fin 3072 → EReal)
    (wa wb wc : Fin 512 → Fin 1024 → EReal) (wo : Fin 1024 → Fin 1024 → EReal) (lg lb : Fin 1024 → EReal) : Fin 1024 → EReal :=
  normRow (preRow x (md 2) (mergedRow (modRow x (md 0) (md 1)) wg oa ob oc wa wb wc) wo) lg lb

end Cert.Merge
-- ==== Proof.MergeRef.lean ====
/-
The merge's reference in parts, and its results at one token, in exact arithmetic.
-/
module
public import proofs.«01_k».proof.Proof.MergeRows
public import proofs.«01_k».proof.Proof.RefRow
public import proofs.«01_k».proof.Proof.Gen.Reference2Ideal.Run
@[expose] public section
set_option maxRecDepth 16384
noncomputable section
namespace Cert.Merge
open Idealize.ShloMosaic Idealize.SL.Sem Cert.Reference2Ideal Cert.Reference2Ideal.Gen Cert.Moe

section Parts
variable {F : FTy → Type} [FloatOps F]

/-- An array scaled and shifted by two rows of the modulation. -/
def modded (x : FVec F S8x2048x1024 .f32) (sh sc : FVec F S8x1x1024 .f32) : FVec F S8x2048x1024 .f32 :=
  addf (mulf x (broadcastInDim S8x2048x1024 ![0, 1, 2] bcast_S8x1x1024_S8x2048x1024_0_1_2
      (addf (broadcastInDim S8x1x1024 ![] bcast_S_S8x1x1024 (constant S_ .f32 0x3F800000#32)) sc)))
    (broadcastInDim S8x2048x1024 ![0, 1, 2] bcast_S8x1x1024_S8x2048x1024_0_1_2 sh)

/-- The three gates of every token, side by side. -/
def wide (u : FVec F S8x2048x1024 .f32) (wg : FVec F S1024x3072 .bf16) : FVec F S8x2048x3072 .f32 :=
  Host.dotGeneral dot_S8x2048x1024_S1024x3072_S8x2048x3072_2_0_01_1_n_n none u (extf .f32 wg bitsLt_bf16_f32)

/-- One branch times its gate. -/
def gatedBranch (z : FVec F S8x2048x1024 .f32) (o : FVec F S8x2048x512 .bf16) (w : FVec F S512x1024 .bf16) : FVec F S8x2048x1024 .f32 :=
  mulf (Host.divf (broadcastInDim S8x2048x1024 ![] bcast_S_S8x2048x1024 (constant S_ .f32 0x3F800000#32))
      (addf (broadcastInDim S8x2048x1024 ![] bcast_S_S8x2048x1024 (constant S_ .f32 0x3F800000#32)) (Host.exp (Host.negf z))))
    (Host.dotGeneral dot_S8x2048x512_S512x1024_S8x2048x1024_2_0_01_1_n_n none (extf .f32 o bitsLt_bf16_f32) (extf .f32 w bitsLt_bf16_f32))

/-- The three branches merged. -/
def merged (u : FVec F S8x2048x1024 .f32) (oa ob oc : FVec F S8x2048x512 .bf16) (wg : FVec F S1024x3072 .bf16)
    (wa wb wc : FVec F S512x1024 .bf16) : FVec F S8x2048x1024 .f32 :=
  addf (addf
      (gatedBranch (extractStridedSlice S8x2048x1024 ![0, 0, 0] (wide u wg) slices_S8x2048x3072_S8x2048x1024_0_0_0) oa wa)
      (gatedBranch (extractStridedSlice S8x2048x1024 ![0, 0, 1024] (wide u wg) slices_S8x2048x3072_S8x2048x1024_0_0_1024) ob wb))
    (gatedBranch (extractStridedSlice S8x2048x1024 ![0, 0, 2048] (wide u wg) slices_S8x2048x3072_S8x2048x1024_0_0_2048) oc wc)

/-- What the layer norm is taken of. -/
def pre (x : FVec F S8x2048x1024 .f32) (g : FVec F S8x1x1024 .f32) (y : FVec F S8x2048x1024 .f32) (wo : FVec F S1024x1024 .bf16) :
    FVec F S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2
        (addf (broadcastInDim S8x1x1024 ![] bcast_S_S8x1x1024 (constant S_ .f32 0x3F800000#32)) g))
      (Host.dotGeneral dot_S8x2048x1024_S1024x1024_S8x2048x1024_2_0_01_1_n_n none y (extf .f32 wo bitsLt_bf16_f32)))

/-- The layer norm. -/
def layerNorm (z : FVec F S8x2048x1024 .f32) (lg lb : FVec F S1x1024 .f32) : FVec F S8x2048x1024 .f32 :=
  addf (mulf (mulf (Plain.centred z)
      (broadcastInDim S8x2048x1024 ![0, 1, 2] bcast_S8x2048x1_S8x2048x1024_0_1_2
        (Host.rsqrt (addf (Plain.mean (mulf (Plain.centred z) (Plain.centred z))) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast _ lg shapeCasts_S1x1024_S1024))))
    (broadcastInDim S8x2048x1024 ![0, 1, 2] bcast_S1x1x1024_S8x2048x1024_0_1_2 (broadcastInDim S1x1x1024 ![2] bcast_S1024_S1x1x1024_2 (shapeCast _ lb shapeCasts_S1x1024_S1024)))

variable (x : FVec F S8x2048x1024 .f32) (md : FVec F S8x6x1024 .f32) (oa ob oc : FVec F S8x2048x512 .bf16) (wg : FVec F S1024x3072 .bf16)
  (wa wb wc : FVec F S512x1024 .bf16) (wo : FVec F S1024x1024 .bf16) (lg lb : FVec F S1x1024 .f32)

/-- The first result: the tokens after the merge. -/
def tokens : FVec F S8x2048x1024 .f32 :=
  layerNorm (pre x (extractStridedSlice S8x1x1024 ![0, 2, 0] md slices_S8x6x1024_S8x1x1024_0_2_0)
    (merged (modded x (extractStridedSlice S8x1x1024 ![0, 0, 0] md slices_S8x6x1024_S8x1x1024_0_0_0)
      (extractStridedSlice S8x1x1024 ![0, 1, 0] md slices_S8x6x1024_S8x1x1024_0_1_0)) oa ob oc wg wa wb wc) wo) lg lb

/-- The second result: the same, modulated for the experts. -/
def scaled : FVec F S8x2048x1024 .bf16 :=
  truncf .bf16 (modded (tokens x md oa ob oc wg wa wb wc wo lg lb)
    (extractStridedSlice S8x1x1024 ![0, 3, 0] md slices_S8x6x1024_S8x1x1024_0_3_0)
    (extractStridedSlice S8x1x1024 ![0, 4, 0] md slices_S8x6x1024_S8x1x1024_0_4_0)) bitsLt_bf16_f32

variable (m : (ℓ : Loc nD τ sig) → Buf (Elt F) ℓ) (c : Dev nD)

theorem tokens_eq : Cert.Reference2Ideal.Value.res_main_v82 m c =
    tokens (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold Cert.Reference2Ideal.Value.res_main_v82 tokens layerNorm Plain.centred Plain.mean pre merged gatedBranch wide modded
  rfl

theorem scaled_eq : Cert.Reference2Ideal.Value.res_main_v89 m c =
    scaled (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold Cert.Reference2Ideal.Value.res_main_v89 scaled tokens layerNorm Plain.centred Plain.mean pre merged gatedBranch wide modded
  rfl

end Parts

/-! The parts at one token. -/

variable (b : Fin 8) (n : Fin 2048) (d : Fin 1024)

theorem modded_at (x : FVec Ideal S8x2048x1024 .f32) (sh sc : FVec Ideal S8x1x1024 .f32) :
    modded x sh sc (ix3 b n d) = modRow (fun k => x (ix3 b n k)) (fun k => sh (ix3 b 0 k)) (fun k => sc (ix3 b 0 k)) d := by
  pointwise [modded, modRow]

theorem wide_at (u : FVec Ideal S8x2048x1024 .f32) (wg : FVec Ideal S1024x3072 .bf16) (j : Fin 3072) :
    wide u wg (ix3 b n j) = ∑ k, u (ix3 b n k) * wg (ix2 k j) := by
  pointwise [wide]

theorem gatedBranch_at (z : FVec Ideal S8x2048x1024 .f32) (o : FVec Ideal S8x2048x512 .bf16) (w : FVec Ideal S512x1024 .bf16) :
    gatedBranch z o w (ix3 b n d) =
      Ideal.div 1 (1 + Ideal.exp (0 - z (ix3 b n d))) * ∑ k, o (ix3 b n k) * w (ix2 k d) := by
  rw [zero_sub]
  pointwise [gatedBranch]

theorem merged_at (u : FVec Ideal S8x2048x1024 .f32) (oa ob oc : FVec Ideal S8x2048x512 .bf16) (wg : FVec Ideal S1024x3072 .bf16)
    (wa wb wc : FVec Ideal S512x1024 .bf16) :
    merged u oa ob oc wg wa wb wc (ix3 b n d) =
      mergedRow (fun k => u (ix3 b n k)) (fun k j => wg (ix2 k j)) (fun k => oa (ix3 b n k)) (fun k => ob (ix3 b n k)) (fun k => oc (ix3 b n k))
        (fun k j => wa (ix2 k j)) (fun k j => wb (ix2 k j)) (fun k j => wc (ix2 k j)) d := by
  pointwise [merged]
  simp only [gatedBranch_at]
  pointwise []
  simp only [wide_at]
  rfl

theorem pre_at (x : FVec Ideal S8x2048x1024 .f32) (g : FVec Ideal S8x1x1024 .f32) (y : FVec Ideal S8x2048x1024 .f32) (wo : FVec Ideal S1024x1024 .bf16) :
    pre x g y wo (ix3 b n d) =
      preRow (fun k => x (ix3 b n k)) (fun k => g (ix3 b 0 k)) (fun k => y (ix3 b n k)) (fun k j => wo (ix2 k j)) d := by
  pointwise [pre, preRow]

theorem layerNorm_at (z : FVec Ideal S8x2048x1024 .f32) (lg lb : FVec Ideal S1x1024 .f32) :
    layerNorm z lg lb (ix3 b n d) = normRow (fun k => z (ix3 b n k)) (fun k => lg (ix2 0 k)) (fun k => lb (ix2 0 k)) d := by
  have h : (fun k => mulf (Plain.centred z) (Plain.centred z) (ix3 b n k)) =
      fun k => (z (ix3 b n k) - meanRow fun k => z (ix3 b n k)) * (z (ix3 b n k) - meanRow fun k => z (ix3 b n k)) := by
    funext k
    pointwise []
    rw [Plain.centred_at]
  pointwise [layerNorm]
  rw [Plain.mean_at, Plain.centred_at, h]
  rfl

variable (x : FVec Ideal S8x2048x1024 .f32) (md : FVec Ideal S8x6x1024 .f32) (oa ob oc : FVec Ideal S8x2048x512 .bf16) (wg : FVec Ideal S1024x3072 .bf16)
  (wa wb wc : FVec Ideal S512x1024 .bf16) (wo : FVec Ideal S1024x1024 .bf16) (lg lb : FVec Ideal S1x1024 .f32)

/-- One token after the merge, from the arrays. -/
abbrev rowOf : Fin 1024 → EReal :=
  tokenRow (fun k => x (ix3 b n k)) (fun i k => md (ix3 b i k)) (fun k => oa (ix3 b n k)) (fun k => ob (ix3 b n k)) (fun k => oc (ix3 b n k))
    (fun k j => wg (ix2 k j)) (fun k j => wa (ix2 k j)) (fun k j => wb (ix2 k j)) (fun k j => wc (ix2 k j)) (fun k j => wo (ix2 k j))
    (fun k => lg (ix2 0 k)) (fun k => lb (ix2 0 k))

theorem row_at (i : ℕ) (hi : i < 6) (h : S8x6x1024.Slices ![0, i, 0] S8x1x1024) (k : Fin 1024) :
    extractStridedSlice S8x1x1024 ![0, i, 0] md h (ix3 b 0 k) = md (ix3 b ⟨i, hi⟩ k) := by
  refine congrArg md (funext fun a => Fin.ext ?_)
  match a with
  | ⟨0, _⟩ => show 0 + b.val = b.val; omega
  | ⟨1, _⟩ => show i + 0 = i; omega
  | ⟨2, _⟩ => show 0 + k.val = k.val; omega

theorem tokens_at : tokens x md oa ob oc wg wa wb wc wo lg lb (ix3 b n d) = rowOf b n x md oa ob oc wg wa wb wc wo lg lb d := by
  unfold tokens
  rw [layerNorm_at]
  simp only [pre_at, merged_at, modded_at]
  simp only [row_at b md 0 (by decide), row_at b md 1 (by decide), row_at b md 2 (by decide)]
  rfl

theorem scaled_at : scaled x md oa ob oc wg wa wb wc wo lg lb (ix3 b n d) =
    modRow (rowOf b n x md oa ob oc wg wa wb wc wo lg lb) (fun k => md (ix3 b 3 k)) (fun k => md (ix3 b 4 k)) d := by
  unfold scaled
  pointwise []
  rw [modded_at]
  simp only [tokens_at]
  simp only [row_at b md 3 (by decide), row_at b md 4 (by decide)]
  rfl

end Cert.Merge
-- ==== Proof.MergeTile.lean ====
/-
What the merge kernel leaves in its blocks for one token, in exact arithmetic.
-/
module
public import proofs.«01_k».proof.Proof.MergeRows
public import proofs.«01_k».proof.Proof.TileRow
public import proofs.«01_k».proof.Proof.Gen.Kernel2Ideal.Value
@[expose] public section
set_option maxRecDepth 16384
noncomputable section
namespace Cert.Merge
open Idealize.ShloMosaic Idealize.SL.Sem Cert.Kernel2Ideal Cert.Kernel2Ideal.Gen Cert.Moe

variable (n : Fin 512) (d : Fin 1024)

/-! The body's values at one token. -/

theorem squeezed_at (v : Vec Ideal S1x512x1024 .f32) : k0_pay2 v (ix2 n d) = v (ix3 0 n d) := by
  pointwise [k0_pay2]

theorem moddedTile_at (x : Vec Ideal S1x512x1024 .f32) (sh sc : Vec Ideal S1x1x1024 .f32) :
    k0_pay6 x sh sc (ix2 n d) = modRow (fun k => x (ix3 0 n k)) (fun k => sh (ix3 0 0 k)) (fun k => sc (ix3 0 0 k)) d := by
  pointwise [k0_pay6, k0_pay2, modRow]

/-- The third gate; the first two are spelt alike. -/
theorem gate_at (u : FVec Ideal S512x1024 .bf16) (w : Vec Ideal S1024x1024 .bf16) :
    k0_pay10 u w (ix2 n d) = Ideal.div 1 (1 + Ideal.exp (0 - ∑ k, u (ix2 n k) * w (ix2 k d))) := by
  pointwise [k0_pay10]

theorem firstGate_at (x : Vec Ideal S1x512x1024 .f32) (sh sc : Vec Ideal S1x1x1024 .f32) (w : Vec Ideal S1024x1024 .bf16) :
    k0_pay8 x sh sc w (ix2 n d) = Ideal.div 1 (1 + Ideal.exp (0 - ∑ k, k0_pay6 x sh sc (ix2 n k) * w (ix2 k d))) :=
  gate_at n d (k0_pay6 x sh sc) w

/-- The first two branches. -/
theorem twoBranches_at (u : FVec Ideal S512x1024 .bf16) (g : FVec Ideal S512x1024 .f32) (oa : Vec Ideal S1x512x512 .bf16) (wa : Vec Ideal S512x1024 .bf16)
    (w : Vec Ideal S1024x1024 .bf16) (ob : Vec Ideal S1x512x512 .bf16) (wb : Vec Ideal S512x1024 .bf16) :
    k0_pay9 u (k0_pay7 (F := Ideal)) g oa wa w ob wb (ix2 n d) =
      g (ix2 n d) * (∑ k, oa (ix3 0 n k) * wa (ix2 k d))
        + Ideal.div 1 (1 + Ideal.exp (0 - ∑ k, u (ix2 n k) * w (ix2 k d))) * ∑ k, ob (ix3 0 n k) * wb (ix2 k d) := by
  pointwise [k0_pay9, k0_pay7]

section Norm
variable {F : FTy → Type} [FloatOps F]
/-- The tile before its layer norm. -/
def preTile (x : FVec F S512x1024 .f32) (g : FVec F S1x1024 .f32) (two gate : FVec F S512x1024 .f32) (o : FVec F S512x512 .bf16) (w : Vec F S512x1024 .bf16)
    (wo : Vec F S1024x1024 .bf16) : FVec F S512x1024 .f32 :=
  let y : FVec F S512x1024 .bf16 := truncf .bf16 (addf two (mulf gate (matmul dot_S512x512_S512x1024_S512x1024_1_0_0_1_n_n none o w (constant S512x1024 .f32 0x00000000#32)))) bitsLt_bf16_f32
  addf (mulf (broadcast S512x1024 (Scalar.ofBits .f32 0x3FB504F3#32)) x)
    (mulf (broadcastTo S512x1024 (addf (broadcast S1x1024 (Scalar.ofBits .f32 0x3F800000#32)) g) broadcasts_S1x1024_S512x1024)
      (matmul dot_S512x1024_S1024x1024_S512x1024_1_0_0_1_n_n none y wo (constant S512x1024 .f32 0x00000000#32)))

theorem finished_eq (x : FVec F S512x1024 .f32) (g : FVec F S1x1024 .f32) (two gate : FVec F S512x1024 .f32) (o : FVec F S512x512 .bf16) (w : Vec F S512x1024 .bf16)
    (wo : Vec F S1024x1024 .bf16) (lg lb : Vec F S1x1024 .f32) :
    k0_pay12 x g two gate o w (constant S512x1024 .f32 0x00000000#32) wo lg lb = normed (preTile x g two gate o w wo) lg lb := rfl
end Norm

theorem preTile_at (x : FVec Ideal S512x1024 .f32) (g : FVec Ideal S1x1024 .f32) (two gate : FVec Ideal S512x1024 .f32) (o : FVec Ideal S512x512 .bf16)
    (w : Vec Ideal S512x1024 .bf16) (wo : Vec Ideal S1024x1024 .bf16) :
    preTile x g two gate o w wo (ix2 n d) =
      preRow (fun k => x (ix2 n k)) (fun k => g (ix2 0 k)) (fun k => two (ix2 n k) + gate (ix2 n k) * ∑ j, o (ix2 n j) * w (ix2 j k))
        (fun k j => wo (ix2 k j)) d := by
  pointwise [preTile, preRow]

/-! What a load of a part of a block reads. -/

theorem ld_row (x : Vec Ideal S1x6x1024 .f32) (i : Fin 6) (inb : ∀ a, (![0, i.val, 0] : Fin 3 → ℕ) a + S1x1x1024.size a ≤ S1x6x1024.size a) (k : Fin 1024) :
    View.ld (Val := Elt Ideal) (e' := .f32) x (Rect.unit (s := S1x6x1024) ![0, i.val, 0] S1x1x1024.size inb) (ix3 0 0 k) = x (ix3 0 i k) := by
  refine congrArg x (funext fun a => Fin.ext ?_)
  match a with
  | ⟨0, _⟩ => rfl
  | ⟨1, _⟩ => rfl
  | ⟨2, _⟩ => show 0 + 1 * k.val = k.val; omega

theorem ld_cols (x : Vec Ideal S1024x3072 .bf16) (o : ℕ) (inb : ∀ a, (![0, o] : Fin 2 → ℕ) a + S1024x1024.size a ≤ S1024x3072.size a) (k j : Fin 1024) (h : o + j.val < 3072) :
    View.ld (Val := Elt Ideal) (e' := .bf16) x (Rect.unit (s := S1024x3072) ![0, o] S1024x1024.size inb) (ix2 k j) = x (ix2 k ⟨o + j.val, h⟩) := by
  refine congrArg x (funext fun a => Fin.ext ?_)
  match a with
  | ⟨0, _⟩ => show 0 + 1 * k.val = k.val; omega
  | ⟨1, _⟩ => show o + 1 * j.val = o + j.val; omega

/-! What the body leaves. -/

variable (x0 : Vec Ideal S1x512x1024 .f32) (x1 : Vec Ideal S1x6x1024 .f32) (x2 x3 x4 : Vec Ideal S1x512x512 .bf16) (x5 : Vec Ideal S1024x3072 .bf16)
  (x6 x7 x8 : Vec Ideal S512x1024 .bf16) (x9 : Vec Ideal S1024x1024 .bf16) (x10 x11 : Vec Ideal S1x1024 .f32)

/-- One token after the merge, from the blocks. -/
abbrev blockRow : Fin 1024 → EReal :=
  tokenRow (fun k => x0 (ix3 0 n k)) (fun i k => x1 (ix3 0 i k)) (fun k => x2 (ix3 0 n k)) (fun k => x3 (ix3 0 n k)) (fun k => x4 (ix3 0 n k))
    (fun k j => x5 (ix2 k j)) (fun k j => x6 (ix2 k j)) (fun k j => x7 (ix2 k j)) (fun k j => x8 (ix2 k j)) (fun k j => x9 (ix2 k j))
    (fun k => x10 (ix2 0 k)) (fun k => x11 (ix2 0 k))

/-- The finished tile. -/
def tile : FVec Ideal S512x1024 .f32 :=
  k0_pay12 (k0_pay2 x0) (k0_pay3 (View.ld x1 r0_3))
    (k0_pay9 (k0_pay6 x0 (View.ld x1 r0_1) (View.ld x1 r0_2)) (k0_pay7 (F := Ideal)) (k0_pay8 x0 (View.ld x1 r0_1) (View.ld x1 r0_2) (View.ld x5 r0_6)) x2 x6 (View.ld x5 r0_9) x3 x7)
    (k0_pay10 (k0_pay6 x0 (View.ld x1 r0_1) (View.ld x1 r0_2)) (View.ld x5 r0_10)) (k0_pay11 x4) x8 (constant S512x1024 .f32 0x00000000#32) x9 x10 x11

theorem tile_at : tile x0 x1 x2 x3 x4 x5 x6 x7 x8 x9 x10 x11 (ix2 n d) = blockRow n x0 x1 x2 x3 x4 x5 x6 x7 x8 x9 x10 x11 d := by
  unfold tile
  rw [finished_eq, normed_at]
  simp only [preTile_at, squeezed_at, twoBranches_at, firstGate_at, gate_at, moddedTile_at]
  have hr (v : Vec Ideal S1x1x1024 .f32) (k : Fin 1024) : k0_pay3 v (ix2 0 k) = v (ix3 0 0 k) := by pointwise [k0_pay3]
  have ho (v : Vec Ideal S1x512x512 .bf16) (k : Fin 512) : k0_pay11 v (ix2 n k) = v (ix3 0 n k) := by pointwise [k0_pay11]
  have c0 (k j : Fin 1024) : View.ld x5 r0_6 (ix2 k j) = x5 (ix2 k ⟨j.val, by omega⟩) :=
    (ld_cols x5 0 _ k j (by omega)).trans (congrArg (fun q => x5 (ix2 k q)) (Fin.ext (Nat.zero_add j.val)))
  have c1 (k j : Fin 1024) : View.ld x5 r0_9 (ix2 k j) = x5 (ix2 k ⟨1024 + j.val, by omega⟩) := ld_cols x5 1024 _ k j _
  have c2 (k j : Fin 1024) : View.ld x5 r0_10 (ix2 k j) = x5 (ix2 k ⟨2048 + j.val, by omega⟩) := ld_cols x5 2048 _ k j _
  have m0 (k : Fin 1024) : View.ld x1 r0_1 (ix3 0 0 k) = x1 (ix3 0 0 k) := ld_row x1 0 _ k
  have m1 (k : Fin 1024) : View.ld x1 r0_2 (ix3 0 0 k) = x1 (ix3 0 1 k) := ld_row x1 1 _ k
  have m2 (k : Fin 1024) : View.ld x1 r0_3 (ix3 0 0 k) = x1 (ix3 0 2 k) := ld_row x1 2 _ k
  simp only [hr, ho, m0, m1, m2, c0, c1, c2]
  rfl

theorem no_shift3 : (![0, 0, 0] : Fin 3 → ℕ) = fun _ => 0 := by decide
theorem no_shift2 : (![0, 0] : Fin 2 → ℕ) = fun _ => 0 := by decide
theorem whole_x (v : Vec Ideal S1x512x1024 .f32) : View.ld v r0_0 = v := View.ld_unit_zero no_shift3 _ v
theorem whole_o (v : Vec Ideal S1x512x512 .bf16) : View.ld v r0_7 = v := View.ld_unit_zero no_shift3 _ v
theorem whole_w (v : Vec Ideal S512x1024 .bf16) : View.ld v r0_8 = v := View.ld_unit_zero no_shift2 _ v
theorem whole_wo (v : Vec Ideal S1024x1024 .bf16) : View.ld v r0_11 = v := View.ld_unit_zero no_shift2 _ v
theorem whole_ln (v : Vec Ideal S1x1024 .f32) : View.ld v r0_12 = v := View.ld_unit_zero no_shift2 _ v

theorem tokensOut_at : out0_12 x0 x1 x2 x3 x4 x5 x6 x7 x8 x9 x10 x11 (ix3 0 n d) = blockRow n x0 x1 x2 x3 x4 x5 x6 x7 x8 x9 x10 x11 d := by
  refine Eq.trans ?_ (tile_at n d x0 x1 x2 x3 x4 x5 x6 x7 x8 x9 x10 x11)
  unfold_out out0_12
  rw [View.canon_cons_unit_zero no_shift3]
  simp only [whole_x, whole_o, whole_w, whole_wo, whole_ln]
  unfold k0_pay13
  pointwise []
  rfl

theorem scaledOut_at : out0_13 x0 x1 x2 x3 x4 x5 x6 x7 x8 x9 x10 x11 (ix3 0 n d) =
    modRow (blockRow n x0 x1 x2 x3 x4 x5 x6 x7 x8 x9 x10 x11) (fun k => x1 (ix3 0 3 k)) (fun k => x1 (ix3 0 4 k)) d := by
  have h (u : FVec Ideal S512x1024 .f32) (sh sc : Vec Ideal S1x1x1024 .f32) :
      k0_pay1 (k0_pay4 sh) u (k0_pay14 (k0_pay5 sc)) (ix3 0 n d) = modRow (fun k => u (ix2 n k)) (fun k => sh (ix3 0 0 k)) (fun k => sc (ix3 0 0 k)) d := by
    pointwise [k0_pay1, k0_pay4, k0_pay14, k0_pay5, modRow]
  have m3 (k : Fin 1024) : View.ld x1 r0_4 (ix3 0 0 k) = x1 (ix3 0 3 k) := ld_row x1 3 _ k
  have m4 (k : Fin 1024) : View.ld x1 r0_5 (ix3 0 0 k) = x1 (ix3 0 4 k) := ld_row x1 4 _ k
  unfold_out out0_13
  rw [View.canon_cons_unit_zero no_shift3]
  simp only [whole_x, whole_o, whole_w, whole_wo, whole_ln]
  refine (h (tile x0 x1 x2 x3 x4 x5 x6 x7 x8 x9 x10 x11) _ _).trans ?_
  simp only [tile_at, m3, m4]

end Cert.Merge
-- ==== Proof.MergeValue.lean ====
/-
The merge kernel's two results are its reference's; and the programs run to their end and leave their arguments as they were.
-/
module
public import proofs.«01_k».proof.Defs
public import proofs.«01_k».proof.Proof.MergeRef
public import proofs.«01_k».proof.Proof.MergeTile
public import proofs.«01_k».proof.Proof.Gen.Kernel2.Frame
public import Idealize.ShloMosaic.Lib.Pipeline.ValueKit
public import Idealize.ShloMosaic.Lib.Pipeline.Covers
@[expose] public section
set_option maxRecDepth 16384
noncomputable section
namespace Cert.Merge
open Idealize.ShloMosaic Idealize.ShloMosaic.TcCoe Idealize.SL.Sem Cert.Kernel2Ideal Cert.Kernel2Ideal.Gen Cert.Moe
open Idealize.ShloMosaic.Pipeline (Dat Cfg Window)

theorem kernel_kept : Cert.quiescent_Kernel2 (hKernel2 := Cert.Kernel2.Gen.facts) := fun m g _ => Cert.Kernel2.Gen.frame m g

theorem kernelIdeal_kept : Cert.quiescent_Kernel2Ideal (hKernel2Ideal := Cert.Kernel2Ideal.Gen.facts) := fun m g _ => Cert.Kernel2Ideal.Gen.frame m g

theorem reference_kept : Cert.quiescent_Reference2Ideal (hReference2Ideal := Cert.Reference2Ideal.Gen.facts) := fun m g _ =>
  (θ_run _ _ _).mono (fun _ h => ⟨fun c => (h c).2.2, Idealize.ShloMosaic.sem_eq_zero_of_no_sems (by decide) _⟩) (Cert.Reference2Ideal.Value.run m g)

variable (m : (ℓ : Loc nD τ sig) → Buf (Elt Ideal) ℓ) (c : Dev nD)

/-- An argument array, as the launch finds it. -/
abbrev given (b : Ref sig .tc) : Buf (Elt Ideal) ((c.tc : Thread nD τ).loc b) := m ((c.tc : Thread nD τ).loc b)

/-! Which block of its array each window stands at: four tiles of tokens to a batch. -/

theorem at_x (t : Fin cfg0.N) : (cfg0.win 0).index t = ![t.val / 4, t.val % 4, 0] :=
  funext ((by decide +kernel : ∀ t : Fin grid0.N, ∀ a, cc0_transform_0 (grid0.coords t) a = (![t.val / 4, t.val % 4, 0] : Fin 3 → ℕ) a) t)
theorem at_md (t : Fin cfg0.N) : (cfg0.win 1).index t = ![t.val / 4, 0, 0] :=
  funext ((by decide +kernel : ∀ t : Fin grid0.N, ∀ a, cc0_transform_1 (grid0.coords t) a = (![t.val / 4, 0, 0] : Fin 3 → ℕ) a) t)
theorem at_oa (t : Fin cfg0.N) : (cfg0.win 2).index t = ![t.val / 4, t.val % 4, 0] := at_x t
theorem at_ob (t : Fin cfg0.N) : (cfg0.win 3).index t = ![t.val / 4, t.val % 4, 0] := at_x t
theorem at_oc (t : Fin cfg0.N) : (cfg0.win 4).index t = ![t.val / 4, t.val % 4, 0] := at_x t
theorem at_wg (t : Fin cfg0.N) : (cfg0.win 5).index t = ![0, 0] := rfl
theorem at_wa (t : Fin cfg0.N) : (cfg0.win 6).index t = ![0, 0] := rfl
theorem at_wb (t : Fin cfg0.N) : (cfg0.win 7).index t = ![0, 0] := rfl
theorem at_wc (t : Fin cfg0.N) : (cfg0.win 8).index t = ![0, 0] := rfl
theorem at_wo (t : Fin cfg0.N) : (cfg0.win 9).index t = ![0, 0] := rfl
theorem at_lg (t : Fin cfg0.N) : (cfg0.win 10).index t = ![0, 0] := rfl
theorem at_lb (t : Fin cfg0.N) : (cfg0.win 11).index t = ![0, 0] := rfl
theorem at_tokens (t : Fin cfg0.N) : (cfg0.win 12).index t = ![t.val / 4, t.val % 4, 0] := at_x t
theorem at_scaled (t : Fin cfg0.N) : (cfg0.win 13).index t = ![t.val / 4, t.val % 4, 0] := at_x t

variable (t : Fin cfg0.N)

/-- The batch of a grid point, and the token of it that stands at place `n` of the tile. -/
abbrev batch : Fin 8 := ⟨t.val / 4, by have h : t.val < 32 := t.isLt; omega⟩
abbrev place (n : Fin 512) : Fin 2048 := ⟨512 * (t.val % 4) + n.val, by omega⟩

/-! The blocks. -/

theorem x_at (n : Fin 512) (k : Fin 1024) : (iblk m c 0 t : Vec Ideal S1x512x1024 .f32) (ix3 0 n k) = given m c main_arg0 (ix3 (batch t) (place t n) k) := by
  refine (congrFun (V_main_arg0 m c) (((cfg0.win 0).blk t).view.emb (ix3 0 n k))).trans ?_
  blk_ext [at_x t]
theorem md_at (r : Fin 6) (k : Fin 1024) : (iblk m c 1 t : Vec Ideal S1x6x1024 .f32) (ix3 0 r k) = given m c main_arg1 (ix3 (batch t) r k) := by
  refine (congrFun (V_main_arg1 m c) (((cfg0.win 1).blk t).view.emb (ix3 0 r k))).trans ?_
  blk_ext [at_md t]
theorem oa_at (n k : Fin 512) : (iblk m c 2 t : Vec Ideal S1x512x512 .bf16) (ix3 0 n k) = given m c main_arg2 (ix3 (batch t) (place t n) k) := by
  refine (congrFun (V_main_arg2 m c) (((cfg0.win 2).blk t).view.emb (ix3 0 n k))).trans ?_
  blk_ext [at_oa t]
theorem ob_at (n k : Fin 512) : (iblk m c 3 t : Vec Ideal S1x512x512 .bf16) (ix3 0 n k) = given m c main_arg3 (ix3 (batch t) (place t n) k) := by
  refine (congrFun (V_main_arg3 m c) (((cfg0.win 3).blk t).view.emb (ix3 0 n k))).trans ?_
  blk_ext [at_ob t]
theorem oc_at (n k : Fin 512) : (iblk m c 4 t : Vec Ideal S1x512x512 .bf16) (ix3 0 n k) = given m c main_arg4 (ix3 (batch t) (place t n) k) := by
  refine (congrFun (V_main_arg4 m c) (((cfg0.win 4).blk t).view.emb (ix3 0 n k))).trans ?_
  blk_ext [at_oc t]
theorem wg_at (k : Fin 1024) (j : Fin 3072) : (iblk m c 5 t : Vec Ideal S1024x3072 .bf16) (ix2 k j) = given m c main_arg5 (ix2 k j) := by
  refine (congrFun (V_main_arg5 m c) (((cfg0.win 5).blk t).view.emb (ix2 k j))).trans ?_
  blk_ext [at_wg t]
theorem wa_at (k : Fin 512) (j : Fin 1024) : (iblk m c 6 t : Vec Ideal S512x1024 .bf16) (ix2 k j) = given m c main_arg6 (ix2 k j) := by
  refine (congrFun (V_main_arg6 m c) (((cfg0.win 6).blk t).view.emb (ix2 k j))).trans ?_
  blk_ext [at_wa t]
theorem wb_at (k : Fin 512) (j : Fin 1024) : (iblk m c 7 t : Vec Ideal S512x1024 .bf16) (ix2 k j) = given m c main_arg7 (ix2 k j) := by
  refine (congrFun (V_main_arg7 m c) (((cfg0.win 7).blk t).view.emb (ix2 k j))).trans ?_
  blk_ext [at_wb t]
theorem wc_at (k : Fin 512) (j : Fin 1024) : (iblk m c 8 t : Vec Ideal S512x1024 .bf16) (ix2 k j) = given m c main_arg8 (ix2 k j) := by
  refine (congrFun (V_main_arg8 m c) (((cfg0.win 8).blk t).view.emb (ix2 k j))).trans ?_
  blk_ext [at_wc t]
theorem wo_at (k j : Fin 1024) : (iblk m c 9 t : Vec Ideal S1024x1024 .bf16) (ix2 k j) = given m c main_arg9 (ix2 k j) := by
  refine (congrFun (V_main_arg9 m c) (((cfg0.win 9).blk t).view.emb (ix2 k j))).trans ?_
  blk_ext [at_wo t]
theorem lg_at (j : Fin 1024) : (iblk m c 10 t : Vec Ideal S1x1024 .f32) (ix2 0 j) = given m c main_arg10 (ix2 0 j) := by
  refine (congrFun (V_main_arg10 m c) (((cfg0.win 10).blk t).view.emb (ix2 0 j))).trans ?_
  blk_ext [at_lg t]
theorem lb_at (j : Fin 1024) : (iblk m c 11 t : Vec Ideal S1x1024 .f32) (ix2 0 j) = given m c main_arg11 (ix2 0 j) := by
  refine (congrFun (V_main_arg11 m c) (((cfg0.win 11).blk t).view.emb (ix2 0 j))).trans ?_
  blk_ext [at_lb t]

/-- A token's row from the blocks is its row from the arrays. -/
theorem blockRow_eq (n : Fin 512) :
    blockRow n (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) =
      rowOf (batch t) (place t n) (given m c main_arg0) (given m c main_arg1) (given m c main_arg2) (given m c main_arg3) (given m c main_arg4)
        (given m c main_arg5) (given m c main_arg6) (given m c main_arg7) (given m c main_arg8) (given m c main_arg9) (given m c main_arg10) (given m c main_arg11) := by
  unfold blockRow rowOf
  rw [funext (x_at m c t n), funext fun r => funext (md_at m c t r), funext (oa_at m c t n), funext (ob_at m c t n), funext (oc_at m c t n),
    funext fun k => funext (wg_at m c t k), funext fun k => funext (wa_at m c t k), funext fun k => funext (wb_at m c t k), funext fun k => funext (wc_at m c t k),
    funext fun k => funext (wo_at m c t k), funext (lg_at m c t), funext (lb_at m c t)]

/-- What the reference makes of the arguments. -/
def tokensOf : FVec Ideal S8x2048x1024 .f32 :=
  tokens (given m c main_arg0) (given m c main_arg1) (given m c main_arg2) (given m c main_arg3) (given m c main_arg4) (given m c main_arg5)
    (given m c main_arg6) (given m c main_arg7) (given m c main_arg8) (given m c main_arg9) (given m c main_arg10) (given m c main_arg11)
def scaledOf : FVec Ideal S8x2048x1024 .bf16 :=
  scaled (given m c main_arg0) (given m c main_arg1) (given m c main_arg2) (given m c main_arg3) (given m c main_arg4) (given m c main_arg5)
    (given m c main_arg6) (given m c main_arg7) (given m c main_arg8) (given m c main_arg9) (given m c main_arg10) (given m c main_arg11)

theorem tokens_block (n : Fin 512) (d : Fin 1024) :
    out0_12 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix3 0 n d) = tokensOf m c (ix3 (batch t) (place t n) d) :=
  ((tokensOut_at n d _ _ _ _ _ _ _ _ _ _ _ _).trans (congrFun (blockRow_eq m c t n) d)).trans (tokens_at _ _ d _ _ _ _ _ _ _ _ _ _ _ _).symm

theorem scaled_block (n : Fin 512) (d : Fin 1024) :
    out0_13 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix3 0 n d) = scaledOf m c (ix3 (batch t) (place t n) d) := by
  refine (scaledOut_at n d _ _ _ _ _ _ _ _ _ _ _ _).trans ((?_ : _ = _).trans (scaled_at _ _ d _ _ _ _ _ _ _ _ _ _ _ _).symm)
  rw [blockRow_eq, funext (md_at m c t 3), funext (md_at m c t 4)]

/-! Every tile of either result is some grid point's. -/

theorem tile_of (β : Fin 8 × Fin 4) : ∃ t : Fin cfg0.N, t.val / 4 = β.1.val ∧ t.val % 4 = β.2.val :=
  ⟨⟨4 * β.1.val + β.2.val, by show _ < 32; omega⟩, by show (4 * β.1.val + β.2.val) / 4 = _; omega, by show (4 * β.1.val + β.2.val) % 4 = _; omega⟩

theorem tokens_covers : (cfg0.win 12).Covers := by
  refine (cfg0.win 12).covers_of_index_surj rfl (by decide : ∀ a : Fin 3, 0 < S1x512x1024.size a) fun β => ?_
  have h0 : (β (0 : Fin 3)).val < 8 := (β (0 : Fin 3)).isLt.trans_eq (by show (8 + 1 - 1) / 1 = 8; decide)
  have h1 : (β (1 : Fin 3)).val < 4 := (β (1 : Fin 3)).isLt.trans_eq (by show (2048 + 512 - 1) / 512 = 4; decide)
  have h2 : (β (2 : Fin 3)).val < 1 := (β (2 : Fin 3)).isLt.trans_eq (by show (1024 + 1024 - 1) / 1024 = 1; decide)
  obtain ⟨t, e0, e1⟩ := tile_of (⟨_, h0⟩, ⟨_, h1⟩)
  refine ⟨t, fun a => ?_⟩
  rw [at_tokens]
  match a with
  | ⟨0, _⟩ => exact e0
  | ⟨1, _⟩ => exact e1
  | ⟨2, _⟩ => show 0 = (β (2 : Fin 3)).val; omega

theorem scaled_covers : (cfg0.win 13).Covers := by
  refine (cfg0.win 13).covers_of_index_surj rfl (by decide : ∀ a : Fin 3, 0 < S1x512x1024.size a) fun β => ?_
  have h0 : (β (0 : Fin 3)).val < 8 := (β (0 : Fin 3)).isLt.trans_eq (by show (8 + 1 - 1) / 1 = 8; decide)
  have h1 : (β (1 : Fin 3)).val < 4 := (β (1 : Fin 3)).isLt.trans_eq (by show (2048 + 512 - 1) / 512 = 4; decide)
  have h2 : (β (2 : Fin 3)).val < 1 := (β (2 : Fin 3)).isLt.trans_eq (by show (1024 + 1024 - 1) / 1024 = 1; decide)
  obtain ⟨t, e0, e1⟩ := tile_of (⟨_, h0⟩, ⟨_, h1⟩)
  refine ⟨t, fun a => ?_⟩
  rw [at_scaled]
  match a with
  | ⟨0, _⟩ => exact e0
  | ⟨1, _⟩ => exact e1
  | ⟨2, _⟩ => show 0 = (β (2 : Fin 3)).val; omega

theorem tokens_place (n : Fin 512) (d : Fin 1024) : (((cfg0.win 12).blk t).view.emb (ix3 0 n d)) = (ix3 (batch t) (place t n) d : S8x2048x1024.Idx) := by
  blk_ext [at_tokens t]
theorem scaled_place (n : Fin 512) (d : Fin 1024) : (((cfg0.win 13).blk t).view.emb (ix3 0 n d)) = (ix3 (batch t) (place t n) d : S8x2048x1024.Idx) := by
  blk_ext [at_scaled t]

theorem in_tile (y : S1x512x1024.Idx) : ∃ (n : Fin 512) (d : Fin 1024), y = ix3 0 n d := by
  have h : y 0 = (0 : Fin 1) := Subsingleton.elim (α := Fin 1) _ _
  refine ⟨y 1, y 2, funext fun a => ?_⟩
  match a with
  | ⟨0, _⟩ => exact h
  | ⟨1, _⟩ => rfl
  | ⟨2, _⟩ => rfl

theorem tokens_tile (y : S1x512x1024.Idx) : (dats m 0 c).after 12 t y = tokensOf m c (((cfg0.win 12).blk t).view.emb y) := by
  obtain ⟨n, d, hy⟩ := in_tile y
  rw [after0_12, hy]
  exact (tokens_block m c t n d).trans (congrArg (tokensOf m c) (tokens_place t n d)).symm

theorem tokens_at_end : (dats m 0 c).arrAt 12 cfg0.N = tokensOf m c :=
  (dats m 0 c).arrAt_eq_of_covers 12 (tokensOf m c) tokens_covers fun t _ y => tokens_tile m c t y

theorem scaled_tile (y : S1x512x1024.Idx) : (dats m 0 c).after 13 t y = scaledOf m c (((cfg0.win 13).blk t).view.emb y) := by
  obtain ⟨n, d, hy⟩ := in_tile y
  rw [after0_13, hy]
  exact (scaled_block m c t n d).trans (congrArg (scaledOf m c) (scaled_place t n d)).symm

theorem scaled_at_end : (dats m 0 c).arrAt 13 cfg0.N = scaledOf m c :=
  (dats m 0 c).arrAt_eq_of_covers 13 (scaledOf m c) scaled_covers fun t _ y => scaled_tile m c t y

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => tokensOf m c, fun c => scaledOf m c, ?_, ?_⟩
  · exact (θ_run _ _ _).mono (fun r h c => ⟨(h c).1.trans (tokens_at_end m c), (h c).2.1.trans (scaled_at_end m c), (h c).2.2⟩) (Cert.Kernel2Ideal.Value.run_blocks m g)
  · refine (θ_run _ _ _).mono (fun r h c => ⟨(h c).1.trans ?_, (h c).2.1.trans ?_, (h c).2.2⟩) (Cert.Reference2Ideal.Value.run m' g')
    all_goals obtain ⟨e0, e1, e2, e3, e4, e5, e6, e7, e8, e9, e10, e11⟩ := hagree c
    · rw [tokens_eq, e0, e1, e2, e3, e4, e5, e6, e7, e8, e9, e10, e11]
      rfl
    · rw [scaled_eq, e0, e1, e2, e3, e4, e5, e6, e7, e8, e9, e10, e11]
      rfl

end Cert.Merge
-- ==== Proof.ModRef.lean ====
/-
The modulation's entries, in exact arithmetic, and its reference at one of them.
-/
module
public import proofs.«01_k».proof.Proof.Rows
public import proofs.«01_k».proof.Proof.Gen.Reference3Ideal.Run
@[expose] public section
set_option maxRecDepth 16384
noncomputable section
namespace Cert.Mods
open Idealize.ShloMosaic Idealize.SL.Sem Cert.Reference3Ideal Cert.Reference3Ideal.Gen

/-- One entry of the modulation: the smoothed conditioning times a column of the weights, and the bias. -/
def entry (u w : Fin 1024 → EReal) (b : EReal) : EReal :=
  (∑ k, u k * Ideal.div 1 (1 + Ideal.exp (0 - u k)) * w k) + b

section Parts
variable {F : FTy → Type} [FloatOps F]

/-- The smoothed conditioning. -/
def smoothed (u : FVec F S8x1024 .f32) : FVec F S8x1024 .f32 :=
  mulf u (Host.divf (broadcastInDim S8x1024 ![] bcast_S_S8x1024 (constant S_ .f32 0x3F800000#32))
    (addf (broadcastInDim S8x1024 ![] bcast_S_S8x1024 (constant S_ .f32 0x3F800000#32)) (Host.exp (Host.negf u))))

/-- One layer's modulation, from that layer's weights and bias. -/
def layer (u : FVec F S8x1024 .f32) (w : FVec F S1x1024x6144 .f32) (b : FVec F S1x6144 .f32) : FVec F S8x6144 .f32 :=
  addf (Host.dotGeneral dot_S8x1024_S1024x6144_S8x6144_1_0_0_1_n_n none (smoothed u) (shapeCast _ w shapeCasts_S1x1024x6144_S1024x6144))
    (broadcastInDim S8x6144 ![0, 1] bcast_S1x6144_S8x6144_0_1 (broadcastInDim S1x6144 ![1] bcast_S6144_S1x6144_1 (shapeCast _ b shapeCasts_S1x6144_S6144)))

/-- Both layers' modulation. -/
def mods (u : FVec F S8x1024 .f32) (w : FVec F S2x1024x6144 .f32) (b : FVec F S2x6144 .f32) : FVec F S2x8x6144 .f32 :=
  concatenate S2x8x6144 0
    [⟨S1x8x6144, broadcastInDim S1x8x6144 ![1, 2] bcast_S8x6144_S1x8x6144_1_2
        (layer u (extractStridedSlice S1x1024x6144 ![0, 0, 0] w slices_S2x1024x6144_S1x1024x6144_0_0_0) (extractStridedSlice S1x6144 ![0, 0] b slices_S2x6144_S1x6144_0_0))⟩,
      ⟨S1x8x6144, broadcastInDim S1x8x6144 ![1, 2] bcast_S8x6144_S1x8x6144_1_2
        (layer u (extractStridedSlice S1x1024x6144 ![1, 0, 0] w slices_S2x1024x6144_S1x1024x6144_1_0_0) (extractStridedSlice S1x6144 ![1, 0] b slices_S2x6144_S1x6144_1_0))⟩]
    concatenates_S1x8x6144_S1x8x6144_S2x8x6144_d0
end Parts

theorem smoothed_at (u : FVec Ideal S8x1024 .f32) (b : Fin 8) (k : Fin 1024) :
    smoothed u (ix2 b k) = u (ix2 b k) * Ideal.div 1 (1 + Ideal.exp (0 - u (ix2 b k))) := by
  rw [zero_sub]
  pointwise [smoothed]

theorem layer_at (u : FVec Ideal S8x1024 .f32) (w : FVec Ideal S1x1024x6144 .f32) (v : FVec Ideal S1x6144 .f32) (b : Fin 8) (j : Fin 6144) :
    layer u w v (ix2 b j) = entry (fun k => u (ix2 b k)) (fun k => w (ix3 0 k j)) (v (ix2 0 j)) := by
  pointwise [layer]
  simp only [smoothed_at]
  rfl

theorem mods_at (u : FVec Ideal S8x1024 .f32) (w : FVec Ideal S2x1024x6144 .f32) (v : FVec Ideal S2x6144 .f32) (l : Fin 2) (b : Fin 8) (j : Fin 6144) :
    mods u w v (ix3 l b j) = entry (fun k => u (ix2 b k)) (fun k => w (ix3 l k j)) (v (ix2 l j)) := by
  match l with
  | ⟨0, _⟩ =>
    pointwise [mods]
    rw [layer_at]
    pointwise []
  | ⟨1, _⟩ =>
    pointwise [mods]
    rw [layer_at]
    pointwise []

end Cert.Mods
-- ==== Proof.ModValue.lean ====
/-
The modulation kernel's array is its reference's; and the programs run to their end and leave their arguments as they were.
-/
module
public import proofs.«01_k».proof.Defs
public import proofs.«01_k».proof.Proof.ModRef
public import proofs.«01_k».proof.Proof.Gen.Kernel3.Frame
public import proofs.«01_k».proof.Proof.Gen.Kernel3Ideal.Value
public import Idealize.ShloMosaic.Lib.Pipeline.ValueKit
public import Idealize.ShloMosaic.Lib.Pipeline.Covers
@[expose] public section
set_option maxRecDepth 16384
noncomputable section
namespace Cert.Mods
open Idealize.ShloMosaic Idealize.ShloMosaic.TcCoe Idealize.SL.Sem Cert.Kernel3Ideal Cert.Kernel3Ideal.Gen
open Idealize.ShloMosaic.Pipeline (Dat Cfg Window)

theorem kernel_kept : Cert.quiescent_Kernel3 (hKernel3 := Cert.Kernel3.Gen.facts) := fun m g _ => Cert.Kernel3.Gen.frame m g

theorem kernelIdeal_kept : Cert.quiescent_Kernel3Ideal (hKernel3Ideal := Cert.Kernel3Ideal.Gen.facts) := fun m g _ => Cert.Kernel3Ideal.Gen.frame m g

theorem reference_kept : Cert.quiescent_Reference3Ideal (hReference3Ideal := Cert.Reference3Ideal.Gen.facts) := fun m g _ =>
  (θ_run _ _ _).mono (fun _ h => ⟨fun c => (h c).2, Idealize.ShloMosaic.sem_eq_zero_of_no_sems (by decide) _⟩) (Cert.Reference3Ideal.Value.run m g)

/-! What the body leaves in its block. -/

theorem tile_at (u : Vec Ideal S8x1024 .f32) (w : Vec Ideal S1x1024x1536 .f32) (v : Vec Ideal S1x1x1536 .f32) (b : Fin 8) (j : Fin 1536) :
    k0_pay1 u w v (ix3 0 b j) = entry (fun k => u (ix2 b k)) (fun k => w (ix3 0 k j)) (v (ix3 0 0 j)) := by
  pointwise [k0_pay1, entry]

theorem out_at (u : Vec Ideal S8x1024 .f32) (w : Vec Ideal S1x1024x1536 .f32) (v : Vec Ideal S1x1x1536 .f32) (b : Fin 8) (j : Fin 1536) :
    out0_3 u w v (ix3 0 b j) = entry (fun k => u (ix2 b k)) (fun k => w (ix3 0 k j)) (v (ix3 0 0 j)) := by
  have h3 : (![0, 0, 0] : Fin 3 → ℕ) = fun _ => 0 := by decide
  have h2 : (![0, 0] : Fin 2 → ℕ) = fun _ => 0 := by decide
  have e0 : View.ld u r0_0 = u := View.ld_unit_zero h2 _ u
  have e1 : View.ld w r0_1 = w := View.ld_unit_zero h3 _ w
  have e2 : View.ld v r0_2 = v := View.ld_unit_zero h3 _ v
  unfold out0_3
  rw [View.canon_cons_unit_zero h3, e0, e1, e2]
  exact tile_at u w v b j

variable (m : (ℓ : Loc nD τ sig) → Buf (Elt Ideal) ℓ) (c : Dev nD)

/-- An argument array, as the launch finds it. -/
abbrev given (b : Ref sig .tc) : Buf (Elt Ideal) ((c.tc : Thread nD τ).loc b) := m ((c.tc : Thread nD τ).loc b)

/-! Which block of its array each window stands at: four column blocks to a layer. -/

theorem at_u (t : Fin cfg0.N) : (cfg0.win 0).index t = ![0, 0] := rfl
theorem at_w (t : Fin cfg0.N) : (cfg0.win 1).index t = ![t.val / 4, 0, t.val % 4] :=
  funext ((by decide +kernel : ∀ t : Fin grid0.N, ∀ a, cc0_transform_1 (grid0.coords t) a = (![t.val / 4, 0, t.val % 4] : Fin 3 → ℕ) a) t)
theorem at_v (t : Fin cfg0.N) : (cfg0.win 2).index t = ![t.val / 4, 0, t.val % 4] := at_w t
theorem at_out (t : Fin cfg0.N) : (cfg0.win 3).index t = ![t.val / 4, 0, t.val % 4] := at_w t

/-- The bias as the region finds it. -/
theorem bias_found : V m c main_v0 = (shapeCast S2x1x6144 (given m c main_arg2 : Vec Ideal S2x6144 .f32) shapeCasts_S2x6144_S2x1x6144 : Vec Ideal S2x1x6144 .f32) := by
  show StableHlo.after hostOps0 (fun b => m (c, b)) (Proc.devRef .tc main_v0) = _
  unfold hostOps0
  after_results
  try rfl

variable (t : Fin cfg0.N)

/-- The layer of a grid point, and the column that stands at place `j` of its block. -/
abbrev layerOf : Fin 2 := ⟨t.val / 4, by have h : t.val < 8 := t.isLt; omega⟩
abbrev column (j : Fin 1536) : Fin 6144 := ⟨1536 * (t.val % 4) + j.val, by omega⟩

theorem u_at (b : Fin 8) (k : Fin 1024) : (iblk m c 0 t : Vec Ideal S8x1024 .f32) (ix2 b k) = given m c main_arg0 (ix2 b k) := by
  refine (congrFun (V_main_arg0 m c) (((cfg0.win 0).blk t).view.emb (ix2 b k))).trans ?_
  blk_ext [at_u t]
theorem w_at (k : Fin 1024) (j : Fin 1536) : (iblk m c 1 t : Vec Ideal S1x1024x1536 .f32) (ix3 0 k j) = given m c main_arg1 (ix3 (layerOf t) k (column t j)) := by
  refine (congrFun (V_main_arg1 m c) (((cfg0.win 1).blk t).view.emb (ix3 0 k j))).trans ?_
  blk_ext [at_w t]
theorem widened_at (v : FVec Ideal S2x6144 .f32) (l : Fin 2) (j : Fin 6144) :
    shapeCast S2x1x6144 v shapeCasts_S2x6144_S2x1x6144 (ix3 l 0 j) = v (ix2 l j) := by
  pointwise []
theorem bias_at (l : Fin 2) (j : Fin 6144) : (V m c main_v0 : Vec Ideal S2x1x6144 .f32) (ix3 l 0 j) = given m c main_arg2 (ix2 l j) :=
  (congrFun (bias_found m c) (ix3 l 0 j)).trans (widened_at _ l j)
theorem v_at (j : Fin 1536) : (iblk m c 2 t : Vec Ideal S1x1x1536 .f32) (ix3 0 0 j) = given m c main_arg2 (ix2 (layerOf t) (column t j)) := by
  refine Eq.trans ?_ (bias_at m c (layerOf t) (column t j))
  show V m c main_v0 (((cfg0.win 2).blk t).view.emb (ix3 0 0 j)) = _
  blk_ext [at_v t]

/-- What the reference makes of the arguments. -/
def modsOf : FVec Ideal S2x8x6144 .f32 := mods (given m c main_arg0) (given m c main_arg1) (given m c main_arg2)

theorem block_at (b : Fin 8) (j : Fin 1536) :
    out0_3 (iblk m c 0 t) (iblk m c 1 t) (iblk m c 2 t) (ix3 0 b j) = modsOf m c (ix3 (layerOf t) b (column t j)) := by
  refine (out_at _ _ _ b j).trans ((?_ : _ = _).trans (mods_at _ _ _ (layerOf t) b (column t j)).symm)
  rw [funext (u_at m c t b), funext fun k => w_at m c t k j, v_at]

theorem covers : (cfg0.win 3).Covers := by
  refine (cfg0.win 3).covers_of_index_surj rfl (by decide : ∀ a : Fin 3, 0 < S1x8x1536.size a) fun β => ?_
  have h0 : (β (0 : Fin 3)).val < 2 := (β (0 : Fin 3)).isLt.trans_eq (by show (2 + 1 - 1) / 1 = 2; decide)
  have h1 : (β (1 : Fin 3)).val < 1 := (β (1 : Fin 3)).isLt.trans_eq (by show (8 + 8 - 1) / 8 = 1; decide)
  have h2 : (β (2 : Fin 3)).val < 4 := (β (2 : Fin 3)).isLt.trans_eq (by show (6144 + 1536 - 1) / 1536 = 4; decide)
  refine ⟨⟨4 * (β (0 : Fin 3)).val + (β (2 : Fin 3)).val, by show _ < 8; omega⟩, fun a => ?_⟩
  rw [at_out]
  match a with
  | ⟨0, _⟩ => show (4 * (β (0 : Fin 3)).val + (β (2 : Fin 3)).val) / 4 = (β (0 : Fin 3)).val; omega
  | ⟨1, _⟩ => show 0 = (β (1 : Fin 3)).val; omega
  | ⟨2, _⟩ => show (4 * (β (0 : Fin 3)).val + (β (2 : Fin 3)).val) % 4 = (β (2 : Fin 3)).val; omega

theorem place_at (b : Fin 8) (j : Fin 1536) : (((cfg0.win 3).blk t).view.emb (ix3 0 b j)) = (ix3 (layerOf t) b (column t j) : S2x8x6144.Idx) := by
  blk_ext [at_out t]

theorem in_block (y : S1x8x1536.Idx) : ∃ (b : Fin 8) (j : Fin 1536), y = ix3 0 b j := by
  have h : y 0 = (0 : Fin 1) := Subsingleton.elim (α := Fin 1) _ _
  refine ⟨y 1, y 2, funext fun a => ?_⟩
  match a with
  | ⟨0, _⟩ => exact h
  | ⟨1, _⟩ => rfl
  | ⟨2, _⟩ => rfl

theorem block_eq (y : S1x8x1536.Idx) : (dats m 0 c).after 3 t y = modsOf m c (((cfg0.win 3).blk t).view.emb y) := by
  obtain ⟨b, j, hy⟩ := in_block y
  rw [after0_3, hy]
  exact (block_at m c t b j).trans (congrArg (modsOf m c) (place_at t b j)).symm

theorem at_end : (dats m 0 c).arrAt 3 cfg0.N = modsOf m c :=
  (dats m 0 c).arrAt_eq_of_covers 3 (modsOf m c) covers fun t _ y => block_eq m c t y

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => modsOf m c, ?_, ?_⟩
  · exact (θ_run _ _ _).mono (fun r h c => ⟨(h c).1.trans (at_end m c), (h c).2⟩) (Cert.Kernel3Ideal.Value.run_blocks m g)
  · refine (θ_run _ _ _).mono (fun r h c => ⟨(h c).1.trans ?_, (h c).2⟩) (Cert.Reference3Ideal.Value.run m' g')
    obtain ⟨e0, e1, e2⟩ := hagree c
    rw [e0, e1, e2]
    rfl

end Cert.Mods
-- ==== Proof.ProjTile.lean ====
/-
What the input projection's body makes of a block, in exact arithmetic.
-/
module
public import proofs.«01_k».proof.Proof.MergeRows
public import proofs.«01_k».proof.Proof.Gen.Kernel4Ideal.Value
@[expose] public section
set_option maxRecDepth 16384
noncomputable section
namespace Cert.Proj
open Idealize.ShloMosaic Idealize.SL.Sem Cert.Kernel4Ideal Cert.Kernel4Ideal.Gen

section Parts
variable {F : FTy → Type} [FloatOps F]

/-- A column block rotated: each lane times its cosine, and its partner's lane times its signed sine. -/
def spun (msk half up down : BitVec 32) (p cs sn : FVec F S512x128 .f32) : FVec F S512x128 .f32 :=
  addf (mulf p cs) (mulf (select (cmpi .slt (andi (iota .tc S512x128 32 [1] iota_S512x128_d1_w32) (broadcast S512x128 msk)) (broadcast S512x128 half))
    (dynamicRotate 1 up none p rotates_S512x128_d1) (dynamicRotate 1 down none p rotates_S512x128_d1)) sn)

/-- A rotated block scaled and laid out as the result's block. -/
def laid (s : BitVec 32) (v : FVec F S512x128 .f32) : FVec F S1x512x128 .bf16 :=
  shapeCast S1x512x128 (truncf .bf16 (mulf v (broadcast S512x128 (Scalar.ofBits .f32 s : F .f32))) bitsLt_bf16_f32) shapeCasts_S512x128_S1x512x128

/-- Four rotated blocks side by side. -/
def four (s : BitVec 32) (p : FVec F S512x512 .f32) (cs sn : FVec F S512x128 .f32) : Vec F S1x512x512 .bf16 :=
  View.canon [⟨r0_8, laid s (spun 63#32 32#32 96#32 32#32 (extractStridedSlice S512x128 ![0, 384] p slices_S512x512_o0_384_S512x128) cs sn)⟩,
    ⟨r0_7, laid s (spun 63#32 32#32 96#32 32#32 (extractStridedSlice S512x128 ![0, 256] p slices_S512x512_o0_256_S512x128) cs sn)⟩,
    ⟨r0_6, laid s (spun 63#32 32#32 96#32 32#32 (extractStridedSlice S512x128 ![0, 128] p slices_S512x512_o0_128_S512x128) cs sn)⟩,
    ⟨r0_5, laid s (spun 63#32 32#32 96#32 32#32 (extractStridedSlice S512x128 ![0, 0] p slices_S512x512_o0_0_S512x128) cs sn)⟩]

/-- A block laid out as the result's block. -/
def plain (v : FVec F S512x128 .f32) : FVec F S1x512x128 .bf16 := shapeCast S1x512x128 (truncf .bf16 v bitsLt_bf16_f32) shapeCasts_S512x128_S1x512x128

/-- Two rotated blocks side by side, the heads half as wide. -/
def two (p : FVec F S512x256 .f32) (cs sn : FVec F S512x128 .f32) : Vec F S1x512x256 .bf16 :=
  View.canon [⟨r0_14, plain (spun 31#32 16#32 112#32 16#32 (extractStridedSlice S512x128 ![0, 128] p slices_S512x256_o0_128_S512x128) cs sn)⟩,
    ⟨r0_13, plain (spun 31#32 16#32 112#32 16#32 (extractStridedSlice S512x128 ![0, 0] p slices_S512x256_o0_0_S512x128) cs sn)⟩]

/-- The modulated rows. -/
abbrev rows (x0 : Vec F S1x512x1024 .f32) (x1 : Vec F S1x6x1024 .f32) : FVec F S512x1024 .bf16 :=
  k0_pay2 (View.ld x0 r0_0) (View.ld x1 r0_1) (View.ld x1 r0_2)

/-- The rows times 512, 256 or 128 packed columns. -/
def times512 (u : FVec F S512x1024 .bf16) (w : Vec F S1024x512 .bf16) : FVec F S512x512 .f32 :=
  matmul dot_S512x1024_S1024x512_S512x512_1_0_0_1_n_n none u (shapeCast S1024x512 w shapeCasts_S1024x512_S1024x512 : FVec F S1024x512 .bf16) (constant S512x512 .f32 0x00000000#32)
def times256 (u : FVec F S512x1024 .bf16) (w : Vec F S1024x256 .bf16) : FVec F S512x256 .f32 :=
  matmul dot_S512x1024_S1024x256_S512x256_1_0_0_1_n_n none u (shapeCast S1024x256 w shapeCasts_S1024x256_S1024x256 : FVec F S1024x256 .bf16) (constant S512x256 .f32 0x00000000#32)
def times128 (u : FVec F S512x1024 .bf16) (w : Vec F S1024x128 .bf16) : FVec F S512x128 .f32 :=
  matmul dot_S512x1024_S1024x128_S512x128_1_0_0_1_n_n none u (shapeCast S1024x128 w shapeCasts_S1024x128_S1024x128 : FVec F S1024x128 .bf16) (constant S512x128 .f32 0x00000000#32)

variable (x0 : Vec F S1x512x1024 .f32) (x1 : Vec F S1x6x1024 .f32) (x2 : Vec F S1024x4352 .bf16) (x3 x4 x5 x6 : Vec F S512x128 .f32) (x7 x8 : Vec F S1x128 .f32)

theorem out_qa : out0_9 x0 x1 x2 x3 x4 x5 x6 x7 x8 = four 0x3E000000#32 (times512 (rows x0 x1) (View.ld x2 r0_4)) (k0_pay3 (View.ld x3 r0_3)) (k0_pay4 (View.ld x4 r0_3)) := rfl
theorem out_qb : out0_15 x0 x1 x2 x3 x4 x5 x6 x7 x8 = four 0x3E000000#32 (times512 (rows x0 x1) (View.ld x2 r0_18)) (k0_pay3 (View.ld x3 r0_3)) (k0_pay4 (View.ld x4 r0_3)) := rfl
theorem out_kb : out0_16 x0 x1 x2 x3 x4 x5 x6 x7 x8 = four 0x3F800000#32 (times512 (rows x0 x1) (View.ld x2 r0_19)) (k0_pay3 (View.ld x3 r0_3)) (k0_pay4 (View.ld x4 r0_3)) := rfl
theorem out_qc : out0_18 x0 x1 x2 x3 x4 x5 x6 x7 x8 = four 0x3E000000#32 (times512 (rows x0 x1) (View.ld x2 r0_22)) (k0_pay3 (View.ld x3 r0_3)) (k0_pay4 (View.ld x4 r0_3)) := rfl
theorem out_kc : out0_19 x0 x1 x2 x3 x4 x5 x6 x7 x8 = four 0x3F800000#32 (times512 (rows x0 x1) (View.ld x2 r0_23)) (k0_pay3 (View.ld x3 r0_3)) (k0_pay4 (View.ld x4 r0_3)) := rfl
theorem out_ka : out0_10 x0 x1 x2 x3 x4 x5 x6 x7 x8 = View.canon [⟨r0_10, laid 0x3F800000#32 (spun 63#32 32#32 96#32 32#32 (times128 (rows x0 x1) (View.ld x2 r0_9)) (k0_pay3 (View.ld x3 r0_3)) (k0_pay4 (View.ld x4 r0_3)))⟩] := rfl
theorem out_va : out0_11 x0 x1 x2 x3 x4 x5 x6 x7 x8 = View.canon [⟨r0_10, plain (times128 (rows x0 x1) (View.ld x2 r0_11))⟩] := rfl
theorem out_qi : out0_12 x0 x1 x2 x3 x4 x5 x6 x7 x8 = two (times256 (rows x0 x1) (View.ld x2 r0_12)) (k0_pay5 (View.ld x5 r0_3)) (k0_pay6 (View.ld x6 r0_3)) := rfl
end Parts

theorem spun64_at (p cs sn : FVec Ideal S512x128 .f32) (n : Fin 512) (l : Fin 128) :
    spun 63#32 32#32 96#32 32#32 p cs sn (ix2 n l) = p (ix2 n l) * cs (ix2 n l) + (if l.val % 64 < 32 then p (ix2 n (Fin.ofNat 128 (l + 32))) else p (ix2 n (Fin.ofNat 128 (l - 32)))) * sn (ix2 n l) := by
  have hl : IntOp.cmpi CmpIPredicate.slt (IntOp.andi (BitVec.ofNat 32 l.val) 63#32) 32#32 = if l.val % 64 < 32 then 1#1 else 0#1 :=
    (by decide +kernel : ∀ l : Fin 128, IntOp.cmpi CmpIPredicate.slt (IntOp.andi (BitVec.ofNat 32 l.val) 63#32) 32#32 = if l.val % 64 < 32 then 1#1 else 0#1) l
  pointwise [spun]
  rw [hl]
  by_cases h : l.val % 64 < 32
  · rw [if_pos h, if_pos h]
    refine congrArg (fun k => _ + p (ix2 n k) * _) (Fin.ext ?_)
    show (l.val + 128 - 96) % 128 = (l.val + 32) % 128
    omega
  · rw [if_neg h, if_neg h]
    refine congrArg (fun k => _ + p (ix2 n k) * _) (Fin.ext ?_)
    show (l.val + 128 - 32) % 128 = (l.val - 32) % 128
    omega

end Cert.Proj
-- ==== Proof.ProjRows.lean ====
/-
The input projection's rotated columns, in exact arithmetic, and its reference at one of them.
-/
module
public import proofs.«01_k».proof.Proof.MergeRows
public import proofs.«01_k».proof.Proof.Gen.Reference4Ideal.Run
public import Idealize.ShloMosaic.Lib.KernelVsHost
@[expose] public section
set_option maxRecDepth 16384
noncomputable section
namespace Cert.Proj
open Idealize.ShloMosaic Idealize.SL.Sem Cert.Reference4Ideal Cert.Reference4Ideal.Gen

/-- The columns of a row rotated in pairs half a head apart: `h` is half a head's width, `p` the row, `cs` and `sn` the position's
    cosines and sines. -/
def turned (h : ℕ) (p cs sn : ℕ → EReal) (j : ℕ) : EReal :=
  if j % (2 * h) < h then p j * cs (j % h) - p (j + h) * sn (j % h) else p j * cs (j % h) + p (j - h) * sn (j % h)

/-- A row's product with column `j` of the projection's weights. -/
def colOf (u : Fin 1024 → EReal) (w : Fin 1024 → Fin 7080 → EReal) (j : ℕ) : EReal := ∑ k, u k * w k (Fin.ofNat 7080 j)

/-- The mean of 32 columns. -/
def mean32 (z : Fin 32 → EReal) : EReal := Ideal.div (∑ k, z k) (Ideal.ofBits .f32 0x42000000#32)

/-- The layer norm of 32 columns. -/
def norm32 (z g b : Fin 32 → EReal) (c : Fin 32) : EReal :=
  (z c - mean32 z) * Ideal.rsqrt (mean32 (fun k => (z k - mean32 z) * (z k - mean32 z)) + Ideal.ofBits .f32 0x3727C5AC#32) * g c + b c

section Results
variable (u : Fin 1024 → EReal) (w : Fin 1024 → Fin 7080 → EReal) (cs sn : ℕ → EReal)

/-- Eight query heads, whose weights begin at column `o`. -/
def queryRow (o c : ℕ) : EReal := turned 32 (fun j => colOf u w (o + j)) cs sn c * Ideal.ofBits .f32 0x3E000000#32
/-- Eight key heads, whose weights begin at column `o`. -/
def keyRow (o c : ℕ) : EReal := turned 32 (fun j => colOf u w (o + j)) cs sn c
/-- The single key head, written twice. -/
def keysRow (c : ℕ) : EReal := turned 32 (fun j => colOf u w (512 + j)) cs sn (c % 64)
/-- The single value head, written twice. -/
def valuesRow (c : ℕ) : EReal := colOf u w (576 + c % 64)
/-- The indexer's eight query heads. -/
def askRow (c : ℕ) : EReal := turned 16 (fun j => colOf u w (640 + j)) cs sn c
/-- The indexer's key head, normed, rotated, and written four times. -/
def markRow (g b : Fin 32 → EReal) (c : ℕ) : EReal :=
  turned 16 (fun j => norm32 (fun k => colOf u w (896 + k.val)) g b (Fin.ofNat 32 j)) cs sn (c % 32)
/-- The indexer's head weights, with nothing after the eighth column. -/
def weightRow (c : ℕ) : EReal := if c < 8 then colOf u w (928 + c) * Ideal.ofBits .f32 0x3D800000#32 else 0
end Results

section Parts
variable {F : FTy → Type} [FloatOps F]

/-- Eight heads of 64 columns, each rotated. -/
def heads64 (P : FVec F S8x2048x512 .f32) (cs sn : FVec F S2048x32 .f32) : FVec F S8x2048x512 .f32 :=
  have q : FVec F S8x2048x8x64 .f32 := shapeCast _ P shapeCasts_S8x2048x512_S8x2048x8x64
  have lo : FVec F S8x2048x8x32 .f32 := extractStridedSlice S8x2048x8x32 ![0, 0, 0, 0] q slices_S8x2048x8x64_S8x2048x8x32_0_0_0_0
  have hi : FVec F S8x2048x8x32 .f32 := extractStridedSlice S8x2048x8x32 ![0, 0, 0, 32] q slices_S8x2048x8x64_S8x2048x8x32_0_0_0_32
  have c : FVec F S8x2048x8x32 .f32 := broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 cs))
  have s : FVec F S8x2048x8x32 .f32 := broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 sn))
  shapeCast _ (concatenate S8x2048x8x64 3 [⟨S8x2048x8x32, subf (mulf lo c) (mulf hi s)⟩, ⟨S8x2048x8x32, addf (mulf hi c) (mulf lo s)⟩] concatenates_S8x2048x8x32_S8x2048x8x32_S8x2048x8x64_d3) shapeCasts_S8x2048x8x64_S8x2048x512

/-- Eight heads of 32 columns, each rotated. -/
def heads32 (P : FVec F S8x2048x256 .f32) (cs sn : FVec F S2048x16 .f32) : FVec F S8x2048x256 .f32 :=
  have q : FVec F S8x2048x8x32 .f32 := shapeCast _ P shapeCasts_S8x2048x256_S8x2048x8x32
  have lo : FVec F S8x2048x8x16 .f32 := extractStridedSlice S8x2048x8x16 ![0, 0, 0, 0] q slices_S8x2048x8x32_S8x2048x8x16_0_0_0_0
  have hi : FVec F S8x2048x8x16 .f32 := extractStridedSlice S8x2048x8x16 ![0, 0, 0, 16] q slices_S8x2048x8x32_S8x2048x8x16_0_0_0_16
  have c : FVec F S8x2048x8x16 .f32 := broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 cs))
  have s : FVec F S8x2048x8x16 .f32 := broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 sn))
  shapeCast _ (concatenate S8x2048x8x32 3 [⟨S8x2048x8x16, subf (mulf lo c) (mulf hi s)⟩, ⟨S8x2048x8x16, addf (mulf hi c) (mulf lo s)⟩] concatenates_S8x2048x8x16_S8x2048x8x16_S8x2048x8x32_d3) shapeCasts_S8x2048x8x32_S8x2048x256

/-- One head of 64 columns, rotated. -/
def head64 (P : FVec F S8x2048x64 .f32) (cs sn : FVec F S2048x32 .f32) : FVec F S8x2048x64 .f32 :=
  have lo : FVec F S8x2048x32 .f32 := extractStridedSlice S8x2048x32 ![0, 0, 0] P slices_S8x2048x64_S8x2048x32_0_0_0
  have hi : FVec F S8x2048x32 .f32 := extractStridedSlice S8x2048x32 ![0, 0, 32] P slices_S8x2048x64_S8x2048x32_0_0_32
  have c : FVec F S8x2048x32 .f32 := broadcastInDim S8x2048x32 ![0, 1, 2] bcast_S1x2048x32_S8x2048x32_0_1_2 (broadcastInDim S1x2048x32 ![1, 2] bcast_S2048x32_S1x2048x32_1_2 cs)
  have s : FVec F S8x2048x32 .f32 := broadcastInDim S8x2048x32 ![0, 1, 2] bcast_S1x2048x32_S8x2048x32_0_1_2 (broadcastInDim S1x2048x32 ![1, 2] bcast_S2048x32_S1x2048x32_1_2 sn)
  concatenate S8x2048x64 2 [⟨S8x2048x32, subf (mulf lo c) (mulf hi s)⟩, ⟨S8x2048x32, addf (mulf hi c) (mulf lo s)⟩] concatenates_S8x2048x32_S8x2048x32_S8x2048x64_d2

/-- One head of 32 columns, rotated. -/
def head32 (P : FVec F S8x2048x32 .f32) (cs sn : FVec F S2048x16 .f32) : FVec F S8x2048x32 .f32 :=
  have lo : FVec F S8x2048x16 .f32 := extractStridedSlice S8x2048x16 ![0, 0, 0] P slices_S8x2048x32_S8x2048x16_0_0_0
  have hi : FVec F S8x2048x16 .f32 := extractStridedSlice S8x2048x16 ![0, 0, 16] P slices_S8x2048x32_S8x2048x16_0_0_16
  have c : FVec F S8x2048x16 .f32 := broadcastInDim S8x2048x16 ![0, 1, 2] bcast_S1x2048x16_S8x2048x16_0_1_2 (broadcastInDim S1x2048x16 ![1, 2] bcast_S2048x16_S1x2048x16_1_2 cs)
  have s : FVec F S8x2048x16 .f32 := broadcastInDim S8x2048x16 ![0, 1, 2] bcast_S1x2048x16_S8x2048x16_0_1_2 (broadcastInDim S1x2048x16 ![1, 2] bcast_S2048x16_S1x2048x16_1_2 sn)
  concatenate S8x2048x32 2 [⟨S8x2048x16, subf (mulf lo c) (mulf hi s)⟩, ⟨S8x2048x16, addf (mulf hi c) (mulf lo s)⟩] concatenates_S8x2048x16_S8x2048x16_S8x2048x32_d2

/-- The layer norm of the indexer's key head. -/
def meanOf (z : FVec F S8x2048x32 .f32) : FVec F S8x2048x1 .f32 :=
  Host.divf (broadcastInDim S8x2048x1 ![0, 1] bcast_S8x2048_S8x2048x1_0_1 (Host.reduceAdd z (constant S_ .f32 0x00000000#32) reducesTo_S8x2048x32_S8x2048_d2 h_S_)) (broadcastInDim S8x2048x1 ![] bcast_S_S8x2048x1 (constant S_ .f32 0x42000000#32))
def offMean (z : FVec F S8x2048x32 .f32) : FVec F S8x2048x32 .f32 := subf z (broadcastInDim S8x2048x32 ![0, 1, 2] bcast_S8x2048x1_S8x2048x32_0_1_2 (meanOf z))
def first32 (g : FVec F S1x128 .f32) : FVec F S8x2048x32 .f32 :=
  broadcastInDim S8x2048x32 ![0, 1, 2] bcast_S1x1x32_S8x2048x32_0_1_2 (broadcastInDim S1x1x32 ![2] bcast_S32_S1x1x32_2 (shapeCast _ (extractStridedSlice S1x32 ![0, 0] g slices_S1x128_S1x32_0_0) shapeCasts_S1x32_S32))
def normed (z : FVec F S8x2048x32 .f32) (g b : FVec F S1x128 .f32) : FVec F S8x2048x32 .f32 :=
  addf (mulf (mulf (offMean z) (broadcastInDim S8x2048x32 ![0, 1, 2] bcast_S8x2048x1_S8x2048x32_0_1_2
    (Host.rsqrt (addf (meanOf (mulf (offMean z) (offMean z))) (broadcastInDim S8x2048x1 ![] bcast_S_S8x2048x1 (constant S_ .f32 0x3727C5AC#32)))))) (first32 g)) (first32 b)

/-- A head written twice. -/
def twice (v : FVec F S8x2048x64 .f32) : FVec F S8x2048x128 .bf16 :=
  truncf .bf16 (concatenate S8x2048x128 2 [⟨S8x2048x64, v⟩, ⟨S8x2048x64, v⟩] concatenates_S8x2048x64_S8x2048x64_S8x2048x128_d2) bitsLt_bf16_f32

variable (x : FVec F S8x2048x1024 .f32) (md : FVec F S8x6x1024 .f32) (w : FVec F S1024x7080 .f32) (ch sh : FVec F S2048x32 .f32) (ci si : FVec F S2048x16 .f32) (g b : FVec F S1x128 .f32)

/-- Every column of the projection of the modulated rows. -/
def projected : FVec F S8x2048x7080 .f32 :=
  Host.dotGeneral dot_S8x2048x1024_S1024x7080_S8x2048x7080_2_0_01_1_n_n none (addf (mulf x (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 1, 0] md slices_S8x6x1024_S8x1x1024_0_1_0)))) (broadcastInDim S8x2048x1024 ![0, 1, 2] bcast_S8x1x1024_S8x2048x1024_0_1_2 (extractStridedSlice S8x1x1024 ![0, 0, 0] md slices_S8x6x1024_S8x1x1024_0_0_0))) w
def queries (o : ℕ) (h : S8x2048x7080.Slices ![0, 0, o] S8x2048x512) : FVec F S8x2048x512 .bf16 :=
  truncf .bf16 (mulf (heads64 (extractStridedSlice S8x2048x512 ![0, 0, o] (projected x md w) h) ch sh) (broadcastInDim S8x2048x512 ![] bcast_S_S8x2048x512 (constant S_ .f32 0x3E000000#32))) bitsLt_bf16_f32
def keys (o : ℕ) (h : S8x2048x7080.Slices ![0, 0, o] S8x2048x512) : FVec F S8x2048x512 .bf16 :=
  truncf .bf16 (heads64 (extractStridedSlice S8x2048x512 ![0, 0, o] (projected x md w) h) ch sh) bitsLt_bf16_f32
def values (o : ℕ) (h : S8x2048x7080.Slices ![0, 0, o] S8x2048x512) : FVec F S8x2048x512 .bf16 :=
  truncf .bf16 (extractStridedSlice S8x2048x512 ![0, 0, o] (projected x md w) h) bitsLt_bf16_f32
def oneKey : FVec F S8x2048x128 .bf16 := twice (head64 (extractStridedSlice S8x2048x64 ![0, 0, 512] (projected x md w) slices_S8x2048x7080_S8x2048x64_0_0_512) ch sh)
def oneValue : FVec F S8x2048x128 .bf16 := twice (extractStridedSlice S8x2048x64 ![0, 0, 576] (projected x md w) slices_S8x2048x7080_S8x2048x64_0_0_576)
def asks : FVec F S8x2048x256 .bf16 := truncf .bf16 (heads32 (extractStridedSlice S8x2048x256 ![0, 0, 640] (projected x md w) slices_S8x2048x7080_S8x2048x256_0_0_640) ci si) bitsLt_bf16_f32
def mark : FVec F S8x2048x32 .f32 := head32 (normed (extractStridedSlice S8x2048x32 ![0, 0, 896] (projected x md w) slices_S8x2048x7080_S8x2048x32_0_0_896) g b) ci si
def marks : FVec F S8x2048x128 .bf16 :=
  twice (concatenate S8x2048x64 2 [⟨S8x2048x32, mark x md w ci si g b⟩, ⟨S8x2048x32, mark x md w ci si g b⟩] concatenates_S8x2048x32_S8x2048x32_S8x2048x64_d2)
def weighs : FVec F S8x2048x128 .f32 :=
  pad S8x2048x128 ![0, 0, 0] ![0, 0, 120] ![0, 0, 0] (mulf (extractStridedSlice S8x2048x8 ![0, 0, 928] (projected x md w) slices_S8x2048x7080_S8x2048x8_0_0_928) (broadcastInDim S8x2048x8 ![] bcast_S_S8x2048x8 (constant S_ .f32 0x3D800000#32))) (sitofp .f32 (constantI S_ 32 0#32)) pads_S8x2048x8_S8x2048x128_000_000_01200 h_S_
end Parts

variable (b : Fin 8) (n : Fin 2048)

theorem joined64 (q : FVec Ideal S8x2048x8x64 .f32) (c : Fin 512) :
    shapeCast S8x2048x512 q shapeCasts_S8x2048x8x64_S8x2048x512 (ix3 b n c) = q (ix4 b n ⟨c.val / 64, by omega⟩ ⟨c.val % 64, by omega⟩) :=
  shapeCast_apply _ _ _ _ (by rw [Shape.rowMajor_val_four, Shape.rowMajor_val_three]; show ((b.val * 2048 + n.val) * 8 + c.val / 64) * 64 + c.val % 64 = (b.val * 2048 + n.val) * 512 + c.val; omega)
theorem split64 (P : FVec Ideal S8x2048x512 .f32) (h : Fin 8) (e : Fin 64) :
    shapeCast S8x2048x8x64 P shapeCasts_S8x2048x512_S8x2048x8x64 (ix4 b n h e) = P (ix3 b n ⟨64 * h.val + e.val, by omega⟩) :=
  shapeCast_apply _ _ _ _ (by rw [Shape.rowMajor_val_four, Shape.rowMajor_val_three]; show (b.val * 2048 + n.val) * 512 + (64 * h.val + e.val) = ((b.val * 2048 + n.val) * 8 + h.val) * 64 + e.val; omega)

theorem joined32 (q : FVec Ideal S8x2048x8x32 .f32) (c : Fin 256) :
    shapeCast S8x2048x256 q shapeCasts_S8x2048x8x32_S8x2048x256 (ix3 b n c) = q (ix4 b n ⟨c.val / 32, by omega⟩ ⟨c.val % 32, by omega⟩) :=
  shapeCast_apply _ _ _ _ (by rw [Shape.rowMajor_val_four, Shape.rowMajor_val_three]; show ((b.val * 2048 + n.val) * 8 + c.val / 32) * 32 + c.val % 32 = (b.val * 2048 + n.val) * 256 + c.val; omega)
theorem split32 (P : FVec Ideal S8x2048x256 .f32) (h : Fin 8) (e : Fin 32) :
    shapeCast S8x2048x8x32 P shapeCasts_S8x2048x256_S8x2048x8x32 (ix4 b n h e) = P (ix3 b n ⟨32 * h.val + e.val, by omega⟩) :=
  shapeCast_apply _ _ _ _ (by rw [Shape.rowMajor_val_four, Shape.rowMajor_val_three]; show (b.val * 2048 + n.val) * 256 + (32 * h.val + e.val) = ((b.val * 2048 + n.val) * 8 + h.val) * 32 + e.val; omega)

theorem turned_low {h : ℕ} {p cs sn : ℕ → EReal} {j : ℕ} (hj : j % (2 * h) < h) {x y c s : EReal} (hx : x = p j) (hc : c = cs (j % h)) (hy : y = p (j + h))
    (hs : s = sn (j % h)) : x * c - y * s = turned h p cs sn j := by
  rw [hx, hc, hy, hs, turned, if_pos hj]
theorem turned_high {h : ℕ} {p cs sn : ℕ → EReal} {j : ℕ} (hj : ¬ j % (2 * h) < h) {x y c s : EReal} (hx : x = p j) (hc : c = cs (j % h)) (hy : y = p (j - h))
    (hs : s = sn (j % h)) : x * c + y * s = turned h p cs sn j := by
  rw [hx, hc, hy, hs, turned, if_neg hj]
theorem ofNat_of {N : ℕ} [NeZero N] {a : Fin N} {k : ℕ} (h : a.val = k % N) : a = Fin.ofNat N k := Fin.ext h

theorem ofNat_mk {N : ℕ} [NeZero N] {i k : ℕ} {hi : i < N} (h : i = k % N) : (⟨i, hi⟩ : Fin N) = Fin.ofNat N k := Fin.ext h

theorem head64_at (P : FVec Ideal S8x2048x64 .f32) (cs sn : FVec Ideal S2048x32 .f32) (e : Fin 64) :
    head64 P cs sn (ix3 b n e) = turned 32 (fun j => P (ix3 b n (Fin.ofNat 64 j))) (fun j => cs (ix2 n (Fin.ofNat 32 j))) (fun j => sn (ix2 n (Fin.ofNat 32 j))) e := by
  pointwise [head64]
  by_cases h : e.val < 32
  · rw [dif_pos h]
    exact turned_low (by omega) (congrArg (fun k => P (ix3 b n k)) (ofNat_of (by omega))) (congrArg (fun k => cs (ix2 n k)) (ofNat_mk (by omega)))
      (congrArg (fun k => P (ix3 b n k)) (ofNat_mk (by omega))) (congrArg (fun k => sn (ix2 n k)) (ofNat_mk (by omega)))
  · rw [dif_neg h]
    exact turned_high (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))

theorem head32_at (P : FVec Ideal S8x2048x32 .f32) (cs sn : FVec Ideal S2048x16 .f32) (e : Fin 32) :
    head32 P cs sn (ix3 b n e) = turned 16 (fun j => P (ix3 b n (Fin.ofNat 32 j))) (fun j => cs (ix2 n (Fin.ofNat 16 j))) (fun j => sn (ix2 n (Fin.ofNat 16 j))) e := by
  pointwise [head32]
  by_cases h : e.val < 16
  · rw [dif_pos h]
    exact turned_low (by omega) (congrArg (fun k => P (ix3 b n k)) (ofNat_of (by omega))) (congrArg (fun k => cs (ix2 n k)) (ofNat_mk (by omega)))
      (congrArg (fun k => P (ix3 b n k)) (ofNat_mk (by omega))) (congrArg (fun k => sn (ix2 n k)) (ofNat_mk (by omega)))
  · rw [dif_neg h]
    exact turned_high (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))

theorem heads64_at (P : FVec Ideal S8x2048x512 .f32) (cs sn : FVec Ideal S2048x32 .f32) (c : Fin 512) :
    heads64 P cs sn (ix3 b n c) = turned 32 (fun j => P (ix3 b n (Fin.ofNat 512 j))) (fun j => cs (ix2 n (Fin.ofNat 32 j))) (fun j => sn (ix2 n (Fin.ofNat 32 j))) c := by
  unfold heads64
  dsimp only
  rw [joined64]
  pointwise [split64]
  by_cases h : c.val % 64 < 32
  · rw [dif_pos h]
    exact turned_low (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))
  · rw [dif_neg h]
    exact turned_high (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))

theorem heads32_at (P : FVec Ideal S8x2048x256 .f32) (cs sn : FVec Ideal S2048x16 .f32) (c : Fin 256) :
    heads32 P cs sn (ix3 b n c) = turned 16 (fun j => P (ix3 b n (Fin.ofNat 256 j))) (fun j => cs (ix2 n (Fin.ofNat 16 j))) (fun j => sn (ix2 n (Fin.ofNat 16 j))) c := by
  unfold heads32
  dsimp only
  rw [joined32]
  pointwise [split32]
  by_cases h : c.val % 32 < 16
  · rw [dif_pos h]
    exact turned_low (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))
  · rw [dif_neg h]
    exact turned_high (by omega) (congrArg (fun k => P (ix3 b n k)) (ofNat_mk (by omega))) (congrArg (fun k => cs (ix2 n k)) (ofNat_mk (by omega)))
      (congrArg (fun k => P (ix3 b n k)) (ofNat_mk (by omega))) (congrArg (fun k => sn (ix2 n k)) (ofNat_mk (by omega)))

/-- Rows that agree on the whole heads below `N` rotate alike there. -/
theorem turned_congr {h N : ℕ} {p q cs sn : ℕ → EReal} (hh : 0 < h) (hN : N % (2 * h) = 0) (e : ∀ j, j < N → p j = q j) {j : ℕ} (hj : j < N) :
    turned h p cs sn j = turned h q cs sn j := by
  have hd := Nat.div_add_mod j (2 * h)
  have hNd := Nat.div_add_mod N (2 * h)
  have hm : j % (2 * h) < 2 * h := Nat.mod_lt _ (by omega)
  have hq : j / (2 * h) < N / (2 * h) := Nat.div_lt_div_of_lt_of_dvd (Nat.dvd_of_mod_eq_zero hN) hj
  have hb : (2 * h) * (j / (2 * h) + 1) ≤ (2 * h) * (N / (2 * h)) := Nat.mul_le_mul_left _ hq
  rw [Nat.mul_add, Nat.mul_one] at hb
  unfold turned
  split_ifs with hl
  · rw [e j hj, e (j + h) (by omega)]
  · rw [e j hj, e (j - h) (by omega)]

theorem mean32_at (z : FVec Ideal S8x2048x32 .f32) : meanOf z (ix3 b n 0) = mean32 fun k => z (ix3 b n k) := by
  pointwise [meanOf, mean32]
theorem offMean_at (z : FVec Ideal S8x2048x32 .f32) (c : Fin 32) : offMean z (ix3 b n c) = z (ix3 b n c) - mean32 fun k => z (ix3 b n k) := by
  pointwise [offMean]
  rw [mean32_at]
theorem first32_at (g : FVec Ideal S1x128 .f32) (c : Fin 32) : first32 g (ix3 b n c) = g (ix2 0 ⟨c.val, by omega⟩) := by
  pointwise [first32]
theorem normed_at (z : FVec Ideal S8x2048x32 .f32) (g t : FVec Ideal S1x128 .f32) (c : Fin 32) :
    normed z g t (ix3 b n c) = norm32 (fun k => z (ix3 b n k)) (fun k => g (ix2 0 ⟨k.val, by omega⟩)) (fun k => t (ix2 0 ⟨k.val, by omega⟩)) c := by
  have h : (fun k => mulf (offMean z) (offMean z) (ix3 b n k)) =
      fun k => (z (ix3 b n k) - mean32 fun k => z (ix3 b n k)) * (z (ix3 b n k) - mean32 fun k => z (ix3 b n k)) := by
    funext k
    pointwise []
    rw [offMean_at]
  pointwise [normed]
  rw [mean32_at, offMean_at, first32_at, first32_at, h]
  rfl

theorem twice_at (v : FVec Ideal S8x2048x64 .f32) (c : Fin 128) : twice v (ix3 b n c) = v (ix3 b n ⟨c.val % 64, by omega⟩) := by
  pointwise [twice]
  by_cases h : c.val < 64
  · rw [dif_pos h]
    exact congrArg (fun k => v (ix3 b n k)) (Fin.ext (by dsimp only; omega))
  · rw [dif_neg h]
    exact congrArg (fun k => v (ix3 b n k)) (Fin.ext (by dsimp only; omega))

section Whole
variable (x : FVec Ideal S8x2048x1024 .f32) (md : FVec Ideal S8x6x1024 .f32) (w : FVec Ideal S1024x7080 .f32) (ch sh : FVec Ideal S2048x32 .f32) (ci si : FVec Ideal S2048x16 .f32) (g t : FVec Ideal S1x128 .f32)

/-- The modulated row of a token, and the weights by row and column. -/
abbrev rowOf : Fin 1024 → EReal := Cert.Merge.modRow (fun k => x (ix3 b n k)) (fun k => md (ix3 b 0 k)) (fun k => md (ix3 b 1 k))
abbrev weightsOf : Fin 1024 → Fin 7080 → EReal := fun k j => w (ix2 k j)
/-- A position's half-head cosines or sines. -/
abbrev wideOf (v : FVec Ideal S2048x32 .f32) : ℕ → EReal := fun j => v (ix2 n (Fin.ofNat 32 j))
abbrev slimOf (v : FVec Ideal S2048x16 .f32) : ℕ → EReal := fun j => v (ix2 n (Fin.ofNat 16 j))

theorem projected_at (j : Fin 7080) {k : ℕ} (h : j.val = k) : projected x md w (ix3 b n j) = colOf (rowOf b n x md) (weightsOf w) k := by
  rw [colOf, ← ofNat_of (a := j) (k := k) (by omega)]
  pointwise [projected, Cert.Merge.modRow]

theorem part512_at (v : FVec Ideal S8x2048x7080 .f32) (o : ℕ) (h : S8x2048x7080.Slices ![0, 0, o] S8x2048x512) (ho : o + 512 ≤ 7080) (c : Fin 512) :
    extractStridedSlice S8x2048x512 ![0, 0, o] v h (ix3 b n c) = v (ix3 b n ⟨o + c.val, by omega⟩) := by
  refine extractStridedSlice_apply _ _ _ _ _ fun a => ?_
  match a with
  | ⟨0, _⟩ => exact (Nat.zero_add _).symm
  | ⟨1, _⟩ => exact (Nat.zero_add _).symm
  | ⟨2, _⟩ => rfl

theorem turned512 (o : ℕ) (h : S8x2048x7080.Slices ![0, 0, o] S8x2048x512) (ho : o + 512 ≤ 7080) (c : Fin 512) :
    heads64 (extractStridedSlice S8x2048x512 ![0, 0, o] (projected x md w) h) ch sh (ix3 b n c) =
      keyRow (rowOf b n x md) (weightsOf w) (wideOf n ch) (wideOf n sh) o c := by
  rw [heads64_at]
  refine turned_congr (N := 512) (by decide) (by decide) (fun j hj => ?_) c.isLt
  rw [part512_at _ _ _ _ _ ho]
  exact projected_at b n x md w _ (by show o + j % 512 = o + j; omega)

theorem queries_at (o : ℕ) (h) (ho : o + 512 ≤ 7080) (c : Fin 512) :
    queries x md w ch sh o h (ix3 b n c) = queryRow (rowOf b n x md) (weightsOf w) (wideOf n ch) (wideOf n sh) o c := by
  pointwise [queries]
  rw [turned512 b n x md w ch sh o h ho]
  rfl
theorem keys_at (o : ℕ) (h) (ho : o + 512 ≤ 7080) (c : Fin 512) :
    keys x md w ch sh o h (ix3 b n c) = keyRow (rowOf b n x md) (weightsOf w) (wideOf n ch) (wideOf n sh) o c := turned512 b n x md w ch sh o h ho c
theorem values_at (o : ℕ) (h) (ho : o + 512 ≤ 7080) (c : Fin 512) :
    values x md w o h (ix3 b n c) = colOf (rowOf b n x md) (weightsOf w) (o + c.val) :=
  (part512_at b n _ o h ho c).trans (projected_at b n x md w _ rfl)
theorem oneKey_at (c : Fin 128) : oneKey x md w ch sh (ix3 b n c) = keysRow (rowOf b n x md) (weightsOf w) (wideOf n ch) (wideOf n sh) c := by
  rw [oneKey, twice_at, head64_at]
  refine turned_congr (N := 64) (by decide) (by decide) (fun j hj => ?_) (Nat.mod_lt _ (by decide))
  pointwise []
  exact projected_at b n x md w _ (by show 512 + j % 64 = 512 + j; omega)
theorem oneValue_at (c : Fin 128) : oneValue x md w (ix3 b n c) = valuesRow (rowOf b n x md) (weightsOf w) c := by
  rw [oneValue, twice_at]
  pointwise []
  exact projected_at b n x md w _ rfl
theorem asks_at (c : Fin 256) : asks x md w ci si (ix3 b n c) = askRow (rowOf b n x md) (weightsOf w) (slimOf n ci) (slimOf n si) c := by
  pointwise [asks]
  rw [heads32_at]
  refine turned_congr (N := 256) (by decide) (by decide) (fun j hj => ?_) c.isLt
  pointwise []
  exact projected_at b n x md w _ (by show 640 + j % 256 = 640 + j; omega)
theorem mark_at (e : Fin 32) : mark x md w ci si g t (ix3 b n e) =
    markRow (rowOf b n x md) (weightsOf w) (slimOf n ci) (slimOf n si) (fun k => g (ix2 0 ⟨k.val, by omega⟩)) (fun k => t (ix2 0 ⟨k.val, by omega⟩)) e := by
  rw [mark, head32_at, markRow, Nat.mod_eq_of_lt e.isLt]
  refine congrArg (fun p => turned 16 p _ _ e.val) (funext fun j => ?_)
  rw [normed_at]
  refine congrArg (fun z => norm32 z _ _ _) (funext fun k => ?_)
  pointwise []
  exact projected_at b n x md w _ rfl
theorem marks_at (c : Fin 128) : marks x md w ci si g t (ix3 b n c) =
    markRow (rowOf b n x md) (weightsOf w) (slimOf n ci) (slimOf n si) (fun k => g (ix2 0 ⟨k.val, by omega⟩)) (fun k => t (ix2 0 ⟨k.val, by omega⟩)) c := by
  have key (e : Fin 32) (h : e.val = c.val % 32) := (mark_at b n x md w ci si g t e).trans
    (show _ = markRow (rowOf b n x md) (weightsOf w) (slimOf n ci) (slimOf n si) (fun k => g (ix2 0 ⟨k.val, by omega⟩)) (fun k => t (ix2 0 ⟨k.val, by omega⟩)) c.val by
      rw [markRow, markRow, h, Nat.mod_mod])
  rw [marks, twice_at]
  pointwise []
  by_cases h : c.val % 64 < 32
  · rw [dif_pos h]
    exact key _ (by dsimp only; omega)
  · rw [dif_neg h]
    exact key _ (by dsimp only; omega)
theorem weighs_at (c : Fin 128) : weighs x md w (ix3 b n c) = weightRow (rowOf b n x md) (weightsOf w) c := by
  unfold weighs weightRow
  split_ifs with h
  · refine (pad_apply_of_inside _ _ _ _ _ _ _ _ (ix3 b n ⟨c.val, h⟩) fun a => ?_).trans ?_
    · match a with
      | ⟨0, _⟩ => show b.val = 0 + b.val * (0 + 1); omega
      | ⟨1, _⟩ => show n.val = 0 + n.val * (0 + 1); omega
      | ⟨2, _⟩ => show c.val = 0 + c.val * (0 + 1); omega
    · pointwise []
      rw [projected_at b n x md w _ rfl]
  · refine (pad_apply_of_not_inside _ _ _ _ _ _ _ _ (2 : Fin 3) fun q => ?_).trans ?_
    · have q2 : (c.val - 0) / (0 + 1) < 8 := q.2.2
      omega
    · show (((0#32 : BitVec 32).toInt : ℝ) : EReal) = 0
      simp
end Whole

end Cert.Proj
-- ==== Proof.ProjSpun.lean ====
/-
The rotated blocks of the input projection at one lane.
-/
module
public import proofs.«01_k».proof.Proof.ProjTile
public import proofs.«01_k».proof.Proof.ProjRows
public import Idealize.ShloMosaic.Lib.Pipeline.ValueKit
@[expose] public section
set_option maxRecDepth 16384
noncomputable section
namespace Cert.Proj
open Idealize.ShloMosaic Idealize.SL.Sem Cert.Kernel4Ideal Cert.Kernel4Ideal.Gen

theorem spun32_at (p cs sn : FVec Ideal S512x128 .f32) (n : Fin 512) (l : Fin 128) :
    spun 31#32 16#32 112#32 16#32 p cs sn (ix2 n l) = p (ix2 n l) * cs (ix2 n l) + (if l.val % 32 < 16 then p (ix2 n (Fin.ofNat 128 (l + 16))) else p (ix2 n (Fin.ofNat 128 (l - 16)))) * sn (ix2 n l) := by
  have hl : IntOp.cmpi CmpIPredicate.slt (IntOp.andi (BitVec.ofNat 32 l.val) 31#32) 16#32 = if l.val % 32 < 16 then 1#1 else 0#1 :=
    (by decide +kernel : ∀ l : Fin 128, IntOp.cmpi CmpIPredicate.slt (IntOp.andi (BitVec.ofNat 32 l.val) 31#32) 16#32 = if l.val % 32 < 16 then 1#1 else 0#1) l
  pointwise [spun]
  rw [hl]
  by_cases h : l.val % 32 < 16
  · rw [if_pos h, if_pos h]
    refine congrArg (fun k => _ + p (ix2 n k) * _) (Fin.ext ?_)
    show (l.val + 128 - 112) % 128 = (l.val + 16) % 128
    omega
  · rw [if_neg h, if_neg h]
    refine congrArg (fun k => _ + p (ix2 n k) * _) (Fin.ext ?_)
    show (l.val + 128 - 16) % 128 = (l.val - 16) % 128
    omega

section Turn
variable (n : Fin 512) (Q C S : ℕ → EReal) (p cs sn : FVec Ideal S512x128 .f32)

theorem spun64_turned (o : ℕ) (ho : o % 64 = 0) (hp : ∀ l : Fin 128, p (ix2 n l) = Q (o + l.val)) (hc : ∀ l : Fin 128, cs (ix2 n l) = C (l.val % 32))
    (hs : ∀ l : Fin 128, sn (ix2 n l) = if l.val % 64 < 32 then -S (l.val % 32) else S (l.val % 32)) (l : Fin 128) :
    spun 63#32 32#32 96#32 32#32 p cs sn (ix2 n l) = turned 32 Q C S (o + l.val) := by
  have e : (o + l.val) % 32 = l.val % 32 := by omega
  rw [spun64_at, hp, hc, hs, turned, e]
  by_cases h : l.val % 64 < 32
  · rw [if_pos h, if_pos h, if_pos (by omega), hp, mul_neg, sub_eq_add_neg]
    rw [show o + (Fin.ofNat 128 (l.val + 32)).val = o + l.val + 32 by show o + (l.val + 32) % 128 = _; omega]
  · rw [if_neg h, if_neg h, if_neg (by omega), hp]
    rw [show o + (Fin.ofNat 128 (l.val - 32)).val = o + l.val - 32 by show o + (l.val - 32) % 128 = _; omega]

theorem spun32_turned (o N : ℕ) (ho : o % 32 = 0) (hN : N % 32 = 0) (hp : ∀ l : Fin 128, l.val < N → p (ix2 n l) = Q (o + l.val)) (hc : ∀ l : Fin 128, cs (ix2 n l) = C (l.val % 16))
    (hs : ∀ l : Fin 128, sn (ix2 n l) = if l.val % 32 < 16 then -S (l.val % 16) else S (l.val % 16)) (l : Fin 128) (hl : l.val < N) :
    spun 31#32 16#32 112#32 16#32 p cs sn (ix2 n l) = turned 16 Q C S (o + l.val) := by
  have e : (o + l.val) % 16 = l.val % 16 := by omega
  rw [spun32_at, hp l hl, hc, hs, turned, e]
  by_cases h : l.val % 32 < 16
  · rw [if_pos h, if_pos h, if_pos (by omega), hp _ (by show (l.val + 16) % 128 < N; omega), mul_neg, sub_eq_add_neg]
    rw [show o + (Fin.ofNat 128 (l.val + 16)).val = o + l.val + 16 by show o + (l.val + 16) % 128 = _; omega]
  · rw [if_neg h, if_neg h, if_neg (by omega), hp _ (by show (l.val - 16) % 128 < N; omega)]
    rw [show o + (Fin.ofNat 128 (l.val - 16)).val = o + l.val - 16 by show o + (l.val - 16) % 128 = _; omega]
end Turn

theorem laid_at (s : BitVec 32) (v : FVec Ideal S512x128 .f32) (n : Fin 512) (l : Fin 128) : laid s v (ix3 0 n l) = v (ix2 n l) * Ideal.ofBits .f32 s := by
  pointwise [laid]
theorem plain_at (v : FVec Ideal S512x128 .f32) (n : Fin 512) (l : Fin 128) : plain v (ix3 0 n l) = v (ix2 n l) := by
  pointwise [plain]

theorem in_block128 (y : S1x512x128.Idx) : ∃ (n : Fin 512) (j : Fin 128), y = ix3 0 n j := by
  have h : y 0 = (0 : Fin 1) := Subsingleton.elim (α := Fin 1) _ _
  refine ⟨y 1, y 2, funext fun a => ?_⟩
  match a with
  | ⟨0, _⟩ => exact h
  | ⟨1, _⟩ => rfl
  | ⟨2, _⟩ => rfl

section Four
variable (Q : Fin 512 → ℕ → EReal) (C S : Fin 512 → ℕ → EReal) (s : BitVec 32) (cs sn : FVec Ideal S512x128 .f32)
  (hc : ∀ n, ∀ l : Fin 128, cs (ix2 n l) = C n (l.val % 32)) (hs : ∀ n, ∀ l : Fin 128, sn (ix2 n l) = if l.val % 64 < 32 then -S n (l.val % 32) else S n (l.val % 32))

include hc hs in
/-- One of the four, at a lane. -/
theorem of_four (p : FVec Ideal S512x512 .f32) (hp : ∀ n, ∀ j : Fin 512, p (ix2 n j) = Q n j.val) (o : ℕ) (ho : o % 64 = 0) (h5 : o + 128 ≤ 512)
    (h : S512x512.Slices ![0, o] S512x128) (n : Fin 512) (l : Fin 128) :
    laid s (spun 63#32 32#32 96#32 32#32 (extractStridedSlice S512x128 ![0, o] p h) cs sn) (ix3 0 n l) = turned 32 (Q n) (C n) (S n) (o + l.val) * Ideal.ofBits .f32 s := by
  rw [laid_at, spun64_turned n (Q n) (C n) (S n) _ cs sn o ho (fun l => ?_) (hc n) (hs n)]
  refine (extractStridedSlice_apply _ _ _ _ (ix2 n ⟨o + l.val, by omega⟩ : S512x512.Idx) fun a => ?_).trans (hp n _)
  match a with
  | ⟨0, _⟩ => exact (Nat.zero_add _).symm
  | ⟨1, _⟩ => rfl

include hc hs in
theorem four_at (p : FVec Ideal S512x512 .f32) (hp : ∀ n, ∀ j : Fin 512, p (ix2 n j) = Q n j.val) (n : Fin 512) (c : Fin 512) :
    four s p cs sn (ix3 0 n c) = turned 32 (Q n) (C n) (S n) c.val * Ideal.ofBits .f32 s := by
  unfold four
  let G : Vec Ideal S1x512x512 .bf16 := fun y => (turned 32 (Q (y 1)) (C (y 1)) (S (y 1)) (y 2).val * Ideal.ofBits .f32 s : EReal)
  have key : ∀ (o : ℕ) (ho : o % 64 = 0) (h5 : o + 128 ≤ 512) (h : S512x512.Slices ![0, o] S512x128) (inb) (x : S1x512x128.Idx),
      laid s (spun 63#32 32#32 96#32 32#32 (extractStridedSlice S512x128 ![0, o] p h) cs sn) x = G ((Rect.unit (s := S1x512x512) ![0, 0, o] S1x512x128.size inb).emb x) := by
    intro o ho h5 h inb x
    obtain ⟨a, l, rfl⟩ := in_block128 x
    refine (of_four Q C S s cs sn hc hs p hp o ho h5 h a l).trans ?_
    have e1 : ((Rect.unit (s := S1x512x512) ![0, 0, o] S1x512x128.size inb).emb (ix3 0 a l : S1x512x128.Idx)) 1 = a := Fin.ext (by show 0 + 1 * a.val = a.val; omega)
    have e2 : (((Rect.unit (s := S1x512x512) ![0, 0, o] S1x512x128.size inb).emb (ix3 0 a l : S1x512x128.Idx)) 2).val = o + l.val := by show o + 1 * l.val = _; omega
    show _ = turned 32 (Q _) (C _) (S _) _ * _
    rw [e1, e2]
  refine View.canon_apply_of_pieces G _ ?_ (ix3 0 n c) ?_
  · intro pc hpc
    rcases List.mem_cons.mp hpc with rfl | hpc
    · exact key 384 (by decide) (by decide) _ inb_S1x512x512_S1x512x128_0_0_384
    rcases List.mem_cons.mp hpc with rfl | hpc
    · exact key 256 (by decide) (by decide) _ inb_S1x512x512_S1x512x128_0_0_256
    rcases List.mem_cons.mp hpc with rfl | hpc
    · exact key 128 (by decide) (by decide) _ inb_S1x512x512_S1x512x128_0_0_128
    rcases List.mem_cons.mp hpc with rfl | hpc
    · exact key 0 (by decide) (by decide) _ inb_S1x512x512_S1x512x128_0_0_0
    nomatch hpc
  · have mem : ∀ (o : ℕ) (inb), o ≤ c.val → c.val < o + 128 → (ix3 0 n c : S1x512x512.Idx) ∈ (Rect.unit (s := S1x512x512) ![0, 0, o] S1x512x128.size inb).set := by
      intro o inb h0 h1
      rw [Rect.mem_set_unit]
      intro a
      match a with
      | ⟨0, _⟩ => exact ⟨Nat.zero_le _, Nat.zero_lt_one⟩
      | ⟨1, _⟩ => exact ⟨Nat.zero_le _, by show n.val < 0 + 512; omega⟩
      | ⟨2, _⟩ => exact ⟨h0, h1⟩
    have hlt := c.isLt
    by_cases h3 : 384 ≤ c.val
    · exact ⟨_, List.mem_cons_self, mem 384 inb_S1x512x512_S1x512x128_0_0_384 h3 (by omega)⟩
    by_cases h2 : 256 ≤ c.val
    · exact ⟨_, List.mem_cons_of_mem _ List.mem_cons_self, mem 256 inb_S1x512x512_S1x512x128_0_0_256 h2 (by omega)⟩
    by_cases h1 : 128 ≤ c.val
    · exact ⟨_, List.mem_cons_of_mem _ (List.mem_cons_of_mem _ List.mem_cons_self), mem 128 inb_S1x512x512_S1x512x128_0_0_128 h1 (by omega)⟩
    · exact ⟨_, List.mem_cons_of_mem _ (List.mem_cons_of_mem _ (List.mem_cons_of_mem _ List.mem_cons_self)), mem 0 inb_S1x512x512_S1x512x128_0_0_0 (by omega) (by omega)⟩
end Four

section Two
variable (Q : Fin 512 → ℕ → EReal) (C S : Fin 512 → ℕ → EReal) (cs sn : FVec Ideal S512x128 .f32)
  (hc : ∀ n, ∀ l : Fin 128, cs (ix2 n l) = C n (l.val % 16)) (hs : ∀ n, ∀ l : Fin 128, sn (ix2 n l) = if l.val % 32 < 16 then -S n (l.val % 16) else S n (l.val % 16))

include hc hs in
theorem two_at (p : FVec Ideal S512x256 .f32) (hp : ∀ n, ∀ j : Fin 256, p (ix2 n j) = Q n j.val) (n : Fin 512) (c : Fin 256) :
    two p cs sn (ix3 0 n c) = turned 16 (Q n) (C n) (S n) c.val := by
  unfold two
  let G : Vec Ideal S1x512x256 .bf16 := fun y => (turned 16 (Q (y 1)) (C (y 1)) (S (y 1)) (y 2).val : EReal)
  have key : ∀ (o : ℕ) (ho : o % 32 = 0) (h5 : o + 128 ≤ 256) (h : S512x256.Slices ![0, o] S512x128) (inb) (x : S1x512x128.Idx),
      plain (spun 31#32 16#32 112#32 16#32 (extractStridedSlice S512x128 ![0, o] p h) cs sn) x = G ((Rect.unit (s := S1x512x256) ![0, 0, o] S1x512x128.size inb).emb x) := by
    intro o ho h5 h inb x
    obtain ⟨a, l, rfl⟩ := in_block128 x
    rw [plain_at, spun32_turned a (Q a) (C a) (S a) _ cs sn o 128 ho (by decide) (fun l _ => ?_) (hc a) (hs a) l l.isLt]
    · have e1 : ((Rect.unit (s := S1x512x256) ![0, 0, o] S1x512x128.size inb).emb (ix3 0 a l : S1x512x128.Idx)) 1 = a := Fin.ext (by show 0 + 1 * a.val = a.val; omega)
      have e2 : (((Rect.unit (s := S1x512x256) ![0, 0, o] S1x512x128.size inb).emb (ix3 0 a l : S1x512x128.Idx)) 2).val = o + l.val := by show o + 1 * l.val = _; omega
      show _ = turned 16 (Q _) (C _) (S _) _
      rw [e1, e2]
    · refine (extractStridedSlice_apply _ _ _ _ (ix2 a ⟨o + l.val, by omega⟩ : S512x256.Idx) fun b => ?_).trans (hp a _)
      match b with
      | ⟨0, _⟩ => exact (Nat.zero_add _).symm
      | ⟨1, _⟩ => rfl
  refine View.canon_apply_of_pieces G _ ?_ (ix3 0 n c) ?_
  · intro pc hpc
    rcases List.mem_cons.mp hpc with rfl | hpc
    · exact key 128 (by decide) (by decide) _ inb_S1x512x256_S1x512x128_0_0_128
    rcases List.mem_cons.mp hpc with rfl | hpc
    · exact key 0 (by decide) (by decide) _ inb_S1x512x256_S1x512x128_0_0_0
    nomatch hpc
  · have mem : ∀ (o : ℕ) (inb), o ≤ c.val → c.val < o + 128 → (ix3 0 n c : S1x512x256.Idx) ∈ (Rect.unit (s := S1x512x256) ![0, 0, o] S1x512x128.size inb).set := by
      intro o inb h0 h1
      rw [Rect.mem_set_unit]
      intro a
      match a with
      | ⟨0, _⟩ => exact ⟨Nat.zero_le _, Nat.zero_lt_one⟩
      | ⟨1, _⟩ => exact ⟨Nat.zero_le _, by show n.val < 0 + 512; omega⟩
      | ⟨2, _⟩ => exact ⟨h0, h1⟩
    have hlt := c.isLt
    by_cases h1 : 128 ≤ c.val
    · exact ⟨_, List.mem_cons_self, mem 128 inb_S1x512x256_S1x512x128_0_0_128 h1 (by omega)⟩
    · exact ⟨_, List.mem_cons_of_mem _ List.mem_cons_self, mem 0 inb_S1x512x256_S1x512x128_0_0_0 (by omega) (by omega)⟩
end Two

end Cert.Proj
-- ==== Proof.ProjMark.lean ====
/-
The indexer's key head in the input projection's block: normed over its 32 columns, rotated, and written four times.
-/
module
public import proofs.«01_k».proof.Proof.ProjSpun
@[expose] public section
set_option maxRecDepth 16384
noncomputable section
namespace Cert.Proj
open Idealize.ShloMosaic Idealize.SL.Sem Cert.Kernel4Ideal Cert.Kernel4Ideal.Gen

section Parts
variable {F : FTy → Type} [FloatOps F]
/-- The mask of the first 32 lanes, on every row. -/
def masks : FVec F S512x128 .f32 := broadcastTo S512x128 (k0_pay29 (F := F)) broadcasts_S1x128_S512x128
/-- The mean over the 32 columns, of a block that is zero after them. -/
def means (v : FVec F S512x128 .f32) : FVec F S512x1 .f32 :=
  mulf (shapeCast S512x1 (multiReduction .add [1] S512 v 0x00000000#32 reduces_S512x128_S512 (.inl rfl) rfl : FVec F S512 .f32) shapeCasts_S512_S512x1 : FVec F S512x1 .f32)
    (broadcast S512x1 (Scalar.ofBits .f32 0x3D000000#32))
def centred (v : FVec F S512x128 .f32) : FVec F S512x128 .f32 := mulf (subf v (broadcastTo S512x128 (means v) broadcasts_S512x1_S512x128)) masks
def layered (v : FVec F S512x128 .f32) (g t : Vec F S1x128 .f32) : FVec F S512x128 .f32 :=
  have r : FVec F S512x1 .f32 := rsqrt (addf (means (mulf (centred v) (centred v))) (broadcast S512x1 (Scalar.ofBits .f32 0x3727C5AC#32)))
  addf (mulf (mulf (centred v) (broadcastTo S512x128 r broadcasts_S512x1_S512x128)) (broadcastTo S512x128 (g : FVec F S1x128 .f32) broadcasts_S1x128_S512x128))
    (broadcastTo S512x128 (t : FVec F S1x128 .f32) broadcasts_S1x128_S512x128)
/-- The first 32 lanes written over all the lanes. -/
def over (v : FVec F S512x128 .f32) : FVec F S512x128 .f32 :=
  addf (addf (addf v (dynamicRotate 1 32#32 none v rotates_S512x128_d1)) (dynamicRotate 1 64#32 none v rotates_S512x128_d1)) (dynamicRotate 1 96#32 none v rotates_S512x128_d1)

variable (x0 : Vec F S1x512x1024 .f32) (x1 : Vec F S1x6x1024 .f32) (x2 : Vec F S1024x4352 .bf16) (x3 x4 x5 x6 : Vec F S512x128 .f32) (x7 x8 : Vec F S1x128 .f32)
theorem out_ki : out0_13 x0 x1 x2 x3 x4 x5 x6 x7 x8 = View.canon [⟨r0_10, plain (over (mulf
    (spun 31#32 16#32 112#32 16#32 (layered (times128 (rows x0 x1) (View.ld x2 r0_15)) (View.ld x7 r0_16) (View.ld x8 r0_16)) (k0_pay5 (View.ld x5 r0_3)) (k0_pay6 (View.ld x6 r0_3))) masks))⟩] := rfl
end Parts

theorem mask_at (l : Fin 128) : (k0_pay29 (F := Ideal)) (ix2 0 l) = if l.val < 32 then 1 else 0 := by
  have hl : IntOp.cmpi CmpIPredicate.slt (BitVec.ofNat 32 l.val) 32#32 = if l.val < 32 then 1#1 else 0#1 :=
    (by decide +kernel : ∀ l : Fin 128, IntOp.cmpi CmpIPredicate.slt (BitVec.ofNat 32 l.val) 32#32 = if l.val < 32 then 1#1 else 0#1) l
  pointwise [k0_pay29]
  rw [hl]
  by_cases h : l.val < 32
  · rw [if_pos h, if_pos h]
    show (((1#32 : BitVec 32).toInt : ℝ) : EReal) = 1
    simp
  · rw [if_neg h, if_neg h]
    show (((0#32 : BitVec 32).toInt : ℝ) : EReal) = 0
    simp
theorem masks_at (n : Fin 512) (l : Fin 128) : (masks (F := Ideal)) (ix2 n l) = if l.val < 32 then 1 else 0 := by
  refine Eq.trans ?_ (mask_at l)
  pointwise [masks]

theorem thirtytwo : Ideal.ofBits .f32 0x42000000#32 = ((32 : ℝ) : EReal) := by
  simp [Ideal.ofBits, Ideal.ieee, -EReal.coe_mul, -EReal.coe_neg]; norm_num
theorem thirtysecond : Ideal.ofBits .f32 0x3D000000#32 = ((32⁻¹ : ℝ) : EReal) := by
  simp [Ideal.ofBits, Ideal.ieee, -EReal.coe_mul, -EReal.coe_neg]; norm_num
theorem div32 (a : EReal) : Ideal.div a (Ideal.ofBits .f32 0x42000000#32) = a * Ideal.ofBits .f32 0x3D000000#32 := by
  rw [thirtytwo, thirtysecond, Ideal.div, if_neg (by norm_num), EReal.coe_inv]

theorem sum_first (f : Fin 128 → EReal) (h : ∀ j : Fin 128, 32 ≤ j.val → f j = 0) : ∑ j, f j = ∑ i : Fin 32, f ⟨i.val, by omega⟩ := by
  have hz : ∑ i : Fin 96, f (Fin.natAdd 32 i) = 0 := Finset.sum_eq_zero fun i _ => h _ (by show 32 ≤ 32 + i.val; omega)
  refine (Fin.sum_univ_add (a := 32) (b := 96) f).trans ?_
  rw [hz, add_zero]
  rfl

section At
variable (v : FVec Ideal S512x128 .f32) (n : Fin 512) (Z : Fin 32 → EReal)

theorem means_at (hv : ∀ l : Fin 128, v (ix2 n l) = if h : l.val < 32 then Z ⟨l.val, h⟩ else 0) : means v (ix2 n 0) = mean32 Z := by
  rw [mean32, div32]
  have e : ∑ l : Fin 128, v (ix2 n l) = ∑ i, Z i := by
    rw [sum_first _ fun j hj => (hv j).trans (dif_neg (by omega))]
    exact Finset.sum_congr rfl fun i _ => (hv _).trans (dif_pos i.isLt)
  rw [← e]
  pointwise [means]

theorem centred_at (hv : ∀ l : Fin 128, v (ix2 n l) = if h : l.val < 32 then Z ⟨l.val, h⟩ else 0) (l : Fin 128) :
    centred v (ix2 n l) = if h : l.val < 32 then Z ⟨l.val, h⟩ - mean32 Z else 0 := by
  pointwise [centred]
  rw [means_at v n Z hv, masks_at, hv]
  by_cases h : l.val < 32
  · rw [dif_pos h, dif_pos h, if_pos h, mul_one]
  · rw [dif_neg h, dif_neg h, if_neg h, mul_zero]

theorem layered_at (g t : Vec Ideal S1x128 .f32) (hv : ∀ l : Fin 128, v (ix2 n l) = if h : l.val < 32 then Z ⟨l.val, h⟩ else 0) (l : Fin 128) (hl : l.val < 32) :
    layered v g t (ix2 n l) = norm32 Z (fun k => g (ix2 0 ⟨k.val, by omega⟩)) (fun k => t (ix2 0 ⟨k.val, by omega⟩)) ⟨l.val, hl⟩ := by
  have hq : means (mulf (centred v) (centred v)) (ix2 n 0) = mean32 fun k => (Z k - mean32 Z) * (Z k - mean32 Z) := by
    refine means_at _ n (fun k => (Z k - mean32 Z) * (Z k - mean32 Z)) fun l => ?_
    pointwise []
    rw [centred_at v n Z hv]
    by_cases h : l.val < 32
    · rw [dif_pos h, dif_pos h]
    · rw [dif_neg h, dif_neg h, mul_zero]
  pointwise [layered]
  rw [hq, centred_at v n Z hv, dif_pos hl]
  rfl

theorem over_at (T : ℕ → EReal) (hv : ∀ l : Fin 128, v (ix2 n l) = if l.val < 32 then T l.val else 0) (l : Fin 128) : over v (ix2 n l) = T (l.val % 32) := by
  pointwise [over]
  rw [hv, hv, hv, hv]
  show (if l.val < 32 then T l.val else 0) + (if (l.val + 128 - 32) % 128 < 32 then T ((l.val + 128 - 32) % 128) else 0)
    + (if (l.val + 128 - 64) % 128 < 32 then T ((l.val + 128 - 64) % 128) else 0) + (if (l.val + 128 - 96) % 128 < 32 then T ((l.val + 128 - 96) % 128) else 0) = _
  by_cases h0 : l.val < 32
  · rw [if_pos h0, if_neg (by omega), if_neg (by omega), if_neg (by omega), add_zero, add_zero, add_zero, Nat.mod_eq_of_lt h0]
  by_cases h1 : l.val < 64
  · rw [if_neg h0, if_pos (by omega), if_neg (by omega), if_neg (by omega), add_zero, add_zero, zero_add, show (l.val + 128 - 32) % 128 = l.val % 32 by omega]
  by_cases h2 : l.val < 96
  · rw [if_neg h0, if_neg (by omega), if_pos (by omega), if_neg (by omega), add_zero, zero_add, zero_add, show (l.val + 128 - 64) % 128 = l.val % 32 by omega]
  · rw [if_neg h0, if_neg (by omega), if_neg (by omega), if_pos (by omega), add_zero, zero_add, zero_add, show (l.val + 128 - 96) % 128 = l.val % 32 by omega]
end At

end Cert.Proj
-- ==== Proof.ProjHost.lean ====
/-
The packed weights and the laid-out tables the input projection's body is given.
-/
module
public import proofs.«01_k».proof.Proof.MergeRows
public import proofs.«01_k».proof.Proof.Gen.Kernel4Ideal.Frame
public import Idealize.ShloMosaic.Lib.Pipeline.ValueKit
@[expose] public section
set_option maxRecDepth 16384
noncomputable section
namespace Cert.Proj
open Idealize.ShloMosaic Idealize.ShloMosaic.TcCoe Idealize.SL.Sem Cert.Kernel4Ideal Cert.Kernel4Ideal.Gen
open Idealize.ShloMosaic.Pipeline (Dat Cfg Window)

section Parts
variable {F : FTy → Type} [FloatOps F] (w : FVec F S1024x7080 .f32)

/-- The weights' column blocks, in the order they are packed. -/
abbrev blocks : List ((s : Shape) × (s.Idx → F .f32)) :=
  have q0 : FVec F S1024x512 .f32 := extractStridedSlice S1024x512 ![0, 0] w slices_S1024x7080_S1024x512_0_0
  have q1 : FVec F S1024x64 .f32 := extractStridedSlice S1024x64 ![0, 512] w slices_S1024x7080_S1024x64_0_512
  have q2 : FVec F S1024x64 .f32 := extractStridedSlice S1024x64 ![0, 576] w slices_S1024x7080_S1024x64_0_576
  [⟨S1024x512, q0⟩, ⟨S1024x64, q1⟩, ⟨S1024x64, q1⟩, ⟨S1024x64, q2⟩, ⟨S1024x64, q2⟩,
    ⟨S1024x256, extractStridedSlice S1024x256 ![0, 640] w slices_S1024x7080_S1024x256_0_640⟩,
    ⟨S1024x32, extractStridedSlice S1024x32 ![0, 896] w slices_S1024x7080_S1024x32_0_896⟩,
    ⟨S1024x96, broadcastInDim S1024x96 ![] bcast_S_S1024x96 (constant S_ .f32 0x00000000#32)⟩,
    ⟨S1024x8, extractStridedSlice S1024x8 ![0, 928] w slices_S1024x7080_S1024x8_0_928⟩,
    ⟨S1024x120, broadcastInDim S1024x120 ![] bcast_S_S1024x120 (constant S_ .f32 0x00000000#32)⟩,
    ⟨S1024x512, extractStridedSlice S1024x512 ![0, 936] w slices_S1024x7080_S1024x512_0_936⟩,
    ⟨S1024x512, extractStridedSlice S1024x512 ![0, 1448] w slices_S1024x7080_S1024x512_0_1448⟩,
    ⟨S1024x512, extractStridedSlice S1024x512 ![0, 1960] w slices_S1024x7080_S1024x512_0_1960⟩,
    ⟨S1024x512, extractStridedSlice S1024x512 ![0, 2472] w slices_S1024x7080_S1024x512_0_2472⟩,
    ⟨S1024x512, extractStridedSlice S1024x512 ![0, 2984] w slices_S1024x7080_S1024x512_0_2984⟩,
    ⟨S1024x512, extractStridedSlice S1024x512 ![0, 3496] w slices_S1024x7080_S1024x512_0_3496⟩]

/-- The packed weights. -/
def packed : FVec F S1024x4352 .bf16 :=
  truncf .bf16 (concatenate S1024x4352 1 (blocks w) concatenates_S1024x512_S1024x64_S1024x64_S1024x64_S1024x64_S1024x256_S1024x32_S1024x96_S1024x8_S1024x120_S1024x512_S1024x512_S1024x512_S1024x512_S1024x512_S1024x512_S1024x4352_d1 : FVec F S1024x4352 .f32) bitsLt_bf16_f32

/-- Two half-heads of 32 lanes, side by side and over again to the width of a block; and two of 16. -/
def lanes64 (a b : FVec F S2048x32 .f32) : FVec F S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1) shapeCasts_S2048x64_S1x2048x1x64)) shapeCasts_S1x2048x2x64_S2048x128
def lanes32 (a b : FVec F S2048x16 .f32) : FVec F S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x16, a⟩, ⟨S2048x16, b⟩] concatenates_S2048x16_S2048x16_S2048x32_d1) shapeCasts_S2048x32_S1x2048x1x32)) shapeCasts_S1x2048x4x32_S2048x128
end Parts

theorem lanes64_at (a b : FVec Ideal S2048x32 .f32) (n : Fin 2048) (l : Fin 128) :
    lanes64 a b (ix2 n l) = if l.val % 64 < 32 then a (ix2 n (Fin.ofNat 32 (l.val % 32))) else b (ix2 n (Fin.ofNat 32 (l.val % 32))) := by
  refine (shapeCast_apply _ _ _ (ix4 0 n ⟨l.val / 64, by omega⟩ ⟨l.val % 64, by omega⟩ : S1x2048x2x64.Idx) (by
    rw [Shape.rowMajor_val_four, Shape.rowMajor_val_two]; show ((0 * 2048 + n.val) * 2 + l.val / 64) * 64 + l.val % 64 = n.val * 128 + l.val; omega)).trans ?_
  refine (broadcastInDim_apply _ _ _ _ (ix4 0 n 0 ⟨l.val % 64, by omega⟩ : S1x2048x1x64.Idx) fun a => ?_).trans ?_
  · match a with
    | ⟨0, _⟩ => rfl
    | ⟨1, _⟩ => rfl
    | ⟨2, _⟩ => rfl
    | ⟨3, _⟩ => rfl
  refine (shapeCast_apply _ _ _ (ix2 n ⟨l.val % 64, by omega⟩ : S2048x64.Idx) (by
    rw [Shape.rowMajor_val_four, Shape.rowMajor_val_two]; show n.val * 64 + l.val % 64 = ((0 * 2048 + n.val) * 1 + 0) * 64 + l.val % 64; omega)).trans ?_
  pointwise []
  by_cases h : l.val % 64 < 32
  · rw [dif_pos h, if_pos h]
    exact congrArg (fun k => a (ix2 n k)) (Fin.ext (by show l.val % 64 = l.val % 32 % 32; omega))
  · rw [dif_neg h, if_neg h]
    exact congrArg (fun k => b (ix2 n k)) (Fin.ext (by show l.val % 64 - 32 = l.val % 32 % 32; omega))

theorem lanes32_at (a b : FVec Ideal S2048x16 .f32) (n : Fin 2048) (l : Fin 128) :
    lanes32 a b (ix2 n l) = if l.val % 32 < 16 then a (ix2 n (Fin.ofNat 16 (l.val % 16))) else b (ix2 n (Fin.ofNat 16 (l.val % 16))) := by
  refine (shapeCast_apply _ _ _ (ix4 0 n ⟨l.val / 32, by omega⟩ ⟨l.val % 32, by omega⟩ : S1x2048x4x32.Idx) (by
    rw [Shape.rowMajor_val_four, Shape.rowMajor_val_two]; show ((0 * 2048 + n.val) * 4 + l.val / 32) * 32 + l.val % 32 = n.val * 128 + l.val; omega)).trans ?_
  refine (broadcastInDim_apply _ _ _ _ (ix4 0 n 0 ⟨l.val % 32, by omega⟩ : S1x2048x1x32.Idx) fun a => ?_).trans ?_
  · match a with
    | ⟨0, _⟩ => rfl
    | ⟨1, _⟩ => rfl
    | ⟨2, _⟩ => rfl
    | ⟨3, _⟩ => rfl
  refine (shapeCast_apply _ _ _ (ix2 n ⟨l.val % 32, by omega⟩ : S2048x32.Idx) (by
    rw [Shape.rowMajor_val_four, Shape.rowMajor_val_two]; show n.val * 32 + l.val % 32 = ((0 * 2048 + n.val) * 1 + 0) * 32 + l.val % 32; omega)).trans ?_
  pointwise []
  by_cases h : l.val % 32 < 16
  · rw [dif_pos h, if_pos h]
    exact congrArg (fun k => a (ix2 n k)) (Fin.ext (by show l.val % 32 = l.val % 16 % 16; omega))
  · rw [dif_neg h, if_neg h]
    exact congrArg (fun k => b (ix2 n k)) (Fin.ext (by show l.val % 32 - 16 = l.val % 16 % 16; omega))

/-! The packed weights' columns. -/

section Columns
variable (w : FVec Ideal S1024x7080 .f32) (k : Fin 1024)

/-- The blocks' shapes. -/
abbrev widths : List Shape := [S1024x512, S1024x64, S1024x64, S1024x64, S1024x64, S1024x256, S1024x32, S1024x96, S1024x8, S1024x120,
  S1024x512, S1024x512, S1024x512, S1024x512, S1024x512, S1024x512]

/-- A packed column is its block's, where `pre` columns are packed before the block. -/
theorem block_at (i pre n : ℕ) (hi : i < 16) (x : (⟨2, ![1024, n]⟩ : Shape).Idx → EReal) (hx : (blocks w)[i]'hi = ⟨⟨2, ![1024, n]⟩, x⟩)
    (hpre : ((widths.take i).map fun s => if h : s.rank = S1024x4352.rank then s.size ((1 : Fin S1024x4352.rank).cast h.symm) else 0).sum = pre)
    (e : Fin n) (c : Fin 4352) (h : pre + e.val = c.val) : packed w (ix2 k c) = x (ix2 k e) := by
  have hm : ((blocks w).take i).map (·.1) = widths.take i := List.map_take
  refine concatenate_apply_piece (t := S1024x4352) 1 (blocks w) concatenates_S1024x512_S1024x64_S1024x64_S1024x64_S1024x64_S1024x256_S1024x32_S1024x96_S1024x8_S1024x120_S1024x512_S1024x512_S1024x512_S1024x512_S1024x512_S1024x512_S1024x4352_d1 (ix2 k c) i hi ⟨2, ![1024, n]⟩ x hx rfl pre (by rw [hm]; exact hpre) (ix2 k e) (fun b hb => ?_) h
  match b with
  | ⟨0, _⟩ => rfl
  | ⟨1, _⟩ => exact absurd rfl hb

theorem src_at (n o : ℕ) (h : S1024x7080.Slices ![0, o] ⟨2, ![1024, n]⟩) (e : Fin n) {j : ℕ} (hj : o + e.val = j) (hn : j < 7080) :
    extractStridedSlice ⟨2, ![1024, n]⟩ ![0, o] w h (ix2 k e) = w (ix2 k (Fin.ofNat 7080 j)) := by
  refine extractStridedSlice_apply _ _ _ _ _ fun a => ?_
  match a with
  | ⟨0, _⟩ => exact (Nat.zero_add _).symm
  | ⟨1, _⟩ => show j % 7080 = o + e.val; omega

theorem qa_col (c : Fin 4352) (e : Fin 512) (h : 0 + e.val = c.val) : packed w (ix2 k c) = w (ix2 k (Fin.ofNat 7080 (0 + e.val))) :=
  (block_at w k 0 0 512 (by decide) _ rfl (by decide +kernel) e c h).trans (src_at w k 512 0 _ e rfl (by omega))
theorem ka_col (c : Fin 4352) (e : Fin 128) (h : 512 + e.val = c.val) : packed w (ix2 k c) = w (ix2 k (Fin.ofNat 7080 (512 + e.val % 64))) := by
  by_cases q : e.val < 64
  · exact (block_at w k 1 512 64 (by decide) _ rfl (by decide +kernel) ⟨e.val, q⟩ c h).trans (src_at w k 64 512 _ _ (by dsimp only; omega) (by omega))
  · exact (block_at w k 2 576 64 (by decide) _ rfl (by decide +kernel) ⟨e.val - 64, by omega⟩ c (by dsimp only; omega)).trans (src_at w k 64 512 _ _ (by dsimp only; omega) (by omega))
theorem va_col (c : Fin 4352) (e : Fin 128) (h : 640 + e.val = c.val) : packed w (ix2 k c) = w (ix2 k (Fin.ofNat 7080 (576 + e.val % 64))) := by
  by_cases q : e.val < 64
  · exact (block_at w k 3 640 64 (by decide) _ rfl (by decide +kernel) ⟨e.val, q⟩ c h).trans (src_at w k 64 576 _ _ (by dsimp only; omega) (by omega))
  · exact (block_at w k 4 704 64 (by decide) _ rfl (by decide +kernel) ⟨e.val - 64, by omega⟩ c (by dsimp only; omega)).trans (src_at w k 64 576 _ _ (by dsimp only; omega) (by omega))
theorem qi_col (c : Fin 4352) (e : Fin 256) (h : 768 + e.val = c.val) : packed w (ix2 k c) = w (ix2 k (Fin.ofNat 7080 (640 + e.val))) :=
  (block_at w k 5 768 256 (by decide) _ rfl (by decide +kernel) e c h).trans (src_at w k 256 640 _ e rfl (by omega))
theorem ki_col (c : Fin 4352) (e : Fin 128) (h : 1024 + e.val = c.val) : packed w (ix2 k c) = if e.val < 32 then w (ix2 k (Fin.ofNat 7080 (896 + e.val))) else 0 := by
  by_cases q : e.val < 32
  · rw [if_pos q]
    exact (block_at w k 6 1024 32 (by decide) _ rfl (by decide +kernel) ⟨e.val, q⟩ c h).trans (src_at w k 32 896 _ _ rfl (by omega))
  · rw [if_neg q]
    refine (block_at w k 7 1056 96 (by decide) _ rfl (by decide +kernel) ⟨e.val - 32, by omega⟩ c (by dsimp only; omega)).trans ?_
    pointwise []
theorem wi_col (c : Fin 4352) (e : Fin 128) (h : 1152 + e.val = c.val) : packed w (ix2 k c) = if e.val < 8 then w (ix2 k (Fin.ofNat 7080 (928 + e.val))) else 0 := by
  by_cases q : e.val < 8
  · rw [if_pos q]
    exact (block_at w k 8 1152 8 (by decide) _ rfl (by decide +kernel) ⟨e.val, q⟩ c h).trans (src_at w k 8 928 _ _ rfl (by omega))
  · rw [if_neg q]
    refine (block_at w k 9 1160 120 (by decide) _ rfl (by decide +kernel) ⟨e.val - 8, by omega⟩ c (by dsimp only; omega)).trans ?_
    pointwise []
theorem qb_col (c : Fin 4352) (e : Fin 512) (h : 1280 + e.val = c.val) : packed w (ix2 k c) = w (ix2 k (Fin.ofNat 7080 (936 + e.val))) :=
  (block_at w k 10 1280 512 (by decide) _ rfl (by decide +kernel) e c h).trans (src_at w k 512 936 _ e rfl (by omega))
theorem kb_col (c : Fin 4352) (e : Fin 512) (h : 1792 + e.val = c.val) : packed w (ix2 k c) = w (ix2 k (Fin.ofNat 7080 (1448 + e.val))) :=
  (block_at w k 11 1792 512 (by decide) _ rfl (by decide +kernel) e c h).trans (src_at w k 512 1448 _ e rfl (by omega))
theorem vb_col (c : Fin 4352) (e : Fin 512) (h : 2304 + e.val = c.val) : packed w (ix2 k c) = w (ix2 k (Fin.ofNat 7080 (1960 + e.val))) :=
  (block_at w k 12 2304 512 (by decide) _ rfl (by decide +kernel) e c h).trans (src_at w k 512 1960 _ e rfl (by omega))
theorem qc_col (c : Fin 4352) (e : Fin 512) (h : 2816 + e.val = c.val) : packed w (ix2 k c) = w (ix2 k (Fin.ofNat 7080 (2472 + e.val))) :=
  (block_at w k 13 2816 512 (by decide) _ rfl (by decide +kernel) e c h).trans (src_at w k 512 2472 _ e rfl (by omega))
theorem kc_col (c : Fin 4352) (e : Fin 512) (h : 3328 + e.val = c.val) : packed w (ix2 k c) = w (ix2 k (Fin.ofNat 7080 (2984 + e.val))) :=
  (block_at w k 14 3328 512 (by decide) _ rfl (by decide +kernel) e c h).trans (src_at w k 512 2984 _ e rfl (by omega))
theorem vc_col (c : Fin 4352) (e : Fin 512) (h : 3840 + e.val = c.val) : packed w (ix2 k c) = w (ix2 k (Fin.ofNat 7080 (3496 + e.val))) :=
  (block_at w k 15 3840 512 (by decide) _ rfl (by decide +kernel) e c h).trans (src_at w k 512 3496 _ e rfl (by omega))
end Columns

end Cert.Proj
-- ==== Proof.ProjBlock.lean ====
/-
Each block the input projection's body leaves, at an entry.
-/
module
public import proofs.«01_k».proof.Proof.ProjMark
public import proofs.«01_k».proof.Proof.ProjHost
@[expose] public section
set_option maxRecDepth 16384
noncomputable section
namespace Cert.Proj
open Idealize.ShloMosaic Idealize.SL.Sem Cert.Kernel4Ideal Cert.Kernel4Ideal.Gen

theorem times512_at (u : FVec Ideal S512x1024 .bf16) (w : Vec Ideal S1024x512 .bf16) (n : Fin 512) (j : Fin 512) :
    times512 u w (ix2 n j) = ∑ k : Fin 1024, u (ix2 n k) * w (ix2 k j) := by
  pointwise [times512]
theorem times256_at (u : FVec Ideal S512x1024 .bf16) (w : Vec Ideal S1024x256 .bf16) (n : Fin 512) (j : Fin 256) :
    times256 u w (ix2 n j) = ∑ k : Fin 1024, u (ix2 n k) * w (ix2 k j) := by
  pointwise [times256]
theorem times128_at (u : FVec Ideal S512x1024 .bf16) (w : Vec Ideal S1024x128 .bf16) (n : Fin 512) (j : Fin 128) :
    times128 u w (ix2 n j) = ∑ k : Fin 1024, u (ix2 n k) * w (ix2 k j) := by
  pointwise [times128]

/-- A row of the block, modulated. -/
abbrev rowAt (x0 : Vec Ideal S1x512x1024 .f32) (x1 : Vec Ideal S1x6x1024 .f32) (n : Fin 512) : Fin 1024 → EReal :=
  Cert.Merge.modRow (fun k => x0 (ix3 0 n k)) (fun k => x1 (ix3 0 0 k)) (fun k => x1 (ix3 0 1 k))

theorem modulated_at (v0 : Vec Ideal S1x512x1024 .f32) (v2 v4 : Vec Ideal S1x1x1024 .f32) (n : Fin 512) (k : Fin 1024) :
    k0_pay2 v0 v2 v4 (ix2 n k) = Cert.Merge.modRow (fun k => v0 (ix3 0 n k)) (fun k => v2 (ix3 0 0 k)) (fun k => v4 (ix3 0 0 k)) k := by
  pointwise [k0_pay2, Cert.Merge.modRow]

theorem rows_at (x0 : Vec Ideal S1x512x1024 .f32) (x1 : Vec Ideal S1x6x1024 .f32) (n : Fin 512) (k : Fin 1024) : rows x0 x1 (ix2 n k) = rowAt x0 x1 n k := by
  have h3 : (![0, 0, 0] : Fin 3 → ℕ) = fun _ => 0 := by decide
  have e0 : View.ld x0 r0_0 = x0 := View.ld_unit_zero h3 _ x0
  have e1 (k : Fin 1024) : (View.ld x1 r0_1 : Vec Ideal S1x1x1024 .f32) (ix3 0 0 k) = x1 (ix3 0 0 k) :=
    congrArg x1 (funext fun a => Fin.ext (match a with
      | ⟨0, _⟩ => rfl
      | ⟨1, _⟩ => rfl
      | ⟨2, _⟩ => (by show 0 + 1 * k.val = k.val; omega)))
  have e2 (k : Fin 1024) : (View.ld x1 r0_2 : Vec Ideal S1x1x1024 .f32) (ix3 0 0 k) = x1 (ix3 0 1 k) :=
    congrArg x1 (funext fun a => Fin.ext (match a with
      | ⟨0, _⟩ => rfl
      | ⟨1, _⟩ => rfl
      | ⟨2, _⟩ => (by show 0 + 1 * k.val = k.val; omega)))
  refine (modulated_at _ _ _ n k).trans ?_
  rw [e0, funext e1, funext e2]

section Columns
variable (x0 : Vec Ideal S1x512x1024 .f32) (x1 : Vec Ideal S1x6x1024 .f32) (w : FVec Ideal S1024x7080 .f32) (n : Fin 512)

/-- The packed weights read from column `o` on. -/
theorem from_at (N o : ℕ) (inb) (k : Fin 1024) (e : Fin N) (h : o + e.val < 4352) :
    (Rect.unit (s := S1024x4352) ![0, o] ![1024, N] inb).emb (ix2 k e : (⟨2, ![1024, N]⟩ : Shape).Idx) = (ix2 k ⟨o + e.val, h⟩ : S1024x4352.Idx) :=
  funext fun a => Fin.ext (match a with
    | ⟨0, _⟩ => (by show 0 + 1 * k.val = k.val; omega)
    | ⟨1, _⟩ => (by show o + 1 * e.val = o + e.val; omega))

theorem seg512 (o s : ℕ) (inb) (ho : o + 512 ≤ 4352) (hs : ∀ k (c : Fin 4352) (e : Fin 512), o + e.val = c.val → packed w (ix2 k c) = w (ix2 k (Fin.ofNat 7080 (s + e.val)))) (e : Fin 512) :
    times512 (rows x0 x1) (View.ld (packed w : Vec Ideal S1024x4352 .bf16) (Rect.unit (s := S1024x4352) ![0, o] S1024x512.size inb)) (ix2 n e) = colOf (rowAt x0 x1 n) (weightsOf w) (s + e.val) := by
  rw [times512_at, colOf]
  refine Finset.sum_congr rfl fun k _ => ?_
  rw [rows_at]
  exact congrArg (rowAt x0 x1 n k * ·) ((congrArg (packed w) (from_at 512 o inb k e (by omega))).trans (hs k _ e rfl))
theorem seg256 (o s : ℕ) (inb) (ho : o + 256 ≤ 4352) (hs : ∀ k (c : Fin 4352) (e : Fin 256), o + e.val = c.val → packed w (ix2 k c) = w (ix2 k (Fin.ofNat 7080 (s + e.val)))) (e : Fin 256) :
    times256 (rows x0 x1) (View.ld (packed w : Vec Ideal S1024x4352 .bf16) (Rect.unit (s := S1024x4352) ![0, o] S1024x256.size inb)) (ix2 n e) = colOf (rowAt x0 x1 n) (weightsOf w) (s + e.val) := by
  rw [times256_at, colOf]
  refine Finset.sum_congr rfl fun k _ => ?_
  rw [rows_at]
  exact congrArg (rowAt x0 x1 n k * ·) ((congrArg (packed w) (from_at 256 o inb k e (by omega))).trans (hs k _ e rfl))
theorem seg128 (o s : ℕ) (inb) (ho : o + 128 ≤ 4352) (e : Fin 128) (hs : ∀ k (c : Fin 4352), o + e.val = c.val → packed w (ix2 k c) = w (ix2 k (Fin.ofNat 7080 s))) :
    times128 (rows x0 x1) (View.ld (packed w : Vec Ideal S1024x4352 .bf16) (Rect.unit (s := S1024x4352) ![0, o] S1024x128.size inb)) (ix2 n e) = colOf (rowAt x0 x1 n) (weightsOf w) s := by
  rw [times128_at, colOf]
  refine Finset.sum_congr rfl fun k _ => ?_
  rw [rows_at]
  exact congrArg (rowAt x0 x1 n k * ·) ((congrArg (packed w) (from_at 128 o inb k e (by omega))).trans (hs k _ rfl))
theorem seg128_zero (o : ℕ) (inb) (ho : o + 128 ≤ 4352) (e : Fin 128) (hs : ∀ k (c : Fin 4352), o + e.val = c.val → packed w (ix2 k c) = 0) :
    times128 (rows x0 x1) (View.ld (packed w : Vec Ideal S1024x4352 .bf16) (Rect.unit (s := S1024x4352) ![0, o] S1024x128.size inb)) (ix2 n e) = 0 := by
  rw [times128_at]
  refine Finset.sum_eq_zero fun k _ => ?_
  exact (congrArg (rows x0 x1 (ix2 n k) * ·) ((congrArg (packed w) (from_at 128 o inb k e (by omega))).trans (hs k _ rfl))).trans (mul_zero _)
end Columns

theorem one_bits : Ideal.ofBits .f32 0x3F800000#32 = 1 := by
  refine Eq.trans (b := ((1 : ℝ) : EReal)) ?_ rfl
  simp [Ideal.ofBits, Ideal.ieee, -EReal.coe_mul, -EReal.coe_neg]; norm_num

theorem table_at (x : Vec Ideal S512x128 .f32) : k0_pay3 (View.ld x r0_3) = (x : FVec Ideal S512x128 .f32) ∧ k0_pay4 (View.ld x r0_3) = (x : FVec Ideal S512x128 .f32)
    ∧ k0_pay5 (View.ld x r0_3) = (x : FVec Ideal S512x128 .f32) ∧ k0_pay6 (View.ld x r0_3) = (x : FVec Ideal S512x128 .f32) := by
  have h2 : (![0, 0] : Fin 2 → ℕ) = fun _ => 0 := by decide
  have e : View.ld x r0_3 = x := View.ld_unit_zero h2 _ x
  have key : (shapeCast S512x128 (x : FVec Ideal S512x128 .f32) shapeCasts_S512x128_S512x128 : FVec Ideal S512x128 .f32) = x := shapeCast_self _ _
  rw [e]
  exact ⟨key, key, key, key⟩

section Blocks
variable (x0 : Vec Ideal S1x512x1024 .f32) (x1 : Vec Ideal S1x6x1024 .f32) (w : FVec Ideal S1024x7080 .f32) (x3 x4 x5 x6 : Vec Ideal S512x128 .f32) (x7 x8 : Vec Ideal S1x128 .f32)
  (C S c s : Fin 512 → ℕ → EReal)
  (hc : ∀ n, ∀ l : Fin 128, x3 (ix2 n l) = C n (l.val % 32)) (hs : ∀ n, ∀ l : Fin 128, x4 (ix2 n l) = if l.val % 64 < 32 then -S n (l.val % 32) else S n (l.val % 32))
  (kc : ∀ n, ∀ l : Fin 128, x5 (ix2 n l) = c n (l.val % 16)) (ks : ∀ n, ∀ l : Fin 128, x6 (ix2 n l) = if l.val % 32 < 16 then -s n (l.val % 16) else s n (l.val % 16))
  (n : Fin 512)

section Wide
include hc hs

theorem qa_at (j : Fin 512) : out0_9 x0 x1 (packed w) x3 x4 x5 x6 x7 x8 (ix3 0 n j) = queryRow (rowAt x0 x1 n) (weightsOf w) (C n) (S n) 0 j.val := by
  rw [out_qa, (table_at x3).1, (table_at x4).2.1]
  exact four_at (fun n e => colOf (rowAt x0 x1 n) (weightsOf w) (0 + e)) C S _ x3 x4 hc hs _ (fun n => seg512 x0 x1 w n 0 0 _ (by decide) (qa_col w)) n j
theorem qb_at (j : Fin 512) : out0_15 x0 x1 (packed w) x3 x4 x5 x6 x7 x8 (ix3 0 n j) = queryRow (rowAt x0 x1 n) (weightsOf w) (C n) (S n) 936 j.val := by
  rw [out_qb, (table_at x3).1, (table_at x4).2.1]
  exact four_at (fun n e => colOf (rowAt x0 x1 n) (weightsOf w) (936 + e)) C S _ x3 x4 hc hs _ (fun n => seg512 x0 x1 w n 1280 936 _ (by decide) (qb_col w)) n j
theorem qc_at (j : Fin 512) : out0_18 x0 x1 (packed w) x3 x4 x5 x6 x7 x8 (ix3 0 n j) = queryRow (rowAt x0 x1 n) (weightsOf w) (C n) (S n) 2472 j.val := by
  rw [out_qc, (table_at x3).1, (table_at x4).2.1]
  exact four_at (fun n e => colOf (rowAt x0 x1 n) (weightsOf w) (2472 + e)) C S _ x3 x4 hc hs _ (fun n => seg512 x0 x1 w n 2816 2472 _ (by decide) (qc_col w)) n j
theorem kb_at (j : Fin 512) : out0_16 x0 x1 (packed w) x3 x4 x5 x6 x7 x8 (ix3 0 n j) = keyRow (rowAt x0 x1 n) (weightsOf w) (C n) (S n) 1448 j.val := by
  rw [out_kb, (table_at x3).1, (table_at x4).2.1]
  refine (four_at (fun n e => colOf (rowAt x0 x1 n) (weightsOf w) (1448 + e)) C S _ x3 x4 hc hs _ (fun n => seg512 x0 x1 w n 1792 1448 _ (by decide) (kb_col w)) n j).trans ?_
  rw [one_bits, mul_one, keyRow]
theorem kc_at (j : Fin 512) : out0_19 x0 x1 (packed w) x3 x4 x5 x6 x7 x8 (ix3 0 n j) = keyRow (rowAt x0 x1 n) (weightsOf w) (C n) (S n) 2984 j.val := by
  rw [out_kc, (table_at x3).1, (table_at x4).2.1]
  refine (four_at (fun n e => colOf (rowAt x0 x1 n) (weightsOf w) (2984 + e)) C S _ x3 x4 hc hs _ (fun n => seg512 x0 x1 w n 3328 2984 _ (by decide) (kc_col w)) n j).trans ?_
  rw [one_bits, mul_one, keyRow]
theorem ka_at (j : Fin 128) : out0_10 x0 x1 (packed w) x3 x4 x5 x6 x7 x8 (ix3 0 n j) = keysRow (rowAt x0 x1 n) (weightsOf w) (C n) (S n) j.val := by
  have h3 : (![0, 0, 0] : Fin 3 → ℕ) = fun _ => 0 := by decide
  rw [out_ka, (table_at x3).1, (table_at x4).2.1, View.canon_cons_unit_zero h3, laid_at, one_bits, mul_one, keysRow]
  refine (spun64_turned n (fun e => colOf (rowAt x0 x1 n) (weightsOf w) (512 + e % 64)) (C n) (S n) _ x3 x4 0 rfl (fun l => ?_) (hc n) (hs n) j).trans ?_
  · rw [Nat.zero_add]
    exact seg128 x0 x1 w n 512 _ _ (by decide) l fun k c h => ka_col w k c l h
  · rw [Nat.zero_add]
    have e : j.val % 64 % 64 = j.val % 64 := Nat.mod_mod _ _
    have e2 : j.val % 64 % 32 = j.val % 32 := by omega
    unfold turned
    rw [show 2 * 32 = 64 from rfl, e, e2]
    dsimp only
    by_cases h : j.val % 64 < 32
    · rw [if_pos h, if_pos h, show (j.val + 32) % 64 = j.val % 64 + 32 by omega]
    · rw [if_neg h, if_neg h, show (j.val - 32) % 64 = j.val % 64 - 32 by omega]
end Wide

theorem va_at (j : Fin 128) : out0_11 x0 x1 (packed w) x3 x4 x5 x6 x7 x8 (ix3 0 n j) = valuesRow (rowAt x0 x1 n) (weightsOf w) j.val := by
  have h3 : (![0, 0, 0] : Fin 3 → ℕ) = fun _ => 0 := by decide
  rw [out_va, View.canon_cons_unit_zero h3, plain_at, valuesRow]
  exact seg128 x0 x1 w n 640 _ _ (by decide) j fun k c h => va_col w k c j h

theorem wide_at (v : FVec Ideal S512x512 .bf16) (n j : Fin 512) : k0_pay1 v (ix3 0 n j) = v (ix2 n j) := by
  pointwise [k0_pay1]
theorem vb_at (j : Fin 512) : out0_17 x0 x1 (packed w) x3 x4 x5 x6 x7 x8 (ix3 0 n j) = colOf (rowAt x0 x1 n) (weightsOf w) (1960 + j.val) := by
  have h3 : (![0, 0, 0] : Fin 3 → ℕ) = fun _ => 0 := by decide
  unfold out0_17
  rw [View.canon_cons_unit_zero h3]
  exact (wide_at _ n j).trans (seg512 x0 x1 w n 2304 1960 _ (by decide) (vb_col w) j)
theorem vc_at (j : Fin 512) : out0_20 x0 x1 (packed w) x3 x4 x5 x6 x7 x8 (ix3 0 n j) = colOf (rowAt x0 x1 n) (weightsOf w) (3496 + j.val) := by
  have h3 : (![0, 0, 0] : Fin 3 → ℕ) = fun _ => 0 := by decide
  unfold out0_20
  rw [View.canon_cons_unit_zero h3]
  exact (wide_at _ n j).trans (seg512 x0 x1 w n 3840 3496 _ (by decide) (vc_col w) j)

theorem scaled_at (u : FVec Ideal S512x1024 .bf16) (v : Vec Ideal S1024x128 .bf16) (j : Fin 128) :
    k0_pay32 u v (ix3 0 n j) = times128 u v (ix2 n j) * Ideal.ofBits .f32 0x3D800000#32 := by
  rw [times128_at]
  pointwise [k0_pay32]
theorem wi_at (j : Fin 128) : out0_14 x0 x1 (packed w) x3 x4 x5 x6 x7 x8 (ix3 0 n j) = weightRow (rowAt x0 x1 n) (weightsOf w) j.val := by
  have h3 : (![0, 0, 0] : Fin 3 → ℕ) = fun _ => 0 := by decide
  unfold out0_14
  rw [View.canon_cons_unit_zero h3]
  refine (scaled_at n _ _ j).trans ?_
  rw [weightRow]
  by_cases h : j.val < 8
  · rw [if_pos h]
    exact congrArg (· * _) (seg128 x0 x1 w n 1152 _ _ (by decide) j fun k c e => (wi_col w k c j e).trans (if_pos h))
  · rw [if_neg h]
    exact (congrArg (· * _) (seg128_zero x0 x1 w n 1152 _ (by decide) j fun k c e => (wi_col w k c j e).trans (if_neg h))).trans (zero_mul _)

section Slim
include kc ks

theorem qi_at (j : Fin 256) : out0_12 x0 x1 (packed w) x3 x4 x5 x6 x7 x8 (ix3 0 n j) = askRow (rowAt x0 x1 n) (weightsOf w) (c n) (s n) j.val := by
  rw [out_qi, (table_at x5).2.2.1, (table_at x6).2.2.2]
  exact two_at (fun n e => colOf (rowAt x0 x1 n) (weightsOf w) (640 + e)) c s x5 x6 kc ks _ (fun n => seg256 x0 x1 w n 768 640 _ (by decide) (qi_col w)) n j

theorem ki_at (j : Fin 128) : out0_13 x0 x1 (packed w) x3 x4 x5 x6 x7 x8 (ix3 0 n j) =
    markRow (rowAt x0 x1 n) (weightsOf w) (c n) (s n) (fun k => x7 (ix2 0 ⟨k.val, by omega⟩)) (fun k => x8 (ix2 0 ⟨k.val, by omega⟩)) j.val := by
  have h3 : (![0, 0, 0] : Fin 3 → ℕ) = fun _ => 0 := by decide
  have h2 : (![0, 0] : Fin 2 → ℕ) = fun _ => 0 := by decide
  have e7 : View.ld x7 r0_16 = x7 := View.ld_unit_zero h2 _ x7
  have e8 : View.ld x8 r0_16 = x8 := View.ld_unit_zero h2 _ x8
  rw [out_ki, (table_at x5).2.2.1, (table_at x6).2.2.2, View.canon_cons_unit_zero h3, plain_at, e7, e8, markRow]
  refine over_at _ n (fun l => turned 16 (fun j => norm32 (fun k => colOf (rowAt x0 x1 n) (weightsOf w) (896 + k.val)) (fun k => x7 (ix2 0 ⟨k.val, by omega⟩)) (fun k => x8 (ix2 0 ⟨k.val, by omega⟩)) (Fin.ofNat 32 j)) (c n) (s n) l) (fun l => ?_) j
  have hm (p q : FVec Ideal S512x128 .f32) : mulf p q (ix2 n l) = p (ix2 n l) * q (ix2 n l) := by pointwise []
  rw [hm, masks_at]
  by_cases h : l.val < 32
  · rw [if_pos h, if_pos h, mul_one]
    refine (spun32_turned n (fun j => norm32 (fun k => colOf (rowAt x0 x1 n) (weightsOf w) (896 + k.val)) (fun k => x7 (ix2 0 ⟨k.val, by omega⟩)) (fun k => x8 (ix2 0 ⟨k.val, by omega⟩)) (Fin.ofNat 32 j)) (c n) (s n) _ x5 x6 0 32 rfl rfl (fun l hl => ?_) (kc n) (ks n) l h).trans ?_
    · refine (layered_at _ n (fun k => colOf (rowAt x0 x1 n) (weightsOf w) (896 + k.val)) x7 x8 (fun l => ?_) l hl).trans ?_
      · by_cases q : l.val < 32
        · rw [dif_pos q]
          exact seg128 x0 x1 w n 1024 _ _ (by decide) l fun k c e => (ki_col w k c l e).trans (if_pos q)
        · rw [dif_neg q]
          exact seg128_zero x0 x1 w n 1024 _ (by decide) l fun k c e => (ki_col w k c l e).trans (if_neg q)
      · exact congrArg _ (Fin.ext (by show l.val = (0 + l.val) % 32; omega))
    · rw [Nat.zero_add]
  · rw [if_neg h, if_neg h, mul_zero]
end Slim
end Blocks

end Cert.Proj
-- ==== Proof.ProjFound.lean ====
/-
What the input projection's region finds in the buffers its blocks are read from.
-/
module
public import proofs.«01_k».proof.Proof.ProjHost
@[expose] public section
set_option maxRecDepth 16384
noncomputable section
namespace Cert.Proj
open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- An argument array, as the launch finds it. -/
abbrev given (b : Ref sig .tc) : Buf (Elt Ideal) ((c.tc : Thread nD τ).loc b) := m ((c.tc : Thread nD τ).loc b)

theorem packed_found : V m c main_v37 = (packed (F := Ideal) (given m c main_arg2 : FVec Ideal S1024x7080 .f32) : Vec Ideal S1024x4352 .bf16) := by
  show StableHlo.after hostOps0 (fun b => m (c, b)) (Proc.devRef .tc main_v37) = _
  unfold hostOps0
  after_results
  try rfl
theorem cos64_found : V m c main_v3 = (lanes64 (F := Ideal) (given m c main_arg3 : FVec Ideal S2048x32 .f32) (given m c main_arg3 : FVec Ideal S2048x32 .f32) : Vec Ideal S2048x128 .f32) := by
  show StableHlo.after hostOps0 (fun b => m (c, b)) (Proc.devRef .tc main_v3) = _
  unfold hostOps0
  after_results
  try rfl
theorem sin64_found : V m c main_v8 = (lanes64 (F := Ideal) (Host.negf (given m c main_arg4 : FVec Ideal S2048x32 .f32)) (given m c main_arg4 : FVec Ideal S2048x32 .f32) : Vec Ideal S2048x128 .f32) := by
  show StableHlo.after hostOps0 (fun b => m (c, b)) (Proc.devRef .tc main_v8) = _
  unfold hostOps0
  after_results
  try rfl
theorem cos32_found : V m c main_v12 = (lanes32 (F := Ideal) (given m c main_arg5 : FVec Ideal S2048x16 .f32) (given m c main_arg5 : FVec Ideal S2048x16 .f32) : Vec Ideal S2048x128 .f32) := by
  show StableHlo.after hostOps0 (fun b => m (c, b)) (Proc.devRef .tc main_v12) = _
  unfold hostOps0
  after_results
  try rfl
theorem sin32_found : V m c main_v17 = (lanes32 (F := Ideal) (Host.negf (given m c main_arg6 : FVec Ideal S2048x16 .f32)) (given m c main_arg6 : FVec Ideal S2048x16 .f32) : Vec Ideal S2048x128 .f32) := by
  show StableHlo.after hostOps0 (fun b => m (c, b)) (Proc.devRef .tc main_v17) = _
  unfold hostOps0
  after_results
  try rfl

end Cert.Proj
-- ==== Proof.ProjValue.lean ====
/-
The input projection's arrays are its reference's; and the programs run to their end and leave their arguments as they were.
-/
module
public import proofs.«01_k».proof.Defs
public import proofs.«01_k».proof.Proof.ProjBlock
public import proofs.«01_k».proof.Proof.ProjFound
public import proofs.«01_k».proof.Proof.Gen.Kernel4.Frame
public import Idealize.ShloMosaic.Lib.Pipeline.Covers
@[expose] public section
set_option maxRecDepth 16384
noncomputable section
namespace Cert.Proj
open Idealize.ShloMosaic Idealize.ShloMosaic.TcCoe Idealize.SL.Sem Cert.Kernel4Ideal Cert.Kernel4Ideal.Gen
open Idealize.ShloMosaic.Pipeline (Dat Cfg Window)

theorem kernel_kept : Cert.quiescent_Kernel4 (hKernel4 := Cert.Kernel4.Gen.facts) := fun m g _ => Cert.Kernel4.Gen.frame m g

theorem kernelIdeal_kept : Cert.quiescent_Kernel4Ideal (hKernel4Ideal := Cert.Kernel4Ideal.Gen.facts) := fun m g _ => Cert.Kernel4Ideal.Gen.frame m g

theorem reference_kept : Cert.quiescent_Reference4Ideal (hReference4Ideal := Cert.Reference4Ideal.Gen.facts) := fun m g _ =>
  (θ_run _ _ _).mono (fun _ h => ⟨fun c => (h c).2.2.2.2.2.2.2.2.2.2.2.2, Idealize.ShloMosaic.sem_eq_zero_of_no_sems (by decide) _⟩) (Cert.Reference4Ideal.Value.run m g)

/-! Which block of its array each window stands at: four row blocks to a batch entry. -/

theorem at_x (t : Fin cfg0.N) : (cfg0.win 0).index t = ![t.val / 4, t.val % 4, 0] :=
  funext ((by decide +kernel : ∀ t : Fin grid0.N, ∀ a, cc0_transform_0 (grid0.coords t) a = (![t.val / 4, t.val % 4, 0] : Fin 3 → ℕ) a) t)
theorem at_md (t : Fin cfg0.N) : (cfg0.win 1).index t = ![t.val / 4, 0, 0] :=
  funext ((by decide +kernel : ∀ t : Fin grid0.N, ∀ a, cc0_transform_1 (grid0.coords t) a = (![t.val / 4, 0, 0] : Fin 3 → ℕ) a) t)
theorem at_w (t : Fin cfg0.N) : (cfg0.win 2).index t = ![0, 0] := rfl
theorem at_cos (t : Fin cfg0.N) : (cfg0.win 3).index t = ![t.val % 4, 0] :=
  funext ((by decide +kernel : ∀ t : Fin grid0.N, ∀ a, cc0_transform_3 (grid0.coords t) a = (![t.val % 4, 0] : Fin 2 → ℕ) a) t)
theorem at_sin (t : Fin cfg0.N) : (cfg0.win 4).index t = ![t.val % 4, 0] := at_cos t
theorem at_slimcos (t : Fin cfg0.N) : (cfg0.win 5).index t = ![t.val % 4, 0] := at_cos t
theorem at_slimsin (t : Fin cfg0.N) : (cfg0.win 6).index t = ![t.val % 4, 0] := at_cos t
theorem at_g (t : Fin cfg0.N) : (cfg0.win 7).index t = ![0, 0] := rfl
theorem at_b (t : Fin cfg0.N) : (cfg0.win 8).index t = ![0, 0] := rfl

variable (m : (ℓ : Loc nD τ sig) → Buf (Elt Ideal) ℓ) (c : Dev nD)

/-! The arguments. -/
abbrev aX : FVec Ideal S8x2048x1024 .f32 := given m c main_arg0
abbrev aM : FVec Ideal S8x6x1024 .f32 := given m c main_arg1
abbrev aW : FVec Ideal S1024x7080 .f32 := given m c main_arg2
abbrev aC : FVec Ideal S2048x32 .f32 := given m c main_arg3
abbrev aS : FVec Ideal S2048x32 .f32 := given m c main_arg4
abbrev aI : FVec Ideal S2048x16 .f32 := given m c main_arg5
abbrev aJ : FVec Ideal S2048x16 .f32 := given m c main_arg6
abbrev aG : FVec Ideal S1x128 .f32 := given m c main_arg7
abbrev aB : FVec Ideal S1x128 .f32 := given m c main_arg8

variable (t : Fin cfg0.N)

/-- The batch entry of a grid point, and the position of row `n` of its block. -/
abbrev batchOf : Fin 8 := ⟨t.val / 4, by have h : t.val < 32 := t.isLt; omega⟩
abbrev placeOf (n : Fin 512) : Fin 2048 := ⟨512 * (t.val % 4) + n.val, by omega⟩

/-! What each window's block holds. -/

theorem x_at (n : Fin 512) (k : Fin 1024) : (iblk m c 0 t : Vec Ideal S1x512x1024 .f32) (ix3 0 n k) = aX m c (ix3 (batchOf t) (placeOf t n) k) := by
  refine (congrFun (V_main_arg0 m c) (((cfg0.win 0).blk t).view.emb (ix3 0 n k))).trans ?_
  blk_ext [at_x t]
theorem md_at (i : Fin 6) (k : Fin 1024) : (iblk m c 1 t : Vec Ideal S1x6x1024 .f32) (ix3 0 i k) = aM m c (ix3 (batchOf t) i k) := by
  refine (congrFun (V_main_arg1 m c) (((cfg0.win 1).blk t).view.emb (ix3 0 i k))).trans ?_
  blk_ext [at_md t]
theorem w_eq : (iblk m c 2 t : Vec Ideal S1024x4352 .bf16) = packed (aW m c) := by
  funext y
  obtain ⟨k, j, rfl⟩ : ∃ (k : Fin 1024) (j : Fin 4352), y = (ix2 k j : S1024x4352.Idx) := ⟨y 0, y 1, funext fun a => match a with
    | ⟨0, _⟩ => rfl
    | ⟨1, _⟩ => rfl⟩
  refine Eq.trans ?_ (congrFun (packed_found m c) (ix2 k j))
  show V m c main_v37 (((cfg0.win 2).blk t).view.emb (ix2 k j)) = _
  blk_ext [at_w t]
theorem g_at (l : Fin 128) : (iblk m c 7 t : Vec Ideal S1x128 .f32) (ix2 0 l) = aG m c (ix2 0 l) := by
  refine (congrFun (V_main_arg7 m c) (((cfg0.win 7).blk t).view.emb (ix2 0 l))).trans ?_
  blk_ext [at_g t]
theorem b_at (l : Fin 128) : (iblk m c 8 t : Vec Ideal S1x128 .f32) (ix2 0 l) = aB m c (ix2 0 l) := by
  refine (congrFun (V_main_arg8 m c) (((cfg0.win 8).blk t).view.emb (ix2 0 l))).trans ?_
  blk_ext [at_b t]

theorem cos_at (n : Fin 512) (l : Fin 128) : (iblk m c 3 t : Vec Ideal S512x128 .f32) (ix2 n l) = wideOf (placeOf t n) (aC m c) (l.val % 32) := by
  have e : (iblk m c 3 t : Vec Ideal S512x128 .f32) (ix2 n l) = (V m c main_v3 : Vec Ideal S2048x128 .f32) (ix2 (placeOf t n) l) := by
    show V m c main_v3 (((cfg0.win 3).blk t).view.emb (ix2 n l)) = _
    blk_ext [at_cos t]
  refine e.trans ((congrFun (cos64_found m c) (ix2 (placeOf t n) l)).trans ((lanes64_at _ _ _ l).trans ?_))
  exact ite_self _
theorem sin_at (n : Fin 512) (l : Fin 128) : (iblk m c 4 t : Vec Ideal S512x128 .f32) (ix2 n l) =
    if l.val % 64 < 32 then -wideOf (placeOf t n) (aS m c) (l.val % 32) else wideOf (placeOf t n) (aS m c) (l.val % 32) := by
  have e : (iblk m c 4 t : Vec Ideal S512x128 .f32) (ix2 n l) = (V m c main_v8 : Vec Ideal S2048x128 .f32) (ix2 (placeOf t n) l) := by
    show V m c main_v8 (((cfg0.win 4).blk t).view.emb (ix2 n l)) = _
    blk_ext [at_sin t]
  exact e.trans ((congrFun (sin64_found m c) (ix2 (placeOf t n) l)).trans (lanes64_at _ _ _ l))
theorem slimcos_at (n : Fin 512) (l : Fin 128) : (iblk m c 5 t : Vec Ideal S512x128 .f32) (ix2 n l) = slimOf (placeOf t n) (aI m c) (l.val % 16) := by
  have e : (iblk m c 5 t : Vec Ideal S512x128 .f32) (ix2 n l) = (V m c main_v12 : Vec Ideal S2048x128 .f32) (ix2 (placeOf t n) l) := by
    show V m c main_v12 (((cfg0.win 5).blk t).view.emb (ix2 n l)) = _
    blk_ext [at_slimcos t]
  refine e.trans ((congrFun (cos32_found m c) (ix2 (placeOf t n) l)).trans ((lanes32_at _ _ _ l).trans ?_))
  exact ite_self _
theorem slimsin_at (n : Fin 512) (l : Fin 128) : (iblk m c 6 t : Vec Ideal S512x128 .f32) (ix2 n l) =
    if l.val % 32 < 16 then -slimOf (placeOf t n) (aJ m c) (l.val % 16) else slimOf (placeOf t n) (aJ m c) (l.val % 16) := by
  have e : (iblk m c 6 t : Vec Ideal S512x128 .f32) (ix2 n l) = (V m c main_v17 : Vec Ideal S2048x128 .f32) (ix2 (placeOf t n) l) := by
    show V m c main_v17 (((cfg0.win 6).blk t).view.emb (ix2 n l)) = _
    blk_ext [at_slimsin t]
  exact e.trans ((congrFun (sin32_found m c) (ix2 (placeOf t n) l)).trans (lanes32_at _ _ _ l))

theorem row_eq (n : Fin 512) : rowAt (iblk m c 0 t) (iblk m c 1 t) n = rowOf (batchOf t) (placeOf t n) (aX m c) (aM m c) := by
  unfold rowAt rowOf
  rw [funext (x_at m c t n), funext (md_at m c t 0), funext (md_at m c t 1)]

/-! Every block of a result is some grid point's, and an index of a block is one of its rows' columns. -/

theorem reached (b0 b1 b2 : ℕ) (h0 : b0 < 8) (h1 : b1 < 4) (h2 : b2 < 1) : ∃ t : Fin cfg0.N, t.val / 4 = b0 ∧ t.val % 4 = b1 ∧ 0 = b2 :=
  ⟨⟨4 * b0 + b1, by show _ < 32; omega⟩, by dsimp only; omega, by dsimp only; omega, by omega⟩

theorem covers : ∀ i : Fin 12, (cfg0.win (Fin.natAdd 9 i : Fin 21)).Covers := by
  intro i
  fin_cases i <;>
  · refine Window.covers_of_index_surj _ rfl (by decide : ∀ a : Fin 3, _) fun β => ?_
    obtain ⟨t, e0, e1, e2⟩ := reached _ _ _ ((β (0 : Fin 3)).isLt.trans_eq rfl) ((β (1 : Fin 3)).isLt.trans_eq rfl) ((β (2 : Fin 3)).isLt.trans_eq rfl)
    refine ⟨t, fun a => (congrFun (at_x t) a).trans ?_⟩
    match a with
    | ⟨0, _⟩ => exact e0
    | ⟨1, _⟩ => exact e1
    | ⟨2, _⟩ => exact e2

theorem in_block (N : ℕ) (y : (⟨3, ![1, 512, N]⟩ : Shape).Idx) : ∃ (n : Fin 512) (j : Fin N), y = ix3 0 n j := by
  have h : y 0 = (0 : Fin 1) := Subsingleton.elim (α := Fin 1) _ _
  refine ⟨y 1, y 2, funext fun a => ?_⟩
  match a with
  | ⟨0, _⟩ => exact h
  | ⟨1, _⟩ => rfl
  | ⟨2, _⟩ => rfl

/-! A block that is a result's array at each of its rows' columns is the array's block; the windows of one width stand alike. -/

theorem same512 (G : S8x2048x512.Idx → EReal) (o : S1x512x512.Idx → EReal) (h : ∀ (n : Fin 512) (j : Fin 512), o (ix3 0 n j) = G (ix3 (batchOf t) (placeOf t n) j)) (y : S1x512x512.Idx) :
    o y = G (((cfg0.win 9).blk t).view.emb y) := by
  obtain ⟨n, j, hy⟩ := in_block 512 y
  have e : (((cfg0.win 9).blk t).view.emb (ix3 0 n j)) = (ix3 (batchOf t) (placeOf t n) j : S8x2048x512.Idx) := by
    blk_ext [show (cfg0.win 9).index t = _ from at_x t]
  rw [hy]
  exact (h n j).trans (congrArg G e).symm
theorem same256 (G : S8x2048x256.Idx → EReal) (o : S1x512x256.Idx → EReal) (h : ∀ (n : Fin 512) (j : Fin 256), o (ix3 0 n j) = G (ix3 (batchOf t) (placeOf t n) j)) (y : S1x512x256.Idx) :
    o y = G (((cfg0.win 12).blk t).view.emb y) := by
  obtain ⟨n, j, hy⟩ := in_block 256 y
  have e : (((cfg0.win 12).blk t).view.emb (ix3 0 n j)) = (ix3 (batchOf t) (placeOf t n) j : S8x2048x256.Idx) := by
    blk_ext [show (cfg0.win 12).index t = _ from at_x t]
  rw [hy]
  exact (h n j).trans (congrArg G e).symm
theorem same128 (G : S8x2048x128.Idx → EReal) (o : S1x512x128.Idx → EReal) (h : ∀ (n : Fin 512) (j : Fin 128), o (ix3 0 n j) = G (ix3 (batchOf t) (placeOf t n) j)) (y : S1x512x128.Idx) :
    o y = G (((cfg0.win 10).blk t).view.emb y) := by
  obtain ⟨n, j, hy⟩ := in_block 128 y
  have e : (((cfg0.win 10).blk t).view.emb (ix3 0 n j)) = (ix3 (batchOf t) (placeOf t n) j : S8x2048x128.Idx) := by
    blk_ext [show (cfg0.win 10).index t = _ from at_x t]
  rw [hy]
  exact (h n j).trans (congrArg G e).symm

/-! What the reference makes of the arguments, and each result at its end. -/

def qaOf : FVec Ideal S8x2048x512 .bf16 := queries (aX m c) (aM m c) (aW m c) (aC m c) (aS m c) 0 Cert.Reference4Ideal.Gen.slices_S8x2048x7080_S8x2048x512_0_0_0
def kaOf : FVec Ideal S8x2048x128 .bf16 := oneKey (aX m c) (aM m c) (aW m c) (aC m c) (aS m c)
def vaOf : FVec Ideal S8x2048x128 .bf16 := oneValue (aX m c) (aM m c) (aW m c)
def qiOf : FVec Ideal S8x2048x256 .bf16 := asks (aX m c) (aM m c) (aW m c) (aI m c) (aJ m c)
def kiOf : FVec Ideal S8x2048x128 .bf16 := marks (aX m c) (aM m c) (aW m c) (aI m c) (aJ m c) (aG m c) (aB m c)
def wiOf : FVec Ideal S8x2048x128 .f32 := weighs (aX m c) (aM m c) (aW m c)
def qbOf : FVec Ideal S8x2048x512 .bf16 := queries (aX m c) (aM m c) (aW m c) (aC m c) (aS m c) 936 Cert.Reference4Ideal.Gen.slices_S8x2048x7080_S8x2048x512_0_0_936
def kbOf : FVec Ideal S8x2048x512 .bf16 := keys (aX m c) (aM m c) (aW m c) (aC m c) (aS m c) 1448 Cert.Reference4Ideal.Gen.slices_S8x2048x7080_S8x2048x512_0_0_1448
def vbOf : FVec Ideal S8x2048x512 .bf16 := values (aX m c) (aM m c) (aW m c) 1960 Cert.Reference4Ideal.Gen.slices_S8x2048x7080_S8x2048x512_0_0_1960
def qcOf : FVec Ideal S8x2048x512 .bf16 := queries (aX m c) (aM m c) (aW m c) (aC m c) (aS m c) 2472 Cert.Reference4Ideal.Gen.slices_S8x2048x7080_S8x2048x512_0_0_2472
def kcOf : FVec Ideal S8x2048x512 .bf16 := keys (aX m c) (aM m c) (aW m c) (aC m c) (aS m c) 2984 Cert.Reference4Ideal.Gen.slices_S8x2048x7080_S8x2048x512_0_0_2984
def vcOf : FVec Ideal S8x2048x512 .bf16 := values (aX m c) (aM m c) (aW m c) 3496 Cert.Reference4Ideal.Gen.slices_S8x2048x7080_S8x2048x512_0_0_3496

theorem qa_block (n : Fin 512) (j : Fin 512) : out0_9 (iblk m c 0 t) (iblk m c 1 t) (iblk m c 2 t) (iblk m c 3 t) (iblk m c 4 t) (iblk m c 5 t) (iblk m c 6 t) (iblk m c 7 t) (iblk m c 8 t) (ix3 0 n j) =
    qaOf m c (ix3 (batchOf t) (placeOf t n) j) := by
  rw [w_eq]
  refine (qa_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (queries_at _ _ _ _ _ _ _ 0 _ (by decide) _).symm
theorem qa_end : (dats m 0 c).arrAt 9 cfg0.N = qaOf m c :=
  (dats m 0 c).arrAt_eq_of_covers 9 (qaOf m c) (covers 0) fun t _ y => (congrFun (after0_9 m c t) y).trans (same512 t (qaOf m c) _ (qa_block m c t) y)

theorem ka_block (n : Fin 512) (j : Fin 128) : out0_10 (iblk m c 0 t) (iblk m c 1 t) (iblk m c 2 t) (iblk m c 3 t) (iblk m c 4 t) (iblk m c 5 t) (iblk m c 6 t) (iblk m c 7 t) (iblk m c 8 t) (ix3 0 n j) =
    kaOf m c (ix3 (batchOf t) (placeOf t n) j) := by
  rw [w_eq]
  refine (ka_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (oneKey_at _ _ _ _ _ _ _ _).symm
theorem ka_end : (dats m 0 c).arrAt 10 cfg0.N = kaOf m c :=
  (dats m 0 c).arrAt_eq_of_covers 10 (kaOf m c) (covers 1) fun t _ y => (congrFun (after0_10 m c t) y).trans (same128 t (kaOf m c) _ (ka_block m c t) y)

theorem va_block (n : Fin 512) (j : Fin 128) : out0_11 (iblk m c 0 t) (iblk m c 1 t) (iblk m c 2 t) (iblk m c 3 t) (iblk m c 4 t) (iblk m c 5 t) (iblk m c 6 t) (iblk m c 7 t) (iblk m c 8 t) (ix3 0 n j) =
    vaOf m c (ix3 (batchOf t) (placeOf t n) j) := by
  rw [w_eq]
  refine (va_at (iblk m c 0 t) (iblk m c 1 t) (aW m c) (iblk m c 3 t) (iblk m c 4 t) (iblk m c 5 t) (iblk m c 6 t) (iblk m c 7 t) (iblk m c 8 t) n j).trans ?_
  rw [row_eq]
  exact (oneValue_at _ _ _ _ _ _).symm
theorem va_end : (dats m 0 c).arrAt 11 cfg0.N = vaOf m c :=
  (dats m 0 c).arrAt_eq_of_covers 11 (vaOf m c) (covers 2) fun t _ y => (congrFun (after0_11 m c t) y).trans (same128 t (vaOf m c) _ (va_block m c t) y)

theorem qi_block (n : Fin 512) (j : Fin 256) : out0_12 (iblk m c 0 t) (iblk m c 1 t) (iblk m c 2 t) (iblk m c 3 t) (iblk m c 4 t) (iblk m c 5 t) (iblk m c 6 t) (iblk m c 7 t) (iblk m c 8 t) (ix3 0 n j) =
    qiOf m c (ix3 (batchOf t) (placeOf t n) j) := by
  rw [w_eq]
  refine (qi_at (iblk m c 0 t) (iblk m c 1 t) (aW m c) (iblk m c 3 t) (iblk m c 4 t) (iblk m c 5 t) (iblk m c 6 t) (iblk m c 7 t) (iblk m c 8 t) _ _ (slimcos_at m c t) (slimsin_at m c t) n j).trans ?_
  rw [row_eq]
  exact (asks_at _ _ _ _ _ _ _ _).symm
theorem qi_end : (dats m 0 c).arrAt 12 cfg0.N = qiOf m c :=
  (dats m 0 c).arrAt_eq_of_covers 12 (qiOf m c) (covers 3) fun t _ y => (congrFun (after0_12 m c t) y).trans (same256 t (qiOf m c) _ (qi_block m c t) y)

theorem ki_block (n : Fin 512) (j : Fin 128) : out0_13 (iblk m c 0 t) (iblk m c 1 t) (iblk m c 2 t) (iblk m c 3 t) (iblk m c 4 t) (iblk m c 5 t) (iblk m c 6 t) (iblk m c 7 t) (iblk m c 8 t) (ix3 0 n j) =
    kiOf m c (ix3 (batchOf t) (placeOf t n) j) := by
  rw [w_eq]
  refine (ki_at (iblk m c 0 t) (iblk m c 1 t) (aW m c) (iblk m c 3 t) (iblk m c 4 t) (iblk m c 5 t) (iblk m c 6 t) (iblk m c 7 t) (iblk m c 8 t) _ _ (slimcos_at m c t) (slimsin_at m c t) n j).trans ?_
  rw [row_eq]
  rw [funext fun k : Fin 32 => g_at m c t ⟨k.val, by omega⟩, funext fun k : Fin 32 => b_at m c t ⟨k.val, by omega⟩]
  exact (marks_at _ _ _ _ _ _ _ _ _ _).symm
theorem ki_end : (dats m 0 c).arrAt 13 cfg0.N = kiOf m c :=
  (dats m 0 c).arrAt_eq_of_covers 13 (kiOf m c) (covers 4) fun t _ y => (congrFun (after0_13 m c t) y).trans (same128 t (kiOf m c) _ (ki_block m c t) y)

theorem wi_block (n : Fin 512) (j : Fin 128) : out0_14 (iblk m c 0 t) (iblk m c 1 t) (iblk m c 2 t) (iblk m c 3 t) (iblk m c 4 t) (iblk m c 5 t) (iblk m c 6 t) (iblk m c 7 t) (iblk m c 8 t) (ix3 0 n j) =
    wiOf m c (ix3 (batchOf t) (placeOf t n) j) := by
  rw [w_eq]
  refine (wi_at (iblk m c 0 t) (iblk m c 1 t) (aW m c) (iblk m c 3 t) (iblk m c 4 t) (iblk m c 5 t) (iblk m c 6 t) (iblk m c 7 t) (iblk m c 8 t) n j).trans ?_
  rw [row_eq]
  exact (weighs_at _ _ _ _ _ _).symm
theorem wi_end : (dats m 0 c).arrAt 14 cfg0.N = wiOf m c :=
  (dats m 0 c).arrAt_eq_of_covers 14 (wiOf m c) (covers 5) fun t _ y => (congrFun (after0_14 m c t) y).trans (same128 t (wiOf m c) _ (wi_block m c t) y)

theorem qb_block (n : Fin 512) (j : Fin 512) : out0_15 (iblk m c 0 t) (iblk m c 1 t) (iblk m c 2 t) (iblk m c 3 t) (iblk m c 4 t) (iblk m c 5 t) (iblk m c 6 t) (iblk m c 7 t) (iblk m c 8 t) (ix3 0 n j) =
    qbOf m c (ix3 (batchOf t) (placeOf t n) j) := by
  rw [w_eq]
  refine (qb_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (queries_at _ _ _ _ _ _ _ 936 _ (by decide) _).symm
theorem qb_end : (dats m 0 c).arrAt 15 cfg0.N = qbOf m c :=
  (dats m 0 c).arrAt_eq_of_covers 15 (qbOf m c) (covers 6) fun t _ y => (congrFun (after0_15 m c t) y).trans (same512 t (qbOf m c) _ (qb_block m c t) y)

theorem kb_block (n : Fin 512) (j : Fin 512) : out0_16 (iblk m c 0 t) (iblk m c 1 t) (iblk m c 2 t) (iblk m c 3 t) (iblk m c 4 t) (iblk m c 5 t) (iblk m c 6 t) (iblk m c 7 t) (iblk m c 8 t) (ix3 0 n j) =
    kbOf m c (ix3 (batchOf t) (placeOf t n) j) := by
  rw [w_eq]
  refine (kb_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (keys_at _ _ _ _ _ _ _ 1448 _ (by decide) _).symm
theorem kb_end : (dats m 0 c).arrAt 16 cfg0.N = kbOf m c :=
  (dats m 0 c).arrAt_eq_of_covers 16 (kbOf m c) (covers 7) fun t _ y => (congrFun (after0_16 m c t) y).trans (same512 t (kbOf m c) _ (kb_block m c t) y)

theorem vb_block (n : Fin 512) (j : Fin 512) : out0_17 (iblk m c 0 t) (iblk m c 1 t) (iblk m c 2 t) (iblk m c 3 t) (iblk m c 4 t) (iblk m c 5 t) (iblk m c 6 t) (iblk m c 7 t) (iblk m c 8 t) (ix3 0 n j) =
    vbOf m c (ix3 (batchOf t) (placeOf t n) j) := by
  rw [w_eq]
  refine (vb_at (iblk m c 0 t) (iblk m c 1 t) (aW m c) (iblk m c 3 t) (iblk m c 4 t) (iblk m c 5 t) (iblk m c 6 t) (iblk m c 7 t) (iblk m c 8 t) n j).trans ?_
  rw [row_eq]
  exact (values_at _ _ _ _ _ 1960 _ (by decide) _).symm
theorem vb_end : (dats m 0 c).arrAt 17 cfg0.N = vbOf m c :=
  (dats m 0 c).arrAt_eq_of_covers 17 (vbOf m c) (covers 8) fun t _ y => (congrFun (after0_17 m c t) y).trans (same512 t (vbOf m c) _ (vb_block m c t) y)

theorem qc_block (n : Fin 512) (j : Fin 512) : out0_18 (iblk m c 0 t) (iblk m c 1 t) (iblk m c 2 t) (iblk m c 3 t) (iblk m c 4 t) (iblk m c 5 t) (iblk m c 6 t) (iblk m c 7 t) (iblk m c 8 t) (ix3 0 n j) =
    qcOf m c (ix3 (batchOf t) (placeOf t n) j) := by
  rw [w_eq]
  refine (qc_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (queries_at _ _ _ _ _ _ _ 2472 _ (by decide) _).symm
theorem qc_end : (dats m 0 c).arrAt 18 cfg0.N = qcOf m c :=
  (dats m 0 c).arrAt_eq_of_covers 18 (qcOf m c) (covers 9) fun t _ y => (congrFun (after0_18 m c t) y).trans (same512 t (qcOf m c) _ (qc_block m c t) y)

theorem kc_block (n : Fin 512) (j : Fin 512) : out0_19 (iblk m c 0 t) (iblk m c 1 t) (iblk m c 2 t) (iblk m c 3 t) (iblk m c 4 t) (iblk m c 5 t) (iblk m c 6 t) (iblk m c 7 t) (iblk m c 8 t) (ix3 0 n j) =
    kcOf m c (ix3 (batchOf t) (placeOf t n) j) := by
  rw [w_eq]
  refine (kc_at (iblk m c 0 t) (iblk m c 1 t) (aW m c) (iblk m c 3 t) (iblk m c 4 t) (iblk m c 5 t) (iblk m c 6 t) (iblk m c 7 t) (iblk m c 8 t) _ _ (cos_at m c t) (sin_at m c t) n j).trans ?_
  rw [row_eq]
  exact (keys_at _ _ _ _ _ _ _ 2984 _ (by decide) _).symm
theorem kc_end : (dats m 0 c).arrAt 19 cfg0.N = kcOf m c :=
  (dats m 0 c).arrAt_eq_of_covers 19 (kcOf m c) (covers 10) fun t _ y => (congrFun (after0_19 m c t) y).trans (same512 t (kcOf m c) _ (kc_block m c t) y)

theorem vc_block (n : Fin 512) (j : Fin 512) : out0_20 (iblk m c 0 t) (iblk m c 1 t) (iblk m c 2 t) (iblk m c 3 t) (iblk m c 4 t) (iblk m c 5 t) (iblk m c 6 t) (iblk m c 7 t) (iblk m c 8 t) (ix3 0 n j) =
    vcOf m c (ix3 (batchOf t) (placeOf t n) j) := by
  rw [w_eq]
  refine (vc_at (iblk m c 0 t) (iblk m c 1 t) (aW m c) (iblk m c 3 t) (iblk m c 4 t) (iblk m c 5 t) (iblk m c 6 t) (iblk m c 7 t) (iblk m c 8 t) n j).trans ?_
  rw [row_eq]
  exact (values_at _ _ _ _ _ 3496 _ (by decide) _).symm
theorem vc_end : (dats m 0 c).arrAt 20 cfg0.N = vcOf m c :=
  (dats m 0 c).arrAt_eq_of_covers 20 (vcOf m c) (covers 11) fun t _ y => (congrFun (after0_20 m c t) y).trans (same512 t (vcOf m c) _ (vc_block m c t) y)

set_option maxHeartbeats 2000000 in
theorem algebraic : Cert.algebraic_Kernel4Ideal_Reference4Ideal (hKernel4Ideal := Cert.Kernel4Ideal.Gen.facts) (hReference4Ideal := Cert.Reference4Ideal.Gen.facts) := by
  intro m g m' g' _ hagree
  refine ⟨qaOf m, kaOf m, vaOf m, qiOf m, kiOf m, wiOf m, qbOf m, kbOf m, vbOf m, qcOf m, kcOf m, vcOf m, ?_, ?_⟩
  · refine (θ_run _ _ _).mono (fun r h c => ?_) (Cert.Kernel4Ideal.Value.run_blocks m g)
    obtain ⟨h0, h1, h2, h3, h4, h5, h6, h7, h8, h9, h10, h11, hk⟩ := h c
    exact ⟨h0.trans (qa_end m c), h1.trans (ka_end m c), h2.trans (va_end m c), h3.trans (qi_end m c), h4.trans (ki_end m c), h5.trans (wi_end m c), h6.trans (qb_end m c), h7.trans (kb_end m c), h8.trans (vb_end m c), h9.trans (qc_end m c), h10.trans (kc_end m c), h11.trans (vc_end m c), hk⟩
  · refine (θ_run _ _ _).mono (fun r h c => ?_) (Cert.Reference4Ideal.Value.run m' g')
    obtain ⟨h0, h1, h2, h3, h4, h5, h6, h7, h8, h9, h10, h11, hk⟩ := h c
    obtain ⟨e0, e1, e2, e3, e4, e5, e6, e7, e8⟩ := hagree c
    unfold qaOf kaOf vaOf qiOf kiOf wiOf qbOf kbOf vbOf qcOf kcOf vcOf
    unfold aX aM aW aC aS aI aJ aG aB given
    rw [← e0, ← e1, ← e2, ← e3, ← e4, ← e5, ← e6, ← e7, ← e8]
    exact ⟨h0.trans rfl, h1.trans rfl, h2.trans rfl, h3.trans rfl, h4.trans rfl, h5.trans rfl, h6.trans rfl, h7.trans rfl, h8.trans rfl, h9.trans rfl, h10.trans rfl, h11.trans rfl, hk⟩

end Cert.Proj
-- ==== Proof.lean ====
/-
The proof of everything that is claimed: the programs run, the ideal kernel is the kernel, and the kernel and the
reference compute the same arrays over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_counted
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Kept
public import proofs.«01_k».proof.Proof.Value
public import proofs.«01_k».proof.Proof.MergeValue
public import proofs.«01_k».proof.Proof.ModValue
public import proofs.«01_k».proof.Proof.ProjValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_counted.Gen.facts,
  Cert.Moe.kernel_kept, Cert.Moe.kernelIdeal_kept, Cert.Moe.kernelIdeal_kept_counted, Cert.Moe.reference_kept,
  Cert.Moe.reference_kept_counted, Cert.Merge.kernel_kept, Cert.Merge.kernelIdeal_kept, Cert.Merge.reference_kept,
  Cert.Mods.kernel_kept, Cert.Mods.kernelIdeal_kept, Cert.Mods.reference_kept,
  Cert.Proj.kernel_kept, Cert.Proj.kernelIdeal_kept, Cert.Proj.reference_kept,
  trivial, Cert.Moe.algebraic, trivial, Cert.Merge.algebraic, trivial, Cert.Mods.algebraic, trivial, Cert.Proj.algebraic⟩

end Cert.Proof

end
